-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_fox [hPre_finite_fox : Cert.Pre_finite_fox.Facts] (m : (ℓ : Loc Cert.FoxIdeal.nD Cert.FoxIdeal.τ Cert.FoxIdeal.sig) → Buf (Elt Ideal) ℓ) : Prop :=
  ∀ c : Dev Cert.FoxIdeal.nD,
    (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_fox [hPre_finite_fox : Cert.Pre_finite_fox.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))) = (fun _ => 1#1)

def Pre_MoeIdeal (m : (ℓ : Loc Cert.MoeIdeal.nD Cert.MoeIdeal.τ Cert.MoeIdeal.sig) → Buf (Elt Ideal) ℓ) : Prop :=
  True

def Pre_MoeIdeal_routed [hPre_routed : Cert.Pre_routed.Facts] (m : (ℓ : Loc Cert.MoeIdeal.nD Cert.MoeIdeal.τ Cert.MoeIdeal.sig) → Buf (Elt Ideal) ℓ) : Prop :=
  ∀ c : Dev Cert.MoeIdeal.nD,
    (Cert.Pre_routed.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_routed [hPre_routed : Cert.Pre_routed.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_routed.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_finite_fox [hFoxIdeal : Cert.FoxIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_fox m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_finite_fox [hFoxRefIdeal : Cert.FoxRefIdeal.Facts] [hPre_finite_fox : Cert.Pre_finite_fox.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_fox m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeIdeal_pre_routed [hMoeIdeal : Cert.MoeIdeal.Facts] [hPre_routed : Cert.Pre_routed.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_routed m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_routed [hMoeRefIdeal : Cert.MoeRefIdeal.Facts] [hPre_routed : Cert.Pre_routed.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_routed m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v0_0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v43) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Fox_FoxIdeal : Prop :=
  IdealRules.named_const.Statement Cert.FoxIdeal.κ "log2e" .f32 0x3FB8AA3B#32 (((Real.log 2)⁻¹ : ℝ) : EReal)

def algebraic_FoxIdeal_FoxRefIdeal_pre_finite_fox [hFoxIdeal : Cert.FoxIdeal.Facts] [hFoxRefIdeal : Cert.FoxRefIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_fox m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v48) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def algebraic_MoeIdeal_MoeRefIdeal_pre_routed [hMoeIdeal : Cert.MoeIdeal.Facts] [hMoeRefIdeal : Cert.MoeRefIdeal.Facts] [hPre_routed : Cert.Pre_routed.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_routed m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v16)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v16) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v28) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hFox : Cert.Fox.Facts) (hFoxIdeal : Cert.FoxIdeal.Facts) (hFoxRefIdeal : Cert.FoxRefIdeal.Facts) (hMoeIdeal : Cert.MoeIdeal.Facts) (hMoeRefIdeal : Cert.MoeRefIdeal.Facts) (hPre_finite_qk : Cert.Pre_finite_qk.Facts) (hPre_finite_fox : Cert.Pre_finite_fox.Facts) (hPre_routed : Cert.Pre_routed.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Merge (hMerge := hMerge)
    ∧ quiescent_MergeIdeal (hMergeIdeal := hMergeIdeal)
    ∧ quiescent_MergeRefIdeal (hMergeRefIdeal := hMergeRefIdeal)
    ∧ quiescent_Fox (hFox := hFox)
    ∧ quiescent_FoxIdeal (hFoxIdeal := hFoxIdeal)
    ∧ quiescent_FoxIdeal_pre_finite_fox (hFoxIdeal := hFoxIdeal) (hPre_finite_fox := hPre_finite_fox)
    ∧ quiescent_FoxRefIdeal (hFoxRefIdeal := hFoxRefIdeal)
    ∧ quiescent_FoxRefIdeal_pre_finite_fox (hFoxRefIdeal := hFoxRefIdeal) (hPre_finite_fox := hPre_finite_fox)
    ∧ quiescent_MoeIdeal (hMoeIdeal := hMoeIdeal)
    ∧ quiescent_MoeIdeal_pre_routed (hMoeIdeal := hMoeIdeal) (hPre_routed := hPre_routed)
    ∧ quiescent_MoeRefIdeal (hMoeRefIdeal := hMoeRefIdeal)
    ∧ quiescent_MoeRefIdeal_pre_routed (hMoeRefIdeal := hMoeRefIdeal) (hPre_routed := hPre_routed)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Merge_MergeIdeal
    ∧ algebraic_MergeIdeal_MergeRefIdeal (hMergeIdeal := hMergeIdeal) (hMergeRefIdeal := hMergeRefIdeal)
    ∧ preserves_Fox_FoxIdeal
    ∧ algebraic_FoxIdeal_FoxRefIdeal_pre_finite_fox (hFoxIdeal := hFoxIdeal) (hFoxRefIdeal := hFoxRefIdeal) (hPre_finite_fox := hPre_finite_fox)
    ∧ algebraic_MoeIdeal_MoeRefIdeal_pre_routed (hMoeIdeal := hMoeIdeal) (hMoeRefIdeal := hMoeRefIdeal) (hPre_routed := hPre_routed)
-- ==== Pre_finite_fox.lean ====
abbrev S4x16x2048x128 : Shape := ⟨4, ![4, 16, 2048, 128]⟩
abbrev S16x32768 : Shape := ⟨2, ![16, 32768]⟩
abbrev S32768x128 : Shape := ⟨2, ![32768, 128]⟩
abbrev S_ : Shape := ⟨0, ![]⟩
abbrev S8x32768 : Shape := ⟨2, ![8, 32768]⟩
abbrev S32768x8 : Shape := ⟨2, ![32768, 8]⟩

class Facts : Prop where
  bitsLt_bf16_f32 : FTy.bits .bf16 < FTy.bits .f32
  bcast_S_S4x16x2048x128 : S_.BroadcastsInDim S4x16x2048x128 (![] : Fin 0 → Fin S4x16x2048x128.rank)
  reducesTo_S4x16x2048x128_S_d0_1_2_3 : S4x16x2048x128.ReducesTo [0, 1, 2, 3] S_
  h_S_ : 0 < S_.numel
  slices_S16x32768_S8x32768_0_0 : S16x32768.Slices ![0, 0] S8x32768
  bcast_S_S8x32768 : S_.BroadcastsInDim S8x32768 (![] : Fin 0 → Fin S8x32768.rank)
  reducesTo_S8x32768_S_d0_1 : S8x32768.ReducesTo [0, 1] S_
  slices_S32768x128_S32768x8_0_0 : S32768x128.Slices ![0, 0] S32768x8
  bcast_S_S32768x8 : S_.BroadcastsInDim S32768x8 (![] : Fin 0 → Fin S32768x8.rank)
  reducesTo_S32768x8_S_d0_1 : S32768x8.ReducesTo [0, 1] S_

variable [Facts]

def fn_part1 {F : FTy → Type} [FloatOps F] (main_v10 : IVec S_ 1) (main_v15 : IVec S_ 1) (main_v17 : FVec F S32768x8 .f32) : IVec S_ 1 :=
  let main_cst_4 : FVec F S_ .f32 := constant S_ .f32 0x7F800000#32
  let main_v18 : FVec F S32768x8 .f32 := broadcastInDim S32768x8 ![] bcast_S_S32768x8 main_cst_4
  let main_v19 : IVec S32768x8 1 := cmpf .olt main_v17 main_v18
  let main_c_5 : IVec S_ 1 := constantI S_ 1 1#1
  let main_v20 : IVec S_ 1 := (fun x v => Host.reduce IntOp.andi x v reducesTo_S32768x8_S_d0_1 h_S_) main_v19 main_c_5
  let main_v21 : IVec S_ 1 := andi main_v15 main_v20
  let main_v22 : IVec S_ 1 := andi main_v10 main_v21
  main_v22

def fn {F : FTy → Type} [FloatOps F] (main_arg0 : FVec F S4x16x2048x128 .bf16) (main_arg1 : FVec F S4x16x2048x128 .bf16) (main_arg2 : FVec F S4x16x2048x128 .bf16) (main_arg3 : FVec F S16x32768 .f32) (main_arg4 : FVec F S32768x128 .f32) : IVec S_ 1 :=
  let main_v0 : FVec F S4x16x2048x128 .f32 := (extf .f32 · bitsLt_bf16_f32) main_arg0
  let main_v1 : FVec F S4x16x2048x128 .f32 := Host.absf main_v0
  let main_cst : FVec F S_ .f32 := constant S_ .f32 0x7F800000#32
  let main_v2 : FVec F S4x16x2048x128 .f32 := broadcastInDim S4x16x2048x128 ![] bcast_S_S4x16x2048x128 main_cst
  let main_v3 : IVec S4x16x2048x128 1 := cmpf .olt main_v1 main_v2
  let main_c : IVec S_ 1 := constantI S_ 1 1#1
  let main_v4 : IVec S_ 1 := (fun x v => Host.reduce IntOp.andi x v reducesTo_S4x16x2048x128_S_d0_1_2_3 h_S_) main_v3 main_c
  let main_v5 : FVec F S4x16x2048x128 .f32 := (extf .f32 · bitsLt_bf16_f32) main_arg1
  let main_v6 : FVec F S4x16x2048x128 .f32 := Host.absf main_v5
  let main_cst_0 : FVec F S_ .f32 := constant S_ .f32 0x7F800000#32
  let main_v7 : FVec F S4x16x2048x128 .f32 := broadcastInDim S4x16x2048x128 ![] bcast_S_S4x16x2048x128 main_cst_0
  let main_v8 : IVec S4x16x2048x128 1 := cmpf .olt main_v6 main_v7
  let main_c_1 : IVec S_ 1 := constantI S_ 1 1#1
  let main_v9 : IVec S_ 1 := (fun x v => Host.reduce IntOp.andi x v reducesTo_S4x16x2048x128_S_d0_1_2_3 h_S_) main_v8 main_c_1
  let main_v10 : IVec S_ 1 := andi main_v4 main_v9
  let main_v11 : FVec F S8x32768 .f32 := (extractStridedSlice S8x32768 ![0, 0] · slices_S16x32768_S8x32768_0_0) main_arg3
  let main_v12 : FVec F S8x32768 .f32 := Host.absf main_v11
  let main_cst_2 : FVec F S_ .f32 := constant S_ .f32 0x7F800000#32
  let main_v13 : FVec F S8x32768 .f32 := broadcastInDim S8x32768 ![] bcast_S_S8x32768 main_cst_2
  let main_v14 : IVec S8x32768 1 := cmpf .olt main_v12 main_v13
  let main_c_3 : IVec S_ 1 := constantI S_ 1 1#1
  let main_v15 : IVec S_ 1 := (fun x v => Host.reduce IntOp.andi x v reducesTo_S8x32768_S_d0_1 h_S_) main_v14 main_c_3
  let main_v16 : FVec F S32768x8 .f32 := (extractStridedSlice S32768x8 ![0, 0] · slices_S32768x128_S32768x8_0_0) main_arg4
  let main_v17 : FVec F S32768x8 .f32 := Host.absf main_v16
  fn_part1 (F := F) main_v10 main_v15 main_v17
-- ==== Pre_finite_qk.lean ====
abbrev S4x16x2048x256 : Shape := ⟨4, ![4, 16, 2048, 256]⟩
abbrev S4x16x2048x128 : Shape := ⟨4, ![4, 16, 2048, 128]⟩
abbrev S_ : Shape := ⟨0, ![]⟩

class Facts : Prop where
  bitsLt_bf16_f32 : FTy.bits .bf16 < FTy.bits .f32
  bcast_S_S4x16x2048x256 : S_.BroadcastsInDim S4x16x2048x256 (![] : Fin 0 → Fin S4x16x2048x256.rank)
  reducesTo_S4x16x2048x256_S_d0_1_2_3 : S4x16x2048x256.ReducesTo [0, 1, 2, 3] S_
  h_S_ : 0 < S_.numel

variable [Facts]

def fn {F : FTy → Type} [FloatOps F] (main_arg0 : FVec F S4x16x2048x256 .bf16) (main_arg1 : FVec F S4x16x2048x256 .bf16) (main_arg2 : FVec F S4x16x2048x128 .bf16) : IVec S_ 1 :=
  let main_v0 : FVec F S4x16x2048x256 .f32 := (extf .f32 · bitsLt_bf16_f32) main_arg0
  let main_v1 : FVec F S4x16x2048x256 .f32 := Host.absf main_v0
  let main_cst : FVec F S_ .f32 := constant S_ .f32 0x7F800000#32
  let main_v2 : FVec F S4x16x2048x256 .f32 := broadcastInDim S4x16x2048x256 ![] bcast_S_S4x16x2048x256 main_cst
  let main_v3 : IVec S4x16x2048x256 1 := cmpf .olt main_v1 main_v2
  let main_c : IVec S_ 1 := constantI S_ 1 1#1
  let main_v4 : IVec S_ 1 := (fun x v => Host.reduce IntOp.andi x v reducesTo_S4x16x2048x256_S_d0_1_2_3 h_S_) main_v3 main_c
  let main_v5 : FVec F S4x16x2048x256 .f32 := (extf .f32 · bitsLt_bf16_f32) main_arg1
  let main_v6 : FVec F S4x16x2048x256 .f32 := Host.absf main_v5
  let main_cst_0 : FVec F S_ .f32 := constant S_ .f32 0x7F800000#32
  let main_v7 : FVec F S4x16x2048x256 .f32 := broadcastInDim S4x16x2048x256 ![] bcast_S_S4x16x2048x256 main_cst_0
  let main_v8 : IVec S4x16x2048x256 1 := cmpf .olt main_v6 main_v7
  let main_c_1 : IVec S_ 1 := constantI S_ 1 1#1
  let main_v9 : IVec S_ 1 := (fun x v => Host.reduce IntOp.andi x v reducesTo_S4x16x2048x256_S_d0_1_2_3 h_S_) main_v8 main_c_1
  let main_v10 : IVec S_ 1 := andi main_v4 main_v9
  main_v10
-- ==== Pre_routed.lean ====
abbrev S32768x1024 : Shape := ⟨2, ![32768, 1024]⟩
abbrev S32768x128 : Shape := ⟨2, ![32768, 128]⟩
abbrev S1x1024 : Shape := ⟨2, ![1, 1024]⟩
abbrev S16x1024x256 : Shape := ⟨3, ![16, 1024, 256]⟩
abbrev S16x256x1024 : Shape := ⟨3, ![16, 256, 1024]⟩
abbrev S32768x16 : Shape := ⟨2, ![32768, 16]⟩
abbrev S32768x1 : Shape := ⟨2, ![32768, 1]⟩
abbrev S16 : Shape := ⟨1, ![16]⟩
abbrev S_ : Shape := ⟨0, ![]⟩
abbrev S1x16 : Shape := ⟨2, ![1, 16]⟩

class Facts : Prop where
  slices_S32768x128_S32768x16_0_0 : S32768x128.Slices ![0, 0] S32768x16
  slices_S32768x128_S32768x1_0_16 : S32768x128.Slices ![0, 16] S32768x1
  bcast_S_S16 : S_.BroadcastsInDim S16 (![] : Fin 0 → Fin S16.rank)
  bcast_S16_S1x16_1 : S16.BroadcastsInDim S1x16 (![1] : Fin 1 → Fin S1x16.rank)
  bcast_S_S32768x1 : S_.BroadcastsInDim S32768x1 (![] : Fin 0 → Fin S32768x1.rank)
  reducesTo_S32768x1_S_d0_1 : S32768x1.ReducesTo [0, 1] S_
  h_S_ : 0 < S_.numel
  bcast_S_S32768x16 : S_.BroadcastsInDim S32768x16 (![] : Fin 0 → Fin S32768x16.rank)
  reducesTo_S32768x16_S_d0_1 : S32768x16.ReducesTo [0, 1] S_
  bcast_S1x16_S32768x16_0_1 : S1x16.BroadcastsInDim S32768x16 (![0, 1] : Fin 2 → Fin S32768x16.rank)
  bcast_S32768x1_S32768x16_0_1 : S32768x1.BroadcastsInDim S32768x16 (![0, 1] : Fin 2 → Fin S32768x16.rank)

variable [Facts]

def fn_where {F : FTy → Type} [FloatOps F] (arg0 : IVec S16 1) (arg1 : IVec S16 32) (arg2 : IVec S16 32) : IVec S16 32 :=
  let v0 : IVec S16 32 := select arg0 arg1 arg2
  v0

def fn_floor_divide {F : FTy → Type} [FloatOps F] (arg0 : IVec S16 32) (arg1 : IVec S_ 32) : IVec S16 32 :=
  let v0 : IVec S_ 32 := id arg1
  let v1 : IVec S16 32 := broadcastInDim S16 ![] bcast_S_S16 v0
  let v2 : IVec S16 32 := Host.divsi arg0 v1
  let v3 : IVec S16 32 := signi arg0
  let v4 : IVec S_ 32 := signi v0
  let v5 : IVec S16 32 := broadcastInDim S16 ![] bcast_S_S16 v4
  let v6 : IVec S16 1 := cmpi .ne v3 v5
  let v7 : IVec S16 32 := broadcastInDim S16 ![] bcast_S_S16 v0
  let v8 : IVec S16 32 := Host.remsi arg0 v7
  let c : IVec S_ 32 := constantI S_ 32 0#32
  let v9 : IVec S16 32 := broadcastInDim S16 ![] bcast_S_S16 c
  let v10 : IVec S16 1 := cmpi .ne v8 v9
  let v11 : IVec S16 1 := andi v6 v10
  let c_0 : IVec S_ 32 := constantI S_ 32 1#32
  let v12 : IVec S16 32 := broadcastInDim S16 ![] bcast_S_S16 c_0
  let v13 : IVec S16 32 := subi v2 v12
  let v14 : IVec S16 32 := fn_where (F := F) v11 v13 v2
  v14

def fn_part1 {F : FTy → Type} [FloatOps F] (main_v0 : FVec F S32768x16 .f32) (main_v1 : FVec F S32768x1 .f32) (main_v5 : FVec F S1x16 .f32) (main_v17 : IVec S_ 1) : IVec S_ 1 :=
  let main_cst_4 : FVec F S_ .f32 := constant S_ .f32 0x00000000#32
  let main_v18 : FVec F S32768x16 .f32 := broadcastInDim S32768x16 ![] bcast_S_S32768x16 main_cst_4
  let main_v19 : IVec S32768x16 1 := cmpf .oge main_v0 main_v18
  let main_cst_5 : FVec F S_ .f32 := constant S_ .f32 0x7F800000#32
  let main_v20 : FVec F S32768x16 .f32 := broadcastInDim S32768x16 ![] bcast_S_S32768x16 main_cst_5
  let main_v21 : IVec S32768x16 1 := cmpf .olt main_v0 main_v20
  let main_v22 : IVec S32768x16 1 := andi main_v19 main_v21
  let main_c_6 : IVec S_ 1 := constantI S_ 1 1#1
  let main_v23 : IVec S_ 1 := (fun x v => Host.reduce IntOp.andi x v reducesTo_S32768x16_S_d0_1 h_S_) main_v22 main_c_6
  let main_v24 : IVec S_ 1 := andi main_v17 main_v23
  let main_cst_7 : FVec F S_ .f32 := constant S_ .f32 0x00000000#32
  let main_v25 : FVec F S32768x16 .f32 := broadcastInDim S32768x16 ![] bcast_S_S32768x16 main_cst_7
  let main_v26 : IVec S32768x16 1 := cmpf .oeq main_v0 main_v25
  let main_v27 : FVec F S32768x16 .f32 := broadcastInDim S32768x16 ![0, 1] bcast_S1x16_S32768x16_0_1 main_v5
  let main_v28 : FVec F S32768x16 .f32 := broadcastInDim S32768x16 ![0, 1] bcast_S32768x1_S32768x16_0_1 main_v1
  let main_v29 : IVec S32768x16 1 := cmpf .oeq main_v27 main_v28
  let main_v30 : IVec S32768x16 1 := ori main_v26 main_v29
  let main_c_8 : IVec S_ 1 := constantI S_ 1 1#1
  let main_v31 : IVec S_ 1 := (fun x v => Host.reduce IntOp.andi x v reducesTo_S32768x16_S_d0_1 h_S_) main_v30 main_c_8
  let main_v32 : IVec S_ 1 := andi main_v24 main_v31
  main_v32

def fn {F : FTy → Type} [FloatOps F] (main_arg0 : FVec F S32768x1024 .f32) (main_arg1 : FVec F S32768x128 .f32) (main_arg2 : FVec F S1x1024 .f32) (main_arg3 : FVec F S16x1024x256 .bf16) (main_arg4 : FVec F S16x1024x256 .bf16) (main_arg5 : FVec F S16x256x1024 .bf16) : IVec S_ 1 :=
  let main_v0 : FVec F S32768x16 .f32 := (extractStridedSlice S32768x16 ![0, 0] · slices_S32768x128_S32768x16_0_0) main_arg1
  let main_v1 : FVec F S32768x1 .f32 := (extractStridedSlice S32768x1 ![0, 16] · slices_S32768x128_S32768x1_0_16) main_arg1
  let main_v2 : IVec S16 32 := iotaInDim S16 32 0
  let main_c : IVec S_ 32 := constantI S_ 32 4#32
  let main_v3 : IVec S16 32 := fn_floor_divide (F := F) main_v2 main_c
  let main_v4 : FVec F S16 .f32 := sitofp .f32 main_v3
  let main_v5 : FVec F S1x16 .f32 := broadcastInDim S1x16 ![1] bcast_S16_S1x16_1 main_v4
  let main_cst : FVec F S_ .f32 := constant S_ .f32 0x00000000#32
  let main_v6 : FVec F S32768x1 .f32 := broadcastInDim S32768x1 ![] bcast_S_S32768x1 main_cst
  let main_v7 : IVec S32768x1 1 := cmpf .oeq main_v1 main_v6
  let main_cst_0 : FVec F S_ .f32 := constant S_ .f32 0x3F800000#32
  let main_v8 : FVec F S32768x1 .f32 := broadcastInDim S32768x1 ![] bcast_S_S32768x1 main_cst_0
  let main_v9 : IVec S32768x1 1 := cmpf .oeq main_v1 main_v8
  let main_v10 : IVec S32768x1 1 := ori main_v7 main_v9
  let main_cst_1 : FVec F S_ .f32 := constant S_ .f32 0x40000000#32
  let main_v11 : FVec F S32768x1 .f32 := broadcastInDim S32768x1 ![] bcast_S_S32768x1 main_cst_1
  let main_v12 : IVec S32768x1 1 := cmpf .oeq main_v1 main_v11
  let main_v13 : IVec S32768x1 1 := ori main_v10 main_v12
  let main_cst_2 : FVec F S_ .f32 := constant S_ .f32 0x40400000#32
  let main_v14 : FVec F S32768x1 .f32 := broadcastInDim S32768x1 ![] bcast_S_S32768x1 main_cst_2
  let main_v15 : IVec S32768x1 1 := cmpf .oeq main_v1 main_v14
  let main_v16 : IVec S32768x1 1 := ori main_v13 main_v15
  let main_c_3 : IVec S_ 1 := constantI S_ 1 1#1
  let main_v17 : IVec S_ 1 := (fun x v => Host.reduce IntOp.andi x v reducesTo_S32768x1_S_d0_1 h_S_) main_v16 main_c_3
  fn_part1 (F := F) main_v0 main_v1 main_v5 main_v17
-- ==== Kernel.lean ====
abbrev S4x16x2048x256 : Shape := ⟨4, ![4, 16, 2048, 256]⟩
abbrev S4x16x2048x128 : Shape := ⟨4, ![4, 16, 2048, 128]⟩
abbrev S1x1x2048x256 : Shape := ⟨4, ![1, 1, 2048, 256]⟩
abbrev S1x1x2048x128 : Shape := ⟨4, ![1, 1, 2048, 128]⟩
abbrev S2x512x2048 : Shape := ⟨3, ![2, 512, 2048]⟩
abbrev S2048x256 : Shape := ⟨2, ![2048, 256]⟩
abbrev S1x256 : Shape := ⟨2, ![1, 256]⟩
abbrev S256x256 : Shape := ⟨2, ![256, 256]⟩
abbrev S1x128 : Shape := ⟨2, ![1, 128]⟩
abbrev S2048x128 : Shape := ⟨2, ![2048, 128]⟩
abbrev S1x1x256x256 : Shape := ⟨4, ![1, 1, 256, 256]⟩
abbrev S512x256 : Shape := ⟨2, ![512, 256]⟩
abbrev S1x256x256 : Shape := ⟨3, ![1, 256, 256]⟩
abbrev S256x128 : Shape := ⟨2, ![256, 128]⟩
abbrev S256 : Shape := ⟨1, ![256]⟩
abbrev S256x1 : Shape := ⟨2, ![256, 1]⟩
abbrev S1x512x2048 : Shape := ⟨3, ![1, 512, 2048]⟩
abbrev S512x2048 : Shape := ⟨2, ![512, 2048]⟩
abbrev S512x128 : Shape := ⟨2, ![512, 128]⟩
abbrev S1x1x256x128 : Shape := ⟨4, ![1, 1, 256, 128]⟩
abbrev S1x512x1792 : Shape := ⟨3, ![1, 512, 1792]⟩
abbrev S512x1792 : Shape := ⟨2, ![512, 1792]⟩
abbrev S1792x256 : Shape := ⟨2, ![1792, 256]⟩
abbrev S1x512x1536 : Shape := ⟨3, ![1, 512, 1536]⟩
abbrev S512x1536 : Shape := ⟨2, ![512, 1536]⟩
abbrev S1536x256 : Shape := ⟨2, ![1536, 256]⟩
abbrev S1x512x1280 : Shape := ⟨3, ![1, 512, 1280]⟩
abbrev S512x1280 : Shape := ⟨2, ![512, 1280]⟩
abbrev S1280x256 : Shape := ⟨2, ![1280, 256]⟩
abbrev S1x512x1024 : Shape := ⟨3, ![1, 512, 1024]⟩
abbrev S512x1024 : Shape := ⟨2, ![512, 1024]⟩
abbrev S1024x256 : Shape := ⟨2, ![1024, 256]⟩
abbrev S1x512x768 : Shape := ⟨3, ![1, 512, 768]⟩
abbrev S512x768 : Shape := ⟨2, ![512, 768]⟩
abbrev S768x256 : Shape := ⟨2, ![768, 256]⟩
abbrev S1x512x512 : Shape := ⟨3, ![1, 512, 512]⟩
abbrev S512x512 : Shape := ⟨2, ![512, 512]⟩
abbrev S1x512x256 : Shape := ⟨3, ![1, 512, 256]⟩

abbrev nBuf : Space → Nat
  | .hbm => 4
  | .vmem => 11
  | .smem => 0
  | _ => 0

abbrev bufTy : (tb : Table) → Fin (tcTables nBuf tb) → BufTy
  | .hbm, ⟨0, _⟩ => ⟨S4x16x2048x256, .bf16⟩
  | .hbm, ⟨1, _⟩ => ⟨S4x16x2048x256, .bf16⟩
  | .hbm, ⟨2, _⟩ => ⟨S4x16x2048x128, .bf16⟩
  | .hbm, ⟨3, _⟩ => ⟨S4x16x2048x128, .bf16⟩
  | .local _ .vmem, ⟨0, _⟩ => ⟨S1x1x2048x256, .bf16⟩
  | .local _ .vmem, ⟨1, _⟩ => ⟨S1x1x2048x256, .bf16⟩
  | .local _ .vmem, ⟨2, _⟩ => ⟨S1x1x2048x256, .bf16⟩
  | .local _ .vmem, ⟨3, _⟩ => ⟨S1x1x2048x256, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x1x2048x128, .bf16⟩
  | .local _ .vmem, ⟨7, _⟩ => ⟨S1x1x2048x128, .bf16⟩
  | .local _ .vmem, ⟨8, _⟩ => ⟨S2x512x2048, .f32⟩
  | .local _ .vmem, ⟨9, _⟩ => ⟨S2x512x2048, .bf16⟩
  | .local _ .vmem, ⟨10, _⟩ => ⟨S2048x256, .bf16⟩
  | _, _ => ⟨S4x16x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x16x2048x256 : Shape := ⟨4, ![4, 16, 2048, 256]⟩
abbrev S4x16x2048x128 : Shape := ⟨4, ![4, 16, 2048, 128]⟩
abbrev S4x16x2048x2x64 : Shape := ⟨5, ![4, 16, 2048, 2, 64]⟩
abbrev S16x4x2x2048x64 : Shape := ⟨5, ![16, 4, 2, 2048, 64]⟩
abbrev S16x8x2048x64 : Shape := ⟨4, ![16, 8, 2048, 64]⟩
abbrev S4x16x2048x64 : Shape := ⟨4, ![4, 16, 2048, 64]⟩
abbrev S4x16x2048x2x32 : Shape := ⟨5, ![4, 16, 2048, 2, 32]⟩
abbrev S16x4x2x2048x32 : Shape := ⟨5, ![16, 4, 2, 2048, 32]⟩
abbrev S16x8x2048x32 : Shape := ⟨4, ![16, 8, 2048, 32]⟩
abbrev S16x8x2048x96 : Shape := ⟨4, ![16, 8, 2048, 96]⟩
abbrev S16x8x2048x2048 : Shape := ⟨4, ![16, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x8x2048 : Shape := ⟨3, ![16, 8, 2048]⟩
abbrev S16x8x2048x1 : Shape := ⟨4, ![16, 8, 2048, 1]⟩

abbrev nBuf : Space → Nat
  | .hbm => 60
  | .vmem => 0
  | .smem => 0
  | _ => 0

abbrev bufTy : (tb : Table) → Fin (tcTables nBuf tb) → BufTy
  | .hbm, ⟨0, _⟩ => ⟨S4x16x2048x256, .bf16⟩
  | .hbm, ⟨1, _⟩ => ⟨S4x16x2048x256, .bf16⟩
  | .hbm, ⟨2, _⟩ => ⟨S4x16x2048x128, .bf16⟩
  | .hbm, ⟨3, _⟩ => ⟨S4x16x2048x128, .bf16⟩
  | .hbm, ⟨4, _⟩ => ⟨S4x16x2048x2x64, .bf16⟩
  | .hbm, ⟨5, _⟩ => ⟨S16x4x2x2048x64, .bf16⟩
  | .hbm, ⟨6, _⟩ => ⟨S16x8x2048x64, .bf16⟩
  | .hbm, ⟨7, _⟩ => ⟨S4x16x2048x64, .bf16⟩
  | .hbm, ⟨8, _⟩ => ⟨S4x16x2048x2x32, .bf16⟩
  | .hbm, ⟨9, _⟩ => ⟨S16x4x2x2048x32, .bf16⟩
  | .hbm, ⟨10, _⟩ => ⟨S16x8x2048x32, .bf16⟩
  | .hbm, ⟨11, _⟩ => ⟨S16x8x2048x96, .bf16⟩
  | .hbm, ⟨12, _⟩ => ⟨S4x16x2048x128, .bf16⟩
  | .hbm, ⟨13, _⟩ => ⟨S4x16x2048x2x64, .bf16⟩
  | .hbm, ⟨14, _⟩ => ⟨S16x4x2x2048x64, .bf16⟩
  | .hbm, ⟨15, _⟩ => ⟨S16x8x2048x64, .bf16⟩
  | .hbm, ⟨16, _⟩ => ⟨S4x16x2048x64, .bf16⟩
  | .hbm, ⟨17, _⟩ => ⟨S4x16x2048x2x32, .bf16⟩
  | .hbm, ⟨18, _⟩ => ⟨S16x4x2x2048x32, .bf16⟩
  | .hbm, ⟨19, _⟩ => ⟨S16x8x2048x32, .bf16⟩
  | .hbm, ⟨20, _⟩ => ⟨S16x8x2048x96, .bf16⟩
  | .hbm, ⟨21, _⟩ => ⟨S16x8x2048x2048, .f32⟩
  | .hbm, ⟨22, _⟩ => ⟨S_, .f32⟩
  | .hbm, ⟨23, _⟩ => ⟨S_, .f32⟩
  | .hbm, ⟨24, _⟩ => ⟨S16x8x2048x2048, .f32⟩
  | .hbm, ⟨25, _⟩ => ⟨S16x8x2048x2048, .f32⟩
  | .hbm, ⟨26, _⟩ => ⟨S2048, .i32⟩
  | .hbm, ⟨27, _⟩ => ⟨S1x2048, .i32⟩
  | .hbm, ⟨28, _⟩ => ⟨S2048x1, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S_, .f32⟩
  | .hbm, ⟨33, _⟩ => ⟨S_, .f32⟩
  | .hbm, ⟨34, _⟩ => ⟨S16x8x2048x2048, .i1⟩
  | .hbm, ⟨35, _⟩ => ⟨S16x8x2048x2048, .f32⟩
  | .hbm, ⟨36, _⟩ => ⟨S16x8x2048x2048, .f32⟩
  | .hbm, ⟨37, _⟩ => ⟨S_, .f32⟩
  | .hbm, ⟨38, _⟩ => ⟨S16x8x2048, .f32⟩
  | .hbm, ⟨39, _⟩ => ⟨S_, .f32⟩
  | .hbm, ⟨40, _⟩ => ⟨S16x8x2048, .f32⟩
  | .hbm, ⟨41, _⟩ => ⟨S16x8x2048, .f32⟩
  | .hbm, ⟨42, _⟩ => ⟨S16x8x2048x1, .f32⟩
  | .hbm, ⟨43, _⟩ => ⟨S16x8x2048x2048, .f32⟩
  | .hbm, ⟨44, _⟩ => ⟨S16x8x2048x2048, .f32⟩
  | .hbm, ⟨45, _⟩ => ⟨S16x8x2048x2048, .f32⟩
  | .hbm, ⟨46, _⟩ => ⟨S_, .f32⟩
  | .hbm, ⟨47, _⟩ => ⟨S16x8x2048, .f32⟩
  | .hbm, ⟨48, _⟩ => ⟨S16x8x2048x1, .f32⟩
  | .hbm, ⟨49, _⟩ => ⟨S16x8x2048x2048, .f32⟩
  | .hbm, ⟨50, _⟩ => ⟨S16x8x2048x2048, .f32⟩
  | .hbm, ⟨51, _⟩ => ⟨S16x8x2048x2048, .bf16⟩
  | .hbm, ⟨52, _⟩ => ⟨S4x16x2048x2x64, .bf16⟩
  | .hbm, ⟨53, _⟩ => ⟨S16x4x2x2048x64, .bf16⟩
  | .hbm, ⟨54, _⟩ => ⟨S16x8x2048x64, .bf16⟩
  | .hbm, ⟨55, _⟩ => ⟨S16x8x2048x64, .f32⟩
  | .hbm, ⟨56, _⟩ => ⟨S16x8x2048x64, .bf16⟩
  | .hbm, ⟨57, _⟩ => ⟨S16x4x2x2048x64, .bf16⟩
  | .hbm, ⟨58, _⟩ => ⟨S4x16x2048x2x64, .bf16⟩
  | .hbm, ⟨59, _⟩ => ⟨S4x16x2048x128, .bf16⟩
  | _, _ => ⟨S4x16x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== Merge.lean ====
abbrev S32768x1024 : Shape := ⟨2, ![32768, 1024]⟩
abbrev S4x32768x128 : Shape := ⟨3, ![4, 32768, 128]⟩
abbrev S1x1024 : Shape := ⟨2, ![1, 1024]⟩
abbrev S1024x3072 : Shape := ⟨2, ![1024, 3072]⟩
abbrev S3x512x1024 : Shape := ⟨3, ![3, 512, 1024]⟩
abbrev S1024x1024 : Shape := ⟨2, ![1024, 1024]⟩
abbrev S1024x256 : Shape := ⟨2, ![1024, 256]⟩
abbrev S1x128 : Shape := ⟨2, ![1, 128]⟩
abbrev S32768x128 : Shape := ⟨2, ![32768, 128]⟩
abbrev S4x1024x128 : Shape := ⟨3, ![4, 1024, 128]⟩
abbrev S1024x128 : Shape := ⟨2, ![1024, 128]⟩
abbrev S1024 : Shape := ⟨1, ![1024]⟩
abbrev S1024x1 : Shape := ⟨2, ![1024, 1]⟩
abbrev S1x1024x128 : Shape := ⟨3, ![1, 1024, 128]⟩
abbrev S1024x512 : Shape := ⟨2, ![1024, 512]⟩
abbrev S1x512x1024 : Shape := ⟨3, ![1, 512, 1024]⟩
abbrev S512x1024 : Shape := ⟨2, ![512, 1024]⟩
abbrev S2048x1024 : Shape := ⟨2, ![2048, 1024]⟩
abbrev S2048x256 : Shape := ⟨2, ![2048, 256]⟩

abbrev nBuf : Space → Nat
  | .hbm => 13
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S4x32768x128, .bf16⟩
  | .hbm, ⟨2, _⟩ => ⟨S4x32768x128, .bf16⟩
  | .hbm, ⟨3, _⟩ => ⟨S4x32768x128, .bf16⟩
  | .hbm, ⟨4, _⟩ => ⟨S1x1024, .f32⟩
  | .hbm, ⟨5, _⟩ => ⟨S1024x3072, .bf16⟩
  | .hbm, ⟨6, _⟩ => ⟨S3x512x1024, .bf16⟩
  | .hbm, ⟨7, _⟩ => ⟨S1024x1024, .bf16⟩
  | .hbm, ⟨8, _⟩ => ⟨S1x1024, .f32⟩
  | .hbm, ⟨9, _⟩ => ⟨S1024x256, .bf16⟩
  | .hbm, ⟨10, _⟩ => ⟨S1x128, .f32⟩
  | .hbm, ⟨11, _⟩ => ⟨S32768x1024, .f32⟩
  | .hbm, ⟨12, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S4x1024x128, .bf16⟩
  | .local _ .vmem, ⟨3, _⟩ => ⟨S4x1024x128, .bf16⟩
  | .local _ .vmem, ⟨4, _⟩ => ⟨S4x1024x128, .bf16⟩
  | .local _ .vmem, ⟨5, _⟩ => ⟨S4x1024x128, .bf16⟩
  | .local _ .vmem, ⟨6, _⟩ => ⟨S4x1024x128, .bf16⟩
  | .local _ .vmem, ⟨7, _⟩ => ⟨S4x1024x128, .bf16⟩
  | .local _ .vmem, ⟨8, _⟩ => ⟨S1x1024, .f32⟩
  | .local _ .vmem, ⟨9, _⟩ => ⟨S1024x3072, .bf16⟩
  | .local _ .vmem, ⟨10, _⟩ => ⟨S3x512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x256, .bf16⟩
  | .local _ .vmem, ⟨14, _⟩ => ⟨S1x128, .f32⟩
  | .local _ .vmem, ⟨15, _⟩ => ⟨S1024x1024, .f32⟩
  | .local _ .vmem, ⟨16, _⟩ => ⟨S1024x1024, .f32⟩
  | .local _ .vmem, ⟨17, _⟩ => ⟨S1024x128, .f32⟩
  | .local _ .vmem, ⟨18, _⟩ => ⟨S1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S32768x1024 : Shape := ⟨2, ![32768, 1024]⟩
abbrev S4x32768x128 : Shape := ⟨3, ![4, 32768, 128]⟩
abbrev S1x1024 : Shape := ⟨2, ![1, 1024]⟩
abbrev S1024x3072 : Shape := ⟨2, ![1024, 3072]⟩
abbrev S3x512x1024 : Shape := ⟨3, ![3, 512, 1024]⟩
abbrev S1024x1024 : Shape := ⟨2, ![1024, 1024]⟩
abbrev S1024x256 : Shape := ⟨2, ![1024, 256]⟩
abbrev S1x128 : Shape := ⟨2, ![1, 128]⟩
abbrev S_ : Shape := ⟨0, ![]⟩
abbrev S32768 : Shape := ⟨1, ![32768]⟩
abbrev S32768x1 : Shape := ⟨2, ![32768, 1]⟩
abbrev S1024 : Shape := ⟨1, ![1024]⟩
abbrev S32768x3072 : Shape := ⟨2, ![32768, 3072]⟩
abbrev S32768x3x1024 : Shape := ⟨3, ![32768, 3, 1024]⟩
abbrev S32768x4x128 : Shape := ⟨3, ![32768, 4, 128]⟩
abbrev S32768x512 : Shape := ⟨2, ![32768, 512]⟩
abbrev S32768x1x512 : Shape := ⟨3, ![32768, 1, 512]⟩
abbrev S32768x3x512 : Shape := ⟨3, ![32768, 3, 512]⟩
abbrev S3x1024x32768 : Shape := ⟨3, ![3, 1024, 32768]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x32768x128, .bf16⟩
  | .hbm, ⟨2, _⟩ => ⟨S4x32768x128, .bf16⟩
  | .hbm, ⟨3, _⟩ => ⟨S4x32768x128, .bf16⟩
  | .hbm, ⟨4, _⟩ => ⟨S1x1024, .f32⟩
  | .hbm, ⟨5, _⟩ => ⟨S1024x3072, .bf16⟩
  | .hbm, ⟨6, _⟩ => ⟨S3x512x1024, .bf16⟩
  | .hbm, ⟨7, _⟩ => ⟨S1024x1024, .bf16⟩
  | .hbm, ⟨8, _⟩ => ⟨S1x1024, .f32⟩
  | .hbm, ⟨9, _⟩ => ⟨S1024x256, .bf16⟩
  | .hbm, ⟨10, _⟩ => ⟨S1x128, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S1024x3072, .f32⟩
  | .hbm, ⟨29, _⟩ => ⟨S32768x3072, .f32⟩
  | .hbm, ⟨30, _⟩ => ⟨S32768x3x1024, .f32⟩
  | .hbm, ⟨31, _⟩ => ⟨S32768x3x1024, .f32⟩
  | .hbm, ⟨32, _⟩ => ⟨S32768x3x1024, .f32⟩
  | .hbm, ⟨33, _⟩ => ⟨S_, .f32⟩
  | .hbm, ⟨34, _⟩ => ⟨S32768x3x1024, .f32⟩
  | .hbm, ⟨35, _⟩ => ⟨S32768x3x1024, .f32⟩
  | .hbm, ⟨36, _⟩ => ⟨S_, .f32⟩
  | .hbm, ⟨37, _⟩ => ⟨S32768x3x1024, .f32⟩
  | .hbm, ⟨38, _⟩ => ⟨S32768x3x1024, .f32⟩
  | .hbm, ⟨39, _⟩ => ⟨S4x32768x128, .f32⟩
  | .hbm, ⟨40, _⟩ => ⟨S32768x4x128, .f32⟩
  | .hbm, ⟨41, _⟩ => ⟨S32768x512, .f32⟩
  | .hbm, ⟨42, _⟩ => ⟨S4x32768x128, .f32⟩
  | .hbm, ⟨43, _⟩ => ⟨S32768x4x128, .f32⟩
  | .hbm, ⟨44, _⟩ => ⟨S32768x512, .f32⟩
  | .hbm, ⟨45, _⟩ => ⟨S4x32768x128, .f32⟩
  | .hbm, ⟨46, _⟩ => ⟨S32768x4x128, .f32⟩
  | .hbm, ⟨47, _⟩ => ⟨S32768x512, .f32⟩
  | .hbm, ⟨48, _⟩ => ⟨S32768x1x512, .f32⟩
  | .hbm, ⟨49, _⟩ => ⟨S32768x1x512, .f32⟩
  | .hbm, ⟨50, _⟩ => ⟨S32768x1x512, .f32⟩
  | .hbm, ⟨51, _⟩ => ⟨S32768x3x512, .f32⟩
  | .hbm, ⟨52, _⟩ => ⟨S3x512x1024, .f32⟩
  | .hbm, ⟨53, _⟩ => ⟨S3x1024x32768, .f32⟩
  | .hbm, ⟨54, _⟩ => ⟨S32768x3x1024, .f32⟩
  | .hbm, ⟨55, _⟩ => ⟨S32768x3x1024, .f32⟩
  | .hbm, ⟨56, _⟩ => ⟨S_, .f32⟩
  | .hbm, ⟨57, _⟩ => ⟨S32768x1024, .f32⟩
  | .hbm, ⟨58, _⟩ => ⟨S1024x1024, .f32⟩
  | .hbm, ⟨59, _⟩ => ⟨S32768x1024, .f32⟩
  | .hbm, ⟨60, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Fox.lean ====
abbrev S4x16x2048x128 : Shape := ⟨4, ![4, 16, 2048, 128]⟩
abbrev S16x32768 : Shape := ⟨2, ![16, 32768]⟩
abbrev S32768x128 : Shape := ⟨2, ![32768, 128]⟩
abbrev S1x1x2048x128 : Shape := ⟨4, ![1, 1, 2048, 128]⟩
abbrev S16x2048 : Shape := ⟨2, ![16, 2048]⟩
abbrev S2048x128 : Shape := ⟨2, ![2048, 128]⟩
abbrev S2x512x2048 : Shape := ⟨3, ![2, 512, 2048]⟩
abbrev S2048x256 : Shape := ⟨2, ![2048, 256]⟩
abbrev S1x128 : Shape := ⟨2, ![1, 128]⟩
abbrev S256x256 : Shape := ⟨2, ![256, 256]⟩
abbrev S1x1x256x128 : Shape := ⟨4, ![1, 1, 256, 128]⟩
abbrev S256x128 : Shape := ⟨2, ![256, 128]⟩
abbrev S512x128 : Shape := ⟨2, ![512, 128]⟩
abbrev S512x256 : Shape := ⟨2, ![512, 256]⟩
abbrev S1x256 : Shape := ⟨2, ![1, 256]⟩
abbrev S1x256x256 : Shape := ⟨3, ![1, 256, 256]⟩
abbrev S256 : Shape := ⟨1, ![256]⟩
abbrev S256x1 : Shape := ⟨2, ![256, 1]⟩
abbrev S1x512x2048 : Shape := ⟨3, ![1, 512, 2048]⟩
abbrev S512x2048 : Shape := ⟨2, ![512, 2048]⟩
abbrev S1x512x1792 : Shape := ⟨3, ![1, 512, 1792]⟩
abbrev S512x1792 : Shape := ⟨2, ![512, 1792]⟩
abbrev S1792x256 : Shape := ⟨2, ![1792, 256]⟩
abbrev S1x512x1536 : Shape := ⟨3, ![1, 512, 1536]⟩
abbrev S512x1536 : Shape := ⟨2, ![512, 1536]⟩
abbrev S1536x256 : Shape := ⟨2, ![1536, 256]⟩
abbrev S1x512x1280 : Shape := ⟨3, ![1, 512, 1280]⟩
abbrev S512x1280 : Shape := ⟨2, ![512, 1280]⟩
abbrev S1280x256 : Shape := ⟨2, ![1280, 256]⟩
abbrev S1x512x1024 : Shape := ⟨3, ![1, 512, 1024]⟩
abbrev S512x1024 : Shape := ⟨2, ![512, 1024]⟩
abbrev S1024x256 : Shape := ⟨2, ![1024, 256]⟩
abbrev S1x512x768 : Shape := ⟨3, ![1, 512, 768]⟩
abbrev S512x768 : Shape := ⟨2, ![512, 768]⟩
abbrev S768x256 : Shape := ⟨2, ![768, 256]⟩
abbrev S1x512x512 : Shape := ⟨3, ![1, 512, 512]⟩
abbrev S512x512 : Shape := ⟨2, ![512, 512]⟩
abbrev S1x512x256 : Shape := ⟨3, ![1, 512, 256]⟩

abbrev nBuf : Space → Nat
  | .hbm => 6
  | .vmem => 15
  | .smem => 0
  | _ => 0

abbrev bufTy : (tb : Table) → Fin (tcTables nBuf tb) → BufTy
  | .hbm, ⟨0, _⟩ => ⟨S4x16x2048x128, .bf16⟩
  | .hbm, ⟨1, _⟩ => ⟨S4x16x2048x128, .bf16⟩
  | .hbm, ⟨2, _⟩ => ⟨S4x16x2048x128, .bf16⟩
  | .hbm, ⟨3, _⟩ => ⟨S16x32768, .f32⟩
  | .hbm, ⟨4, _⟩ => ⟨S32768x128, .f32⟩
  | .hbm, ⟨5, _⟩ => ⟨S4x16x2048x128, .bf16⟩
  | .local _ .vmem, ⟨0, _⟩ => ⟨S1x1x2048x128, .bf16⟩
  | .local _ .vmem, ⟨1, _⟩ => ⟨S1x1x2048x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S16x2048, .f32⟩
  | .local _ .vmem, ⟨7, _⟩ => ⟨S16x2048, .f32⟩
  | .local _ .vmem, ⟨8, _⟩ => ⟨S2048x128, .f32⟩
  | .local _ .vmem, ⟨9, _⟩ => ⟨S2048x128, .f32⟩
  | .local _ .vmem, ⟨10, _⟩ => ⟨S1x1x2048x128, .bf16⟩
  | .local _ .vmem, ⟨11, _⟩ => ⟨S1x1x2048x128, .bf16⟩
  | .local _ .vmem, ⟨12, _⟩ => ⟨S2x512x2048, .f32⟩
  | .local _ .vmem, ⟨13, _⟩ => ⟨S2x512x2048, .bf16⟩
  | .local _ .vmem, ⟨14, _⟩ => ⟨S2048x256, .bf16⟩
  | _, _ => ⟨S4x16x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def k0_off1 (i : grid0.Coords) (c0_i32 : BitVec 32) : Fin 2 → Nat :=
  let c2_i32 : BitVec 32 := 2#32
  let arg0 : BitVec 32 := BitVec.ofNat 32 (i 0).val
  let v48 : BitVec 32 := Scalar.muli c2_i32 arg0
  let v49 : BitVec 32 := Scalar.addi v48 c0_i32
  let v50 : Index := Scalar.indexCast v49
  let c0_19 : Index := 0#32
  ![v50.toNat, 0]
def k0_off2 (i : grid0.Coords) (c0_i32_35 : BitVec 32) : Fin 2 → Nat :=
  let c2_i32_34 : BitVec 32 := 2#32
  let arg0 : BitVec 32 := BitVec.ofNat 32 (i 0).val
  let v81 : BitVec 32 := Scalar.muli c2_i32_34 arg0
  let v82 : BitVec 32 := Scalar.addi v81 c0_i32_35
  let v83 : Index := Scalar.indexCast v82
  let c256_36 : Index := 256#32
  ![v83.toNat, 256]
def k0_off3 (i : grid0.Coords) (c0_i32_53 : BitVec 32) : Fin 2 → Nat :=
  let c2_i32_52 : BitVec 32 := 2#32
  let arg0 : BitVec 32 := BitVec.ofNat 32 (i 0).val
  let v116 : BitVec 32 := Scalar.muli c2_i32_52 arg0
  let v117 : BitVec 32 := Scalar.addi v116 c0_i32_53
  let v118 : Index := Scalar.indexCast v117
  let c512_54 : Index := 512#32
  ![v118.toNat, 512]
def k0_off4 (i : grid0.Coords) (c0_i32_71 : BitVec 32) : Fin 2 → Nat :=
  let c2_i32_70 : BitVec 32 := 2#32
  let arg0 : BitVec 32 := BitVec.ofNat 32 (i 0).val
  let v151 : BitVec 32 := Scalar.muli c2_i32_70 arg0
  let v152 : BitVec 32 := Scalar.addi v151 c0_i32_71
  let v153 : Index := Scalar.indexCast v152
  let c768_72 : Index := 768#32
  ![v153.toNat, 768]
def k0_off5 (i : grid0.Coords) (c0_i32_89 : BitVec 32) : Fin 2 → Nat :=
  let c2_i32_88 : BitVec 32 := 2#32
  let arg0 : BitVec 32 := BitVec.ofNat 32 (i 0).val
  let v186 : BitVec 32 := Scalar.muli c2_i32_88 arg0
  let v187 : BitVec 32 := Scalar.addi v186 c0_i32_89
  let v188 : Index := Scalar.indexCast v187
  let c1024_90 : Index := 1024#32
  ![v188.toNat, 1024]
def k0_off6 (i : grid0.Coords) (c0_i32_107 : BitVec 32) : Fin 2 → Nat :=
  let c2_i32_106 : BitVec 32 := 2#32
  let arg0 : BitVec 32 := BitVec.ofNat 32 (i 0).val
  let v221 : BitVec 32 := Scalar.muli c2_i32_106 arg0
  let v222 : BitVec 32 := Scalar.addi v221 c0_i32_107
  let v223 : Index := Scalar.indexCast v222
  let c1280_108 : Index := 1280#32
  ![v223.toNat, 1280]
def k0_off7 (i : grid0.Coords) (c0_i32_125 : BitVec 32) : Fin 2 → Nat :=
  let c2_i32_124 : BitVec 32 := 2#32
  let arg0 : BitVec 32 := BitVec.ofNat 32 (i 0).val
  let v256 : BitVec 32 := Scalar.muli c2_i32_124 arg0
  let v257 : BitVec 32 := Scalar.addi v256 c0_i32_125
  let v258 : Index := Scalar.indexCast v257
  let c1536_126 : Index := 1536#32
  ![v258.toNat, 1536]
def k0_off8 (i : grid0.Coords) (c0_i32_144 : BitVec 32) : Fin 2 → Nat :=
  let c2_i32_143 : BitVec 32 := 2#32
  let arg0 : BitVec 32 := BitVec.ofNat 32 (i 0).val
  let v291 : BitVec 32 := Scalar.muli c2_i32_143 arg0
  let v292 : BitVec 32 := Scalar.addi v291 c0_i32_144
  let v293 : Index := Scalar.indexCast v292
  let c1792_145 : Index := 1792#32
  ![v293.toNat, 1792]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FoxIdeal.lean ====
variable {F : FTy → Type} [FloatOps F] [Named F]
def κ : String → Option EReal := fun
  | "log2e" => some (((Real.log 2)⁻¹ : ℝ) : EReal)
  | _ => none
-- ==== FoxRefIdeal.lean ====
abbrev S4x16x2048x128 : Shape := ⟨4, ![4, 16, 2048, 128]⟩
abbrev S16x32768 : Shape := ⟨2, ![16, 32768]⟩
abbrev S32768x128 : Shape := ⟨2, ![32768, 128]⟩
abbrev S32768x8 : Shape := ⟨2, ![32768, 8]⟩
abbrev S16x2048x8 : Shape := ⟨3, ![16, 2048, 8]⟩
abbrev S16x8x2048 : Shape := ⟨3, ![16, 8, 2048]⟩
abbrev S8x32768 : Shape := ⟨2, ![8, 32768]⟩
abbrev S8x16x2048 : Shape := ⟨3, ![8, 16, 2048]⟩
abbrev S4x16x2048x2x64 : Shape := ⟨5, ![4, 16, 2048, 2, 64]⟩
abbrev S16x4x2x2048x64 : Shape := ⟨5, ![16, 4, 2, 2048, 64]⟩
abbrev S16x8x2048x64 : Shape := ⟨4, ![16, 8, 2048, 64]⟩
abbrev S16x8x2048x2048 : Shape := ⟨4, ![16, 8, 2048, 2048]⟩
abbrev S_ : Shape := ⟨0, ![]⟩
abbrev S16x8x2048x1 : Shape := ⟨4, ![16, 8, 2048, 1]⟩
abbrev S16x8x1x2048 : Shape := ⟨4, ![16, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 62
  | .vmem => 0
  | .smem => 0
  | _ => 0

abbrev bufTy : (tb : Table) → Fin (tcTables nBuf tb) → BufTy
  | .hbm, ⟨0, _⟩ => ⟨S4x16x2048x128, .bf16⟩
  | .hbm, ⟨1, _⟩ => ⟨S4x16x2048x128, .bf16⟩
  | .hbm, ⟨2, _⟩ => ⟨S4x16x2048x128, .bf16⟩
  | .hbm, ⟨3, _⟩ => ⟨S16x32768, .f32⟩
  | .hbm, ⟨4, _⟩ => ⟨S32768x128, .f32⟩
  | .hbm, ⟨5, _⟩ => ⟨S32768x8, .f32⟩
  | .hbm, ⟨6, _⟩ => ⟨S16x2048x8, .f32⟩
  | .hbm, ⟨7, _⟩ => ⟨S16x8x2048, .f32⟩
  | .hbm, ⟨8, _⟩ => ⟨S8x32768, .f32⟩
  | .hbm, ⟨9, _⟩ => ⟨S8x16x2048, .f32⟩
  | .hbm, ⟨10, _⟩ => ⟨S16x8x2048, .f32⟩
  | .hbm, ⟨11, _⟩ => ⟨S4x16x2048x2x64, .bf16⟩
  | .hbm, ⟨12, _⟩ => ⟨S16x4x2x2048x64, .bf16⟩
  | .hbm, ⟨13, _⟩ => ⟨S16x8x2048x64, .bf16⟩
  | .hbm, ⟨14, _⟩ => ⟨S4x16x2048x2x64, .bf16⟩
  | .hbm, ⟨15, _⟩ => ⟨S16x4x2x2048x64, .bf16⟩
  | .hbm, ⟨16, _⟩ => ⟨S16x8x2048x64, .bf16⟩
  | .hbm, ⟨17, _⟩ => ⟨S16x8x2048x2048, .f32⟩
  | .hbm, ⟨18, _⟩ => ⟨S_, .f32⟩
  | .hbm, ⟨19, _⟩ => ⟨S_, .f32⟩
  | .hbm, ⟨20, _⟩ => ⟨S16x8x2048x2048, .f32⟩
  | .hbm, ⟨21, _⟩ => ⟨S16x8x2048x2048, .f32⟩
  | .hbm, ⟨22, _⟩ => ⟨S16x8x2048x1, .f32⟩
  | .hbm, ⟨23, _⟩ => ⟨S16x8x2048x2048, .f32⟩
  | .hbm, ⟨24, _⟩ => ⟨S16x8x2048x2048, .f32⟩
  | .hbm, ⟨25, _⟩ => ⟨S16x8x1x2048, .f32⟩
  | .hbm, ⟨26, _⟩ => ⟨S16x8x2048x2048, .f32⟩
  | .hbm, ⟨27, _⟩ => ⟨S16x8x2048x2048, .f32⟩
  | .hbm, ⟨28, _⟩ => ⟨S2048, .i32⟩
  | .hbm, ⟨29, _⟩ => ⟨S1x2048, .i32⟩
  | .hbm, ⟨30, _⟩ => ⟨S2048x1, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .f32⟩
  | .hbm, ⟨35, _⟩ => ⟨S_, .f32⟩
  | .hbm, ⟨36, _⟩ => ⟨S16x8x2048x2048, .i1⟩
  | .hbm, ⟨37, _⟩ => ⟨S16x8x2048x2048, .f32⟩
  | .hbm, ⟨38, _⟩ => ⟨S16x8x2048x2048, .f32⟩
  | .hbm, ⟨39, _⟩ => ⟨S_, .f32⟩
  | .hbm, ⟨40, _⟩ => ⟨S16x8x2048, .f32⟩
  | .hbm, ⟨41, _⟩ => ⟨S_, .f32⟩
  | .hbm, ⟨42, _⟩ => ⟨S16x8x2048, .f32⟩
  | .hbm, ⟨43, _⟩ => ⟨S16x8x2048, .f32⟩
  | .hbm, ⟨44, _⟩ => ⟨S16x8x2048x1, .f32⟩
  | .hbm, ⟨45, _⟩ => ⟨S16x8x2048x2048, .f32⟩
  | .hbm, ⟨46, _⟩ => ⟨S16x8x2048x2048, .f32⟩
  | .hbm, ⟨47, _⟩ => ⟨S16x8x2048x2048, .f32⟩
  | .hbm, ⟨48, _⟩ => ⟨S_, .f32⟩
  | .hbm, ⟨49, _⟩ => ⟨S16x8x2048, .f32⟩
  | .hbm, ⟨50, _⟩ => ⟨S16x8x2048x1, .f32⟩
  | .hbm, ⟨51, _⟩ => ⟨S16x8x2048x2048, .f32⟩
  | .hbm, ⟨52, _⟩ => ⟨S16x8x2048x2048, .f32⟩
  | .hbm, ⟨53, _⟩ => ⟨S16x8x2048x2048, .bf16⟩
  | .hbm, ⟨54, _⟩ => ⟨S4x16x2048x2x64, .bf16⟩
  | .hbm, ⟨55, _⟩ => ⟨S16x4x2x2048x64, .bf16⟩
  | .hbm, ⟨56, _⟩ => ⟨S16x8x2048x64, .bf16⟩
  | .hbm, ⟨57, _⟩ => ⟨S16x8x2048x64, .f32⟩
  | .hbm, ⟨58, _⟩ => ⟨S16x8x2048x64, .bf16⟩
  | .hbm, ⟨59, _⟩ => ⟨S16x4x2x2048x64, .bf16⟩
  | .hbm, ⟨60, _⟩ => ⟨S4x16x2048x2x64, .bf16⟩
  | .hbm, ⟨61, _⟩ => ⟨S4x16x2048x128, .bf16⟩
  | _, _ => ⟨S4x16x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== MoeIdeal.lean ====
abbrev S32768x1024 : Shape := ⟨2, ![32768, 1024]⟩
abbrev S32768x128 : Shape := ⟨2, ![32768, 128]⟩
abbrev S1x1024 : Shape := ⟨2, ![1, 1024]⟩
abbrev S16x1024x256 : Shape := ⟨3, ![16, 1024, 256]⟩
abbrev S16x256x1024 : Shape := ⟨3, ![16, 256, 1024]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S512x1024 : Shape := ⟨2, ![512, 1024]⟩
abbrev S512x128 : Shape := ⟨2, ![512, 128]⟩
abbrev S1024x1024 : Shape := ⟨2, ![1024, 1024]⟩
abbrev S1024x128 : Shape := ⟨2, ![1024, 128]⟩
abbrev S8x128 : Shape := ⟨2, ![8, 128]⟩
abbrev S128x512 : Shape := ⟨2, ![128, 512]⟩
abbrev S1024x1 : Shape := ⟨2, ![1024, 1]⟩
abbrev S1024x512 : Shape := ⟨2, ![1024, 512]⟩
abbrev S512x256 : Shape := ⟨2, ![512, 256]⟩
abbrev S1024x256 : Shape := ⟨2, ![1024, 256]⟩
abbrev S1x1 : Shape := ⟨2, ![1, 1]⟩
abbrev S144x1024 : Shape := ⟨2, ![144, 1024]⟩
abbrev S144x128 : Shape := ⟨2, ![144, 128]⟩
abbrev S1x1024x256 : Shape := ⟨3, ![1, 1024, 256]⟩
abbrev S144x256 : Shape := ⟨2, ![144, 256]⟩
abbrev S144 : Shape := ⟨1, ![144]⟩
abbrev S144x1 : Shape := ⟨2, ![144, 1]⟩
abbrev S1x256x1024 : Shape := ⟨3, ![1, 256, 1024]⟩
abbrev S256x1024 : Shape := ⟨2, ![256, 1024]⟩

abbrev nBuf : Space → Nat
  | .hbm => 23
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S1x1024, .f32⟩
  | .hbm, ⟨3, _⟩ => ⟨S16x1024x256, .bf16⟩
  | .hbm, ⟨4, _⟩ => ⟨S16x1024x256, .bf16⟩
  | .hbm, ⟨5, _⟩ => ⟨S16x256x1024, .bf16⟩
  | .hbm, ⟨6, _⟩ => ⟨S512, .i32⟩
  | .hbm, ⟨7, _⟩ => ⟨S1x512, .i32⟩
  | .hbm, ⟨8, _⟩ => ⟨S512, .i32⟩
  | .hbm, ⟨9, _⟩ => ⟨S512x1, .i32⟩
  | .hbm, ⟨10, _⟩ => ⟨S512x512, .i32⟩
  | .hbm, ⟨11, _⟩ => ⟨S512x512, .i32⟩
  | .hbm, ⟨12, _⟩ => ⟨S512x512, .i1⟩
  | .hbm, ⟨13, _⟩ => ⟨S512x512, .bf16⟩
  | .hbm, ⟨14, _⟩ => ⟨S128, .i32⟩
  | .hbm, ⟨15, _⟩ => ⟨S128x1, .i32⟩
  | .hbm, ⟨16, _⟩ => ⟨S128, .i32⟩
  | .hbm, ⟨17, _⟩ => ⟨S1x128, .i32⟩
  | .hbm, ⟨18, _⟩ => ⟨S128x128, .i32⟩
  | .hbm, ⟨19, _⟩ => ⟨S128x128, .i32⟩
  | .hbm, ⟨20, _⟩ => ⟨S128x128, .i1⟩
  | .hbm, ⟨21, _⟩ => ⟨S128x128, .bf16⟩
  | .hbm, ⟨22, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S1x1024, .f32⟩
  | .local _ .vmem, ⟨5, _⟩ => ⟨S512x512, .bf16⟩
  | .local _ .vmem, ⟨6, _⟩ => ⟨S128x128, .bf16⟩
  | .local _ .vmem, ⟨7, _⟩ => ⟨S16x1024x256, .bf16⟩
  | .local _ .vmem, ⟨8, _⟩ => ⟨S16x1024x256, .bf16⟩
  | .local _ .vmem, ⟨9, _⟩ => ⟨S16x256x1024, .bf16⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S1024x128, .f32⟩
  | .local _ .vmem, ⟨14, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

@[reducible] def k0_t1_loop (v123 : BitVec 32) (v126 : BitVec 32) (v129 : BitVec 32) (v132 : BitVec 32) : Scf.Loop 32 :=
  let c0_i32_45 : BitVec 32 := 0#32
  let v134 : BitVec 32 := Scalar.addi v123 v126
  let v135 : BitVec 32 := Scalar.addi v134 v129
  let v136 : BitVec 32 := Scalar.addi v135 v132
  let v137 : BitVec 32 := Scalar.subi v136 c0_i32_45
  let c1_i32 : BitVec 32 := 1#32
  let v139 : BitVec 32 := Scalar.divsi v137 c1_i32
  let v140 : BitVec 32 := Scalar.muli v139 c1_i32
  let v141 : BitVec 32 := Scalar.addi c0_i32_45 v140
  let c1_i32_46 : BitVec 32 := 1#32
  ⟨c0_i32_45, v141, c1_i32_46⟩

def k0_mult1 (v123 : BitVec 32) (v126 : BitVec 32) (v129 : BitVec 32) (v132 : BitVec 32) (k0_t1 : Fin (k0_t1_loop v123 v126 v129 v132).trips) : BitVec 32 :=
  let c0_i32_45 : BitVec 32 := 0#32
  let c1_i32_46 : BitVec 32 := 1#32
  let arg13 : BitVec 32 := Scf.iv c0_i32_45 c1_i32_46 k0_t1
  let c144_i32 : BitVec 32 := 144#32
  let v155 : BitVec 32 := Scalar.muli arg13 c144_i32
  v155
def k0_off1 (v123 : BitVec 32) (v126 : BitVec 32) (v129 : BitVec 32) (v132 : BitVec 32) (k0_t1 : Fin (k0_t1_loop v123 v126 v129 v132).trips) : Fin 2 → Nat :=
  let c0_i32_45 : BitVec 32 := 0#32
  let c1_i32_46 : BitVec 32 := 1#32
  let arg13 : BitVec 32 := Scf.iv c0_i32_45 c1_i32_46 k0_t1
  let c144_i32 : BitVec 32 := 144#32
  let v155 : BitVec 32 := Scalar.muli arg13 c144_i32
  let v156 : BitVec 32 := v155
  let v157 : Index := Scalar.indexCast v156
  let c0_54 : Index := 0#32
  ![v157.toNat, 0]
def k0_off2 (v123 : BitVec 32) (v126 : BitVec 32) (v129 : BitVec 32) (v132 : BitVec 32) (k0_t1 : Fin (k0_t1_loop v123 v126 v129 v132).trips) : Fin 2 → Nat :=
  let c0_i32_45 : BitVec 32 := 0#32
  let c1_i32_46 : BitVec 32 := 1#32
  let arg13 : BitVec 32 := Scf.iv c0_i32_45 c1_i32_46 k0_t1
  let c144_i32 : BitVec 32 := 144#32
  let v155 : BitVec 32 := Scalar.muli arg13 c144_i32
  let v156 : BitVec 32 := v155
  let v159 : Index := Scalar.indexCast v156
  let c0_55 : Index := 0#32
  ![v159.toNat, 0]
def k0_off3 (v123 : BitVec 32) (v126 : BitVec 32) (v129 : BitVec 32) (v132 : BitVec 32) (k0_t1 : Fin (k0_t1_loop v123 v126 v129 v132).trips) (c0_i32_57 : BitVec 32) : Fin 3 → Nat :=
  let c0_i32_53 : BitVec 32 := 0#32
  let c0_i32_45 : BitVec 32 := 0#32
  let c1_i32_46 : BitVec 32 := 1#32
  let arg13 : BitVec 32 := Scf.iv c0_i32_45 c1_i32_46 k0_t1
  let v146 : BitVec 1 := Scalar.cmpi .sge arg13 v123
  let v147 : BitVec 32 := Scalar.extui v146
  let v148 : BitVec 32 := Scalar.addi c0_i32_53 v147
  let v133 : BitVec 32 := Scalar.addi v123 v126
  let v149 : BitVec 1 := Scalar.cmpi .sge arg13 v133
  let v150 : BitVec 32 := Scalar.extui v149
  let v151 : BitVec 32 := Scalar.addi v148 v150
  let v134 : BitVec 32 := Scalar.addi v123 v126
  let v135 : BitVec 32 := Scalar.addi v134 v129
  let v152 : BitVec 1 := Scalar.cmpi .sge arg13 v135
  let v153 : BitVec 32 := Scalar.extui v152
  let v154 : BitVec 32 := Scalar.addi v151 v153
  let c4_i32_56 : BitVec 32 := 4#32
  let v162 : BitVec 32 := Scalar.muli v154 c4_i32_56
  let v163 : BitVec 32 := Scalar.addi v162 c0_i32_57
  let v164 : Index := Scalar.indexCast v163
  let c0_58 : Index := 0#32
  let c0_59 : Index := 0#32
  ![v164.toNat, 0, 0]
def k0_off4 (v123 : BitVec 32) (v126 : BitVec 32) (v129 : BitVec 32) (v132 : BitVec 32) (k0_t1 : Fin (k0_t1_loop v123 v126 v129 v132).trips) (c0_i32_111 : BitVec 32) : Fin 3 → Nat :=
  let c0_i32_53 : BitVec 32 := 0#32
  let c0_i32_45 : BitVec 32 := 0#32
  let c1_i32_46 : BitVec 32 := 1#32
  let arg13 : BitVec 32 := Scf.iv c0_i32_45 c1_i32_46 k0_t1
  let v146 : BitVec 1 := Scalar.cmpi .sge arg13 v123
  let v147 : BitVec 32 := Scalar.extui v146
  let v148 : BitVec 32 := Scalar.addi c0_i32_53 v147
  let v133 : BitVec 32 := Scalar.addi v123 v126
  let v149 : BitVec 1 := Scalar.cmpi .sge arg13 v133
  let v150 : BitVec 32 := Scalar.extui v149
  let v151 : BitVec 32 := Scalar.addi v148 v150
  let v134 : BitVec 32 := Scalar.addi v123 v126
  let v135 : BitVec 32 := Scalar.addi v134 v129
  let v152 : BitVec 1 := Scalar.cmpi .sge arg13 v135
  let v153 : BitVec 32 := Scalar.extui v152
  let v154 : BitVec 32 := Scalar.addi v151 v153
  let c4_i32_110 : BitVec 32 := 4#32
  let v266 : BitVec 32 := Scalar.muli v154 c4_i32_110
  let v267 : BitVec 32 := Scalar.addi v266 c0_i32_111
  let v268 : Index := Scalar.indexCast v267
  let c0_112 : Index := 0#32
  let c0_113 : Index := 0#32
  ![v268.toNat, 0, 0]
@[reducible] def k0_t2_loop (v123 : BitVec 32) (v126 : BitVec 32) (v129 : BitVec 32) (v132 : BitVec 32) : Scf.Loop 32 :=
  let c0_i32_45 : BitVec 32 := 0#32
  let v134 : BitVec 32 := Scalar.addi v123 v126
  let v135 : BitVec 32 := Scalar.addi v134 v129
  let v136 : BitVec 32 := Scalar.addi v135 v132
  let v137 : BitVec 32 := Scalar.subi v136 c0_i32_45
  let c1_i32 : BitVec 32 := 1#32
  let v139 : BitVec 32 := Scalar.divsi v137 c1_i32
  let v140 : BitVec 32 := Scalar.muli v139 c1_i32
  let v141 : BitVec 32 := Scalar.addi c0_i32_45 v140
  let v138 : BitVec 32 := Scalar.addi c0_i32_45 v137
  let c1_i32_47 : BitVec 32 := 1#32
  ⟨v141, v138, c1_i32_47⟩
def k0_mult2 (v123 : BitVec 32) (v126 : BitVec 32) (v129 : BitVec 32) (v132 : BitVec 32) (k0_t2 : Fin (k0_t2_loop v123 v126 v129 v132).trips) : BitVec 32 :=
  let c0_i32_45 : BitVec 32 := 0#32
  let v134 : BitVec 32 := Scalar.addi v123 v126
  let v135 : BitVec 32 := Scalar.addi v134 v129
  let v136 : BitVec 32 := Scalar.addi v135 v132
  let v137 : BitVec 32 := Scalar.subi v136 c0_i32_45
  let c1_i32 : BitVec 32 := 1#32
  let v139 : BitVec 32 := Scalar.divsi v137 c1_i32
  let v140 : BitVec 32 := Scalar.muli v139 c1_i32
  let v141 : BitVec 32 := Scalar.addi c0_i32_45 v140
  let c1_i32_47 : BitVec 32 := 1#32
  let arg13 : BitVec 32 := Scf.iv v141 c1_i32_47 k0_t2
  let c144_i32 : BitVec 32 := 144#32
  let v155 : BitVec 32 := Scalar.muli arg13 c144_i32
  v155
def k0_off5 (v123 : BitVec 32) (v126 : BitVec 32) (v129 : BitVec 32) (v132 : BitVec 32) (k0_t2 : Fin (k0_t2_loop v123 v126 v129 v132).trips) : Fin 2 → Nat :=
  let c0_i32_45 : BitVec 32 := 0#32
  let v134 : BitVec 32 := Scalar.addi v123 v126
  let v135 : BitVec 32 := Scalar.addi v134 v129
  let v136 : BitVec 32 := Scalar.addi v135 v132
  let v137 : BitVec 32 := Scalar.subi v136 c0_i32_45
  let c1_i32 : BitVec 32 := 1#32
  let v139 : BitVec 32 := Scalar.divsi v137 c1_i32
  let v140 : BitVec 32 := Scalar.muli v139 c1_i32
  let v141 : BitVec 32 := Scalar.addi c0_i32_45 v140
  let c1_i32_47 : BitVec 32 := 1#32
  let arg13 : BitVec 32 := Scf.iv v141 c1_i32_47 k0_t2
  let c144_i32 : BitVec 32 := 144#32
  let v155 : BitVec 32 := Scalar.muli arg13 c144_i32
  let v156 : BitVec 32 := v155
  let v157 : Index := Scalar.indexCast v156
  let c0_54 : Index := 0#32
  ![v157.toNat, 0]
def k0_off6 (v123 : BitVec 32) (v126 : BitVec 32) (v129 : BitVec 32) (v132 : BitVec 32) (k0_t2 : Fin (k0_t2_loop v123 v126 v129 v132).trips) : Fin 2 → Nat :=
  let c0_i32_45 : BitVec 32 := 0#32
  let v134 : BitVec 32 := Scalar.addi v123 v126
  let v135 : BitVec 32 := Scalar.addi v134 v129
  let v136 : BitVec 32 := Scalar.addi v135 v132
  let v137 : BitVec 32 := Scalar.subi v136 c0_i32_45
  let c1_i32 : BitVec 32 := 1#32
  let v139 : BitVec 32 := Scalar.divsi v137 c1_i32
  let v140 : BitVec 32 := Scalar.muli v139 c1_i32
  let v141 : BitVec 32 := Scalar.addi c0_i32_45 v140
  let c1_i32_47 : BitVec 32 := 1#32
  let arg13 : BitVec 32 := Scf.iv v141 c1_i32_47 k0_t2
  let c144_i32 : BitVec 32 := 144#32
  let v155 : BitVec 32 := Scalar.muli arg13 c144_i32
  let v156 : BitVec 32 := v155
  let v159 : Index := Scalar.indexCast v156
  let c0_55 : Index := 0#32
  ![v159.toNat, 0]
def k0_off7 (v123 : BitVec 32) (v126 : BitVec 32) (v129 : BitVec 32) (v132 : BitVec 32) (k0_t2 : Fin (k0_t2_loop v123 v126 v129 v132).trips) (c0_i32_57 : BitVec 32) : Fin 3 → Nat :=
  let c0_i32_53 : BitVec 32 := 0#32
  let c0_i32_45 : BitVec 32 := 0#32
  let v134 : BitVec 32 := Scalar.addi v123 v126
  let v135 : BitVec 32 := Scalar.addi v134 v129
  let v136 : BitVec 32 := Scalar.addi v135 v132
  let v137 : BitVec 32 := Scalar.subi v136 c0_i32_45
  let c1_i32 : BitVec 32 := 1#32
  let v139 : BitVec 32 := Scalar.divsi v137 c1_i32
  let v140 : BitVec 32 := Scalar.muli v139 c1_i32
  let v141 : BitVec 32 := Scalar.addi c0_i32_45 v140
  let c1_i32_47 : BitVec 32 := 1#32
  let arg13 : BitVec 32 := Scf.iv v141 c1_i32_47 k0_t2
  let v146 : BitVec 1 := Scalar.cmpi .sge arg13 v123
  let v147 : BitVec 32 := Scalar.extui v146
  let v148 : BitVec 32 := Scalar.addi c0_i32_53 v147
  let v133 : BitVec 32 := Scalar.addi v123 v126
  let v149 : BitVec 1 := Scalar.cmpi .sge arg13 v133
  let v150 : BitVec 32 := Scalar.extui v149
  let v151 : BitVec 32 := Scalar.addi v148 v150
  let v152 : BitVec 1 := Scalar.cmpi .sge arg13 v135
  let v153 : BitVec 32 := Scalar.extui v152
  let v154 : BitVec 32 := Scalar.addi v151 v153
  let c4_i32_56 : BitVec 32 := 4#32
  let v162 : BitVec 32 := Scalar.muli v154 c4_i32_56
  let v163 : BitVec 32 := Scalar.addi v162 c0_i32_57
  let v164 : Index := Scalar.indexCast v163
  let c0_58 : Index := 0#32
  let c0_59 : Index := 0#32
  ![v164.toNat, 0, 0]
def k0_off8 (v123 : BitVec 32) (v126 : BitVec 32) (v129 : BitVec 32) (v132 : BitVec 32) (k0_t2 : Fin (k0_t2_loop v123 v126 v129 v132).trips) (c0_i32_111 : BitVec 32) : Fin 3 → Nat :=
  let c0_i32_53 : BitVec 32 := 0#32
  let c0_i32_45 : BitVec 32 := 0#32
  let v134 : BitVec 32 := Scalar.addi v123 v126
  let v135 : BitVec 32 := Scalar.addi v134 v129
  let v136 : BitVec 32 := Scalar.addi v135 v132
  let v137 : BitVec 32 := Scalar.subi v136 c0_i32_45
  let c1_i32 : BitVec 32 := 1#32
  let v139 : BitVec 32 := Scalar.divsi v137 c1_i32
  let v140 : BitVec 32 := Scalar.muli v139 c1_i32
  let v141 : BitVec 32 := Scalar.addi c0_i32_45 v140
  let c1_i32_47 : BitVec 32 := 1#32
  let arg13 : BitVec 32 := Scf.iv v141 c1_i32_47 k0_t2
  let v146 : BitVec 1 := Scalar.cmpi .sge arg13 v123
  let v147 : BitVec 32 := Scalar.extui v146
  let v148 : BitVec 32 := Scalar.addi c0_i32_53 v147
  let v133 : BitVec 32 := Scalar.addi v123 v126
  let v149 : BitVec 1 := Scalar.cmpi .sge arg13 v133
  let v150 : BitVec 32 := Scalar.extui v149
  let v151 : BitVec 32 := Scalar.addi v148 v150
  let v152 : BitVec 1 := Scalar.cmpi .sge arg13 v135
  let v153 : BitVec 32 := Scalar.extui v152
  let v154 : BitVec 32 := Scalar.addi v151 v153
  let c4_i32_110 : BitVec 32 := 4#32
  let v266 : BitVec 32 := Scalar.muli v154 c4_i32_110
  let v267 : BitVec 32 := Scalar.addi v266 c0_i32_111
  let v268 : Index := Scalar.indexCast v267
  let c0_112 : Index := 0#32
  let c0_113 : Index := 0#32
  ![v268.toNat, 0, 0]

def k0_chk1 (v123 : BitVec 32) (v126 : BitVec 32) (v129 : BitVec 32) (v132 : BitVec 32) : Prop :=
  ((k0_t1_loop v123 v126 v129 v132).OK) ∧
  (∀ k0_t1 : Fin (k0_t1_loop v123 v126 v129 v132).trips, 16 ∣ (k0_mult1 v123 v126 v129 v132 k0_t1).toNat) ∧
  (∀ k0_t1 : Fin (k0_t1_loop v123 v126 v129 v132).trips, ∀ a, (k0_off1 v123 v126 v129 v132 k0_t1) a + S144x1024.size a ≤ S1024x1024.size a) ∧
  (∀ k0_t1 : Fin (k0_t1_loop v123 v126 v129 v132).trips, ∀ a, (k0_off2 v123 v126 v129 v132 k0_t1) a + S144x128.size a ≤ S1024x128.size a) ∧
  (∀ k0_t1 : Fin (k0_t1_loop v123 v126 v129 v132).trips, ∀ (r : Fin 4), ∀ a, (k0_off3 v123 v126 v129 v132 k0_t1 (BitVec.ofNat 32 r.val)) a + S1x1024x256.size a ≤ S16x1024x256.size a) ∧
  (∀ k0_t1 : Fin (k0_t1_loop v123 v126 v129 v132).trips, ∀ (r : Fin 4), ∀ a, (k0_off4 v123 v126 v129 v132 k0_t1 (BitVec.ofNat 32 r.val)) a + S1x256x1024.size a ≤ S16x256x1024.size a) ∧
  (∀ k0_t1 : Fin (k0_t1_loop v123 v126 v129 v132).trips, ∀ (hinb : ∀ a, (k0_off1 v123 v126 v129 v132 k0_t1) a + S144x1024.size a ≤ S1024x1024.size a), (Rect.unit (s := S1024x1024) (k0_off1 v123 v126 v129 v132 k0_t1) S144x1024.size hinb).PackedRows (EltTy.packing .bf16)) ∧
  ((k0_t2_loop v123 v126 v129 v132).OK) ∧
  (∀ k0_t2 : Fin (k0_t2_loop v123 v126 v129 v132).trips, 16 ∣ (k0_mult2 v123 v126 v129 v132 k0_t2).toNat) ∧
  (∀ k0_t2 : Fin (k0_t2_loop v123 v126 v129 v132).trips, ∀ a, (k0_off5 v123 v126 v129 v132 k0_t2) a + S144x1024.size a ≤ S1024x1024.size a) ∧
  (∀ k0_t2 : Fin (k0_t2_loop v123 v126 v129 v132).trips, ∀ a, (k0_off6 v123 v126 v129 v132 k0_t2) a + S144x128.size a ≤ S1024x128.size a) ∧
  (∀ k0_t2 : Fin (k0_t2_loop v123 v126 v129 v132).trips, ∀ (r : Fin 4), ∀ a, (k0_off7 v123 v126 v129 v132 k0_t2 (BitVec.ofNat 32 r.val)) a + S1x1024x256.size a ≤ S16x1024x256.size a) ∧
  (∀ k0_t2 : Fin (k0_t2_loop v123 v126 v129 v132).trips, ∀ (r : Fin 4), ∀ a, (k0_off8 v123 v126 v129 v132 k0_t2 (BitVec.ofNat 32 r.val)) a + S1x256x1024.size a ≤ S16x256x1024.size a) ∧
  (∀ k0_t2 : Fin (k0_t2_loop v123 v126 v129 v132).trips, ∀ (hinb : ∀ a, (k0_off5 v123 v126 v129 v132 k0_t2) a + S144x1024.size a ≤ S1024x1024.size a), (Rect.unit (s := S1024x1024) (k0_off5 v123 v126 v129 v132 k0_t2) S144x1024.size hinb).PackedRows (EltTy.packing .bf16))
theorem k0_t1_ok : ∀ (v123 : BitVec 32) (v126 : BitVec 32) (v129 : BitVec 32) (v132 : BitVec 32) (k0_hw1 : k0_chk1 v123 v126 v129 v132), (k0_t1_loop v123 v126 v129 v132).OK := fun v123 v126 v129 v132 k0_hw1 => k0_hw1.1
theorem k0_mult1_dvd : ∀ (v123 : BitVec 32) (v126 : BitVec 32) (v129 : BitVec 32) (v132 : BitVec 32) (k0_hw1 : k0_chk1 v123 v126 v129 v132) (k0_t1 : Fin (k0_t1_loop v123 v126 v129 v132).trips), 16 ∣ (k0_mult1 v123 v126 v129 v132 k0_t1).toNat := fun v123 v126 v129 v132 k0_hw1 k0_t1 => k0_hw1.2.1 k0_t1
theorem k0_off1_inb : ∀ (v123 : BitVec 32) (v126 : BitVec 32) (v129 : BitVec 32) (v132 : BitVec 32) (k0_hw1 : k0_chk1 v123 v126 v129 v132) (k0_t1 : Fin (k0_t1_loop v123 v126 v129 v132).trips), ∀ a, (k0_off1 v123 v126 v129 v132 k0_t1) a + S144x1024.size a ≤ S1024x1024.size a := fun v123 v126 v129 v132 k0_hw1 k0_t1 => k0_hw1.2.2.1 k0_t1
theorem k0_off2_inb : ∀ (v123 : BitVec 32) (v126 : BitVec 32) (v129 : BitVec 32) (v132 : BitVec 32) (k0_hw1 : k0_chk1 v123 v126 v129 v132) (k0_t1 : Fin (k0_t1_loop v123 v126 v129 v132).trips), ∀ a, (k0_off2 v123 v126 v129 v132 k0_t1) a + S144x128.size a ≤ S1024x128.size a := fun v123 v126 v129 v132 k0_hw1 k0_t1 => k0_hw1.2.2.2.1 k0_t1
theorem k0_off3_inb : ∀ (v123 : BitVec 32) (v126 : BitVec 32) (v129 : BitVec 32) (v132 : BitVec 32) (k0_hw1 : k0_chk1 v123 v126 v129 v132) (k0_t1 : Fin (k0_t1_loop v123 v126 v129 v132).trips), ∀ (r : Fin 4), ∀ a, (k0_off3 v123 v126 v129 v132 k0_t1 (BitVec.ofNat 32 r.val)) a + S1x1024x256.size a ≤ S16x1024x256.size a := fun v123 v126 v129 v132 k0_hw1 k0_t1 r => k0_hw1.2.2.2.2.1 k0_t1 r
theorem k0_off4_inb : ∀ (v123 : BitVec 32) (v126 : BitVec 32) (v129 : BitVec 32) (v132 : BitVec 32) (k0_hw1 : k0_chk1 v123 v126 v129 v132) (k0_t1 : Fin (k0_t1_loop v123 v126 v129 v132).trips), ∀ (r : Fin 4), ∀ a, (k0_off4 v123 v126 v129 v132 k0_t1 (BitVec.ofNat 32 r.val)) a + S1x256x1024.size a ≤ S16x256x1024.size a := fun v123 v126 v129 v132 k0_hw1 k0_t1 r => k0_hw1.2.2.2.2.2.1 k0_t1 r
theorem k0_off1_packedbf16 : ∀ (v123 : BitVec 32) (v126 : BitVec 32) (v129 : BitVec 32) (v132 : BitVec 32) (k0_hw1 : k0_chk1 v123 v126 v129 v132) (k0_t1 : Fin (k0_t1_loop v123 v126 v129 v132).trips), (Rect.unit (s := S1024x1024) (k0_off1 v123 v126 v129 v132 k0_t1) S144x1024.size (k0_off1_inb v123 v126 v129 v132 k0_hw1 k0_t1)).PackedRows (EltTy.packing .bf16) := fun v123 v126 v129 v132 k0_hw1 k0_t1 => k0_hw1.2.2.2.2.2.2.1 k0_t1 (k0_off1_inb v123 v126 v129 v132 k0_hw1 k0_t1)
theorem k0_t2_ok : ∀ (v123 : BitVec 32) (v126 : BitVec 32) (v129 : BitVec 32) (v132 : BitVec 32) (k0_hw1 : k0_chk1 v123 v126 v129 v132), (k0_t2_loop v123 v126 v129 v132).OK := fun v123 v126 v129 v132 k0_hw1 => k0_hw1.2.2.2.2.2.2.2.1
theorem k0_mult2_dvd : ∀ (v123 : BitVec 32) (v126 : BitVec 32) (v129 : BitVec 32) (v132 : BitVec 32) (k0_hw1 : k0_chk1 v123 v126 v129 v132) (k0_t2 : Fin (k0_t2_loop v123 v126 v129 v132).trips), 16 ∣ (k0_mult2 v123 v126 v129 v132 k0_t2).toNat := fun v123 v126 v129 v132 k0_hw1 k0_t2 => k0_hw1.2.2.2.2.2.2.2.2.1 k0_t2
theorem k0_off5_inb : ∀ (v123 : BitVec 32) (v126 : BitVec 32) (v129 : BitVec 32) (v132 : BitVec 32) (k0_hw1 : k0_chk1 v123 v126 v129 v132) (k0_t2 : Fin (k0_t2_loop v123 v126 v129 v132).trips), ∀ a, (k0_off5 v123 v126 v129 v132 k0_t2) a + S144x1024.size a ≤ S1024x1024.size a := fun v123 v126 v129 v132 k0_hw1 k0_t2 => k0_hw1.2.2.2.2.2.2.2.2.2.1 k0_t2
theorem k0_off6_inb : ∀ (v123 : BitVec 32) (v126 : BitVec 32) (v129 : BitVec 32) (v132 : BitVec 32) (k0_hw1 : k0_chk1 v123 v126 v129 v132) (k0_t2 : Fin (k0_t2_loop v123 v126 v129 v132).trips), ∀ a, (k0_off6 v123 v126 v129 v132 k0_t2) a + S144x128.size a ≤ S1024x128.size a := fun v123 v126 v129 v132 k0_hw1 k0_t2 => k0_hw1.2.2.2.2.2.2.2.2.2.2.1 k0_t2
theorem k0_off7_inb : ∀ (v123 : BitVec 32) (v126 : BitVec 32) (v129 : BitVec 32) (v132 : BitVec 32) (k0_hw1 : k0_chk1 v123 v126 v129 v132) (k0_t2 : Fin (k0_t2_loop v123 v126 v129 v132).trips), ∀ (r : Fin 4), ∀ a, (k0_off7 v123 v126 v129 v132 k0_t2 (BitVec.ofNat 32 r.val)) a + S1x1024x256.size a ≤ S16x1024x256.size a := fun v123 v126 v129 v132 k0_hw1 k0_t2 r => k0_hw1.2.2.2.2.2.2.2.2.2.2.2.1 k0_t2 r
theorem k0_off8_inb : ∀ (v123 : BitVec 32) (v126 : BitVec 32) (v129 : BitVec 32) (v132 : BitVec 32) (k0_hw1 : k0_chk1 v123 v126 v129 v132) (k0_t2 : Fin (k0_t2_loop v123 v126 v129 v132).trips), ∀ (r : Fin 4), ∀ a, (k0_off8 v123 v126 v129 v132 k0_t2 (BitVec.ofNat 32 r.val)) a + S1x256x1024.size a ≤ S16x256x1024.size a := fun v123 v126 v129 v132 k0_hw1 k0_t2 r => k0_hw1.2.2.2.2.2.2.2.2.2.2.2.2.1 k0_t2 r
theorem k0_off5_packedbf16 : ∀ (v123 : BitVec 32) (v126 : BitVec 32) (v129 : BitVec 32) (v132 : BitVec 32) (k0_hw1 : k0_chk1 v123 v126 v129 v132) (k0_t2 : Fin (k0_t2_loop v123 v126 v129 v132).trips), (Rect.unit (s := S1024x1024) (k0_off5 v123 v126 v129 v132 k0_t2) S144x1024.size (k0_off5_inb v123 v126 v129 v132 k0_hw1 k0_t2)).PackedRows (EltTy.packing .bf16) := fun v123 v126 v129 v132 k0_hw1 k0_t2 => k0_hw1.2.2.2.2.2.2.2.2.2.2.2.2.2 k0_t2 (k0_off5_inb v123 v126 v129 v132 k0_hw1 k0_t2)

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MoeRefIdeal.lean ====
abbrev S32768x1024 : Shape := ⟨2, ![32768, 1024]⟩
abbrev S32768x128 : Shape := ⟨2, ![32768, 128]⟩
abbrev S1x1024 : Shape := ⟨2, ![1, 1024]⟩
abbrev S16x1024x256 : Shape := ⟨3, ![16, 1024, 256]⟩
abbrev S16x256x1024 : Shape := ⟨3, ![16, 256, 1024]⟩
abbrev S_ : Shape := ⟨0, ![]⟩
abbrev S32768 : Shape := ⟨1, ![32768]⟩
abbrev S32768x1 : Shape := ⟨2, ![32768, 1]⟩
abbrev S16x256x32768 : Shape := ⟨3, ![16, 256, 32768]⟩
abbrev S16x32768x256 : Shape := ⟨3, ![16, 32768, 256]⟩
abbrev S32768x16 : Shape := ⟨2, ![32768, 16]⟩
abbrev S16x32768 : Shape := ⟨2, ![16, 32768]⟩
abbrev S16x32768x1 : Shape := ⟨3, ![16, 32768, 1]⟩
abbrev S16x32768x1024 : Shape := ⟨3, ![16, 32768, 1024]⟩

abbrev nBuf : Space → Nat
  | .hbm => 47
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S1x1024, .f32⟩
  | .hbm, ⟨3, _⟩ => ⟨S16x1024x256, .bf16⟩
  | .hbm, ⟨4, _⟩ => ⟨S16x1024x256, .bf16⟩
  | .hbm, ⟨5, _⟩ => ⟨S16x256x1024, .bf16⟩
  | .hbm, ⟨6, _⟩ => ⟨S16x1024x256, .f32⟩
  | .hbm, ⟨7, _⟩ => ⟨S16x1024x256, .f32⟩
  | .hbm, ⟨8, _⟩ => ⟨S16x256x1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S16x256x32768, .f32⟩
  | .hbm, ⟨25, _⟩ => ⟨S16x32768x256, .f32⟩
  | .hbm, ⟨26, _⟩ => ⟨S16x32768x256, .f32⟩
  | .hbm, ⟨27, _⟩ => ⟨S16x32768x256, .f32⟩
  | .hbm, ⟨28, _⟩ => ⟨S_, .f32⟩
  | .hbm, ⟨29, _⟩ => ⟨S16x32768x256, .f32⟩
  | .hbm, ⟨30, _⟩ => ⟨S16x32768x256, .f32⟩
  | .hbm, ⟨31, _⟩ => ⟨S_, .f32⟩
  | .hbm, ⟨32, _⟩ => ⟨S16x32768x256, .f32⟩
  | .hbm, ⟨33, _⟩ => ⟨S16x32768x256, .f32⟩
  | .hbm, ⟨34, _⟩ => ⟨S16x32768x256, .f32⟩
  | .hbm, ⟨35, _⟩ => ⟨S16x256x32768, .f32⟩
  | .hbm, ⟨36, _⟩ => ⟨S16x32768x256, .f32⟩
  | .hbm, ⟨37, _⟩ => ⟨S16x32768x256, .f32⟩
  | .hbm, ⟨38, _⟩ => ⟨S32768x16, .f32⟩
  | .hbm, ⟨39, _⟩ => ⟨S16x32768, .f32⟩
  | .hbm, ⟨40, _⟩ => ⟨S16x32768x1, .f32⟩
  | .hbm, ⟨41, _⟩ => ⟨S16x32768x1024, .f32⟩
  | .hbm, ⟨42, _⟩ => ⟨S16x32768x1024, .f32⟩
  | .hbm, ⟨43, _⟩ => ⟨S16x32768x1024, .f32⟩
  | .hbm, ⟨44, _⟩ => ⟨S_, .f32⟩
  | .hbm, ⟨45, _⟩ => ⟨S32768x1024, .f32⟩
  | .hbm, ⟨46, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Proof.AttnBlocks.lean ====
/-
  The blocks of a causal attention kernel that keeps two heads side by side in its lanes, each as one function of
  the blocks it reads, and each read at an index over the extended reals:

  * `qPair`    a tile of 256 query rows stacked twice, once per head, every lane of the other head made zero;
  * `scores`   its product with a tile of 256 key rows (512 × 256: the rows of head 0, then those of head 1);
  * `headOf`   the 256 rows of one head;
  * `diag`     the causal mask of the diagonal tile (minus infinity above the diagonal);
  * `halfMax`, `rowMax`, `shiftOf`   the row maximum, taken over half tiles of lanes first;
  * `weights`  two to the power of a score less the row's maximum;
  * `outTile`  weights times values over weights times ones, head 0 in the low lanes and head 1 in the high ones.
-/
module

public import Idealize.ShloMosaic.Lib.Pointwise
public import Idealize.ShloMosaic.Lib.IdealHost
public import Idealize.ShloMosaic.Lib.WordCmp

@[expose] public section

noncomputable section

namespace Cert.Attn

open Idealize.ShloMosaic

variable {F : FTy → Type} [FloatOps F]

abbrev Mat (m n : Nat) : Shape := ⟨2, ![m, n]⟩
abbrev Cube (l m n : Nat) : Shape := ⟨3, ![l, m, n]⟩
abbrev Quad (k l m n : Nat) : Shape := ⟨4, ![k, l, m, n]⟩

/-! ## The operations -/

/-- Two stacked copies of a query tile: the first keeps the lanes of `m0`, the second those of `m1`. -/
def qPair (kw : Nat) (hb : (Mat 1 kw).Broadcasts (Mat 256 kw)) (hs : (Mat 1 kw).ShapeCasts (Mat 1 kw))
    (hc : Shape.Concatenates [Mat 256 kw, Mat 256 kw] (Mat 512 kw) 0)
    (m0 m1 : IVec (Mat 1 kw) 1) (q : FVec F (Mat 256 kw) .bf16) : FVec F (Mat 512 kw) .bf16 :=
  concatenate (Mat 512 kw) 0
    [⟨Mat 256 kw, select (broadcastTo (Mat 256 kw) (shapeCast (Mat 1 kw) m0 hs) hb) q
        (broadcast (Mat 256 kw) (FloatOps.ofBits .bf16 0x0000#16))⟩,
     ⟨Mat 256 kw, select (broadcastTo (Mat 256 kw) (shapeCast (Mat 1 kw) m1 hs) hb) q
        (broadcast (Mat 256 kw) (FloatOps.ofBits .bf16 0x0000#16))⟩] hc

/-- The lanes of head 0 among `kw`: 0 to 63 and, of the shared-width part, 128 to 159. -/
def mask0 (kw : Nat) (hi : (Mat 1 kw).Iotas .tc 32 [1]) : IVec (Mat 1 kw) 1 :=
  ori (cmpi .slt (iota .tc (Mat 1 kw) 32 [1] hi) (broadcast (Mat 1 kw) 64#32))
    (andi (cmpi .sge (iota .tc (Mat 1 kw) 32 [1] hi) (broadcast (Mat 1 kw) 128#32))
      (cmpi .slt (iota .tc (Mat 1 kw) 32 [1] hi) (broadcast (Mat 1 kw) 160#32)))

/-- The lanes of head 1 among `kw`: 64 to 127 and 160 to 191. -/
def mask1 (kw : Nat) (hi : (Mat 1 kw).Iotas .tc 32 [1]) : IVec (Mat 1 kw) 1 :=
  ori (andi (cmpi .sge (iota .tc (Mat 1 kw) 32 [1] hi) (broadcast (Mat 1 kw) 64#32))
      (cmpi .slt (iota .tc (Mat 1 kw) 32 [1] hi) (broadcast (Mat 1 kw) 128#32)))
    (andi (cmpi .sge (iota .tc (Mat 1 kw) 32 [1] hi) (broadcast (Mat 1 kw) 160#32))
      (cmpi .slt (iota .tc (Mat 1 kw) 32 [1] hi) (broadcast (Mat 1 kw) 192#32)))

/-- The product of the stacked queries with the rows of a key tile. -/
def scores (kw : Nat) (q : FVec F (Mat 512 kw) .bf16) (k : FVec F (Mat 256 kw) .bf16) : FVec F (Mat 512 256) .f32 :=
  matmul (DotDims.transposedRhs 512 kw 256) none q k (constant (Mat 512 256) .f32 0x00000000#32)

theorem slices_head (j : Fin 2) : (Mat 512 256).Slices ![256 * j.val, 0] (Mat 256 256) := by
  fin_cases j <;> decide

/-- The rows of head `j`. -/
def headOf (j : Fin 2) (s : FVec F (Mat 512 256) .f32) : FVec F (Mat 256 256) .f32 :=
  extractStridedSlice (Mat 256 256) ![256 * j.val, 0] s (slices_head j)

/-- The causal mask inside a tile: column at most row. -/
def causal : IVec (Mat 256 256) 1 :=
  cmpi .sle (iota .tc (Mat 256 256) 32 [1] (by decide)) (iota .tc (Mat 256 256) 32 [0] (by decide))

/-- The diagonal tile: minus infinity where the column is past the row. -/
def diag (s : FVec F (Mat 256 256) .f32) : FVec F (Mat 256 256) .f32 :=
  select causal s (broadcast (Mat 256 256) (FloatOps.ofBits .f32 0xFF800000#32))

/-- A tile as it is stored: with a leading axis of one. -/
def stored {e : FTy} (s : FVec F (Mat 256 256) e) : FVec F (Cube 1 256 256) e :=
  shapeCast (Cube 1 256 256) s (by decide)

/-- The larger of the two halves of a tile's lanes. -/
def halfMax (s : FVec F (Mat 256 256) .f32) : FVec F (Mat 256 128) .f32 :=
  maximumf (extractStridedSlice (Mat 256 128) ![0, 0] s (by decide))
    (extractStridedSlice (Mat 256 128) ![0, 128] s (by decide))

/-- The running maximum over the tiles of a row. -/
def rowMax (s : FVec F (Mat 256 256) .f32) (l : List (FVec F (Mat 256 256) .f32)) : FVec F (Mat 256 128) .f32 :=
  l.foldl (fun a t => maximumf a (halfMax t)) (halfMax s)

/-- The maximum of each row, as a column. -/
def shiftOf (m : FVec F (Mat 256 128) .f32) : FVec F (Mat 256 1) .f32 :=
  shapeCast (Mat 256 1)
    (multiReduction .maximumf [1] ⟨1, ![256]⟩ m 0xFF800000#32 (by decide) (.inl rfl) rfl) (by decide)

/-- Two to the power of the stored scores less the shift, as it is stored. -/
def weights (s : FVec F (Cube 1 256 256) .f32) (sh : FVec F (Mat 256 1) .f32) : FVec F (Cube 1 256 256) .bf16 :=
  stored (truncf .bf16 (exp2 (subf (shapeCast (Mat 256 256) s (by decide))
    (broadcastTo (Mat 256 256) sh (by decide)))) (by decide))

/-- Weights times values over weights times ones; lanes below 64 from the rows of head 0, the others from head 1. -/
def outTile (w : Nat) (hc : (Cube 1 512 w).ShapeCasts (Mat 512 w)) (p : FVec F (Cube 1 512 w) .bf16)
    (v : FVec F (Mat w 256) .bf16) : FVec F (Quad 1 1 256 128) .bf16 :=
  have r : FVec F (Mat 512 256) .f32 :=
    matmul (DotDims.plain 512 w 256) none (shapeCast (Mat 512 w) p hc) v (constant (Mat 512 256) .f32 0x00000000#32)
  have o : FVec F (Mat 512 128) .f32 :=
    divf (extractStridedSlice (Mat 512 128) ![0, 0] r (by decide))
      (extractStridedSlice (Mat 512 128) ![0, 128] r (by decide))
  shapeCast (Quad 1 1 256 128)
    (truncf .bf16
      (select
        (broadcastTo (Mat 256 128)
          (shapeCast (Mat 1 128)
            (cmpi .slt (iota .tc (Mat 1 128) 32 [1] (by decide)) (broadcast (Mat 1 128) 64#32)) (by decide)) (by decide))
        (extractStridedSlice (Mat 256 128) ![0, 0] o (by decide))
        (extractStridedSlice (Mat 256 128) ![256, 0] o (by decide))) (by decide)) (by decide)

/-! ## The operations at an index, over the extended reals -/

@[simp] theorem negInf_f32 : Ideal.ofBits .f32 0xFF800000#32 = ⊥ := by
  simp [Ideal.ofBits, Ideal.ieee]

/-- The word comparison of two small numbers is their comparison. -/
theorem cmpi_sle_small (a b : Nat) (ha : a < 2 ^ 31) (hb : b < 2 ^ 31) :
    IntOp.cmpi .sle (BitVec.ofNat 32 a) (BitVec.ofNat 32 b) = if a ≤ b then 1#1 else 0#1 := by
  rw [WordCmp.cmpi_sle_ofNat (by simpa using ha) (by simpa using hb)]
  by_cases h : a ≤ b <;> simp only [h, decide_true, decide_false, if_true, if_false] <;> rfl

theorem cmpi_slt_small (a b : Nat) (ha : a < 2 ^ 31) (hb : b < 2 ^ 31) :
    IntOp.cmpi .slt (BitVec.ofNat 32 a) (BitVec.ofNat 32 b) = if a < b then 1#1 else 0#1 := by
  rw [WordCmp.cmpi_slt_ofNat (by simpa using ha) (by simpa using hb)]
  by_cases h : a < b <;> simp only [h, decide_true, decide_false, if_true, if_false] <;> rfl

theorem cmpi_sge_small (a b : Nat) (ha : a < 2 ^ 31) (hb : b < 2 ^ 31) :
    IntOp.cmpi .sge (BitVec.ofNat 32 a) (BitVec.ofNat 32 b) = if b ≤ a then 1#1 else 0#1 := by
  rw [WordCmp.cmpi_sge_ofNat (by simpa using ha) (by simpa using hb)]
  by_cases h : b ≤ a <;> simp only [h, decide_true, decide_false, if_true, if_false] <;> rfl

/-- Lane `l` is one of head `j`. -/
def headLane (j : Fin 2) (l : Nat) : Prop :=
  (64 * j.val ≤ l ∧ l < 64 * j.val + 64) ∨ (128 + 32 * j.val ≤ l ∧ l < 160 + 32 * j.val)

instance (j : Fin 2) (l : Nat) : Decidable (headLane j l) := by unfold headLane; infer_instance

theorem mask0_apply (kw : Nat) (hi) (l : Fin kw) (hl : kw < 2 ^ 31) : mask0 kw hi (ix2 0 l) = 1#1 ↔ headLane 0 l := by
  have hl' : l.val < 2 ^ 31 := by omega
  pointwise [mask0]
  show IntOp.ori (IntOp.cmpi .slt (BitVec.ofNat 32 l) (BitVec.ofNat 32 64)) (IntOp.andi (IntOp.cmpi .sge (BitVec.ofNat 32 l) (BitVec.ofNat 32 128))
    (IntOp.cmpi .slt (BitVec.ofNat 32 l) (BitVec.ofNat 32 160))) = 1#1 ↔ _
  rw [cmpi_slt_small _ _ hl' (by omega), cmpi_slt_small _ _ hl' (by omega), cmpi_sge_small _ _ hl' (by omega)]
  unfold headLane
  by_cases h1 : l.val < 64 <;> by_cases h2 : 128 ≤ l.val <;> by_cases h3 : l.val < 160 <;>
    simp [h1, h2, h3, IntOp.ori, IntOp.andi]

theorem mask1_apply (kw : Nat) (hi) (l : Fin kw) (hl : kw < 2 ^ 31) : mask1 kw hi (ix2 0 l) = 1#1 ↔ headLane 1 l := by
  have hl' : l.val < 2 ^ 31 := by omega
  pointwise [mask1]
  show IntOp.ori (IntOp.andi (IntOp.cmpi .sge (BitVec.ofNat 32 l) (BitVec.ofNat 32 64)) (IntOp.cmpi .slt (BitVec.ofNat 32 l) (BitVec.ofNat 32 128)))
    (IntOp.andi (IntOp.cmpi .sge (BitVec.ofNat 32 l) (BitVec.ofNat 32 160)) (IntOp.cmpi .slt (BitVec.ofNat 32 l) (BitVec.ofNat 32 192))) = 1#1 ↔ _
  rw [cmpi_slt_small _ _ hl' (by omega), cmpi_slt_small _ _ hl' (by omega), cmpi_sge_small _ _ hl' (by omega), cmpi_sge_small _ _ hl' (by omega)]
  unfold headLane
  by_cases h1 : 64 ≤ l.val <;> by_cases h2 : l.val < 128 <;> by_cases h3 : 160 ≤ l.val <;> by_cases h4 : l.val < 192 <;>
    simp [h1, h2, h3, h4, IntOp.ori, IntOp.andi]

theorem diag_apply (s : FVec Ideal (Mat 256 256) .f32) (r c : Fin 256) :
    diag s (ix2 r c) = if c ≤ r then s (ix2 r c) else ⊥ := by
  pointwise [diag, causal]
  rw [cmpi_sle_small _ _ (by omega) (by omega), negInf_f32]
  simp only [Fin.le_def]
  split <;> rfl

theorem halfMax_apply (s : FVec Ideal (Mat 256 256) .f32) (r : Fin 256) (l : Fin 128) :
    halfMax s (ix2 r l) = max (s (ix2 r ⟨l, by omega⟩)) (s (ix2 r ⟨128 + l, by omega⟩)) := by
  pointwise [halfMax]

theorem shiftOf_apply (m : FVec Ideal (Mat 256 128) .f32) (r : Fin 256) (u : Fin 1) :
    shiftOf m (ix2 r u) = Finset.univ.fold max ⊥ fun l : Fin 128 => m (ix2 r l) := by
  pointwise [shiftOf]
  rw [negInf_f32]

theorem headOf_apply (j : Fin 2) (s : FVec Ideal (Mat 512 256) .f32) (r c : Fin 256) :
    headOf j s (ix2 r c) = s (ix2 ⟨256 * j + r, by omega⟩ c) := by
  pointwise [headOf]

theorem stored_apply {e : FTy} (s : FVec Ideal (Mat 256 256) e) (u : Fin 1) (r c : Fin 256) :
    stored s (ix3 u r c) = s (ix2 r c) := by
  pointwise [stored]

theorem weights_apply (s : FVec Ideal (Cube 1 256 256) .f32) (sh : FVec Ideal (Mat 256 1) .f32) (u : Fin 1) (r c : Fin 256) :
    weights s sh (ix3 u r c) = Ideal.exp2 (s (ix3 0 r c) - sh (ix2 r 0)) := by
  pointwise [weights, stored]
  rfl

theorem scores_apply (kw : Nat) (q : FVec Ideal (Mat 512 kw) .bf16) (k : FVec Ideal (Mat 256 kw) .bf16) (r : Fin 512) (c : Fin 256) :
    scores kw q k (ix2 r c) = ∑ l : Fin kw, q (ix2 r l) * k (ix2 c l) := by
  refine (Ideal.matmul_apply₁_of (DotDims.transposedRhs 512 kw 256) (a := 1) rfl rfl _ _ _ _
    (fun l => ix2 r l) (fun l => ix2 c l) ?_ ?_).trans ?_
  · intro l; funext a; match a with | ⟨0, _⟩ => rfl | ⟨1, _⟩ => rfl
  · intro l; funext a; match a with | ⟨0, _⟩ => rfl | ⟨1, _⟩ => rfl
  · pointwise

theorem product_apply (w : Nat) (p : FVec Ideal (Mat 512 w) .bf16) (v : FVec Ideal (Mat w 256) .bf16) (r : Fin 512) (c : Fin 256) :
    Ideal.matmul (DotDims.plain 512 w 256) p v (constant (F := Ideal) (Mat 512 256) .f32 0x00000000#32) (ix2 r c)
      = ∑ l : Fin w, p (ix2 r l) * v (ix2 l c) := by
  refine (Ideal.matmul_apply₁_of (DotDims.plain 512 w 256) (a := 1) rfl rfl _ _ _ _
    (fun l => ix2 r l) (fun l => ix2 l c) ?_ ?_).trans ?_
  · intro l; funext a; match a with | ⟨0, _⟩ => rfl | ⟨1, _⟩ => rfl
  · intro l; funext a; match a with | ⟨0, _⟩ => rfl | ⟨1, _⟩ => rfl
  · pointwise

theorem qPair_apply (hb) (hs) (hc) (m0 m1 : IVec (Mat 1 256) 1) (q : FVec Ideal (Mat 256 256) .bf16) (j : Fin 2)
    (r : Fin 256) (l : Fin 256) :
    qPair 256 hb hs hc m0 m1 q (ix2 ⟨256 * j + r, by omega⟩ l)
      = if (if j = 0 then m0 else m1) (ix2 0 l) = 1#1 then q (ix2 r l) else 0 := by
  match j with
  | 0 =>
    have h : (⟨256 * (0 : Fin 2).val + r.val, by omega⟩ : Fin 512) = ⟨r, by omega⟩ := Fin.ext (by simp)
    rw [h]
    pointwise [qPair]
    rfl
  | 1 =>
    have h : (⟨256 * (1 : Fin 2).val + r.val, by omega⟩ : Fin 512) = ⟨256 + r, by omega⟩ := Fin.ext (by simp)
    rw [h]
    pointwise [qPair]
    rfl

theorem qPair_masks_apply (hb) (hs) (hc) (hi) (q : FVec Ideal (Mat 256 256) .bf16) (j : Fin 2) (r : Fin 256) (l : Fin 256) :
    qPair 256 hb hs hc (mask0 256 hi) (mask1 256 hi) q (ix2 ⟨256 * j + r, by omega⟩ l)
      = if headLane j l then q (ix2 r l) else 0 := by
  rw [qPair_apply]
  match j with
  | 0 => exact if_congr (mask0_apply 256 hi l (by norm_num)) rfl rfl
  | 1 => exact if_congr (mask1_apply 256 hi l (by norm_num)) rfl rfl

/-- Dropping the leading axis of one. -/
theorem dropLead_apply {α : Type} (m n : Nat) (x : (Cube 1 m n).Idx → α) (h : (Cube 1 m n).ShapeCasts (Mat m n)) (r : Fin m) (c : Fin n) :
    shapeCast (Mat m n) x h (ix2 r c) = x (ix3 0 r c) := by
  rw [Pointwise.shapeCast_apply]
  refine congrArg x (Shape.reshapeEquiv_eq_of_vals h _ _ _ _ (rowMajor_val3 _ (m * n) n rfl rfl) (rowMajor_val2 _ n rfl) ?_)
  simp

theorem outTile_apply (w : Nat) (hc) (p : FVec Ideal (Cube 1 512 w) .bf16) (v : FVec Ideal (Mat w 256) .bf16)
    (u u' : Fin 1) (r : Fin 256) (e : Fin 128) :
    outTile w hc p v (ix4 u u' r e)
      = Ideal.div (∑ c : Fin w, p (ix3 0 ⟨256 * (e.val / 64) + r, by omega⟩ c) * v (ix2 c ⟨e, by omega⟩))
          (∑ c : Fin w, p (ix3 0 ⟨256 * (e.val / 64) + r, by omega⟩ c) * v (ix2 c ⟨128 + e, by omega⟩)) := by
  pointwise [outTile]
  simp only [product_apply, dropLead_apply]
  rw [show (64#32 : BitVec 32) = BitVec.ofNat 32 64 from rfl, cmpi_slt_small _ _ (by omega) (by omega)]
  by_cases h : e.val < 64
  · have h' : e.val / 64 = 0 := by omega
    simp only [h, h', if_true, Nat.mul_zero, Nat.zero_add]; rfl
  · have h' : e.val / 64 = 1 := by omega
    simp only [h, h', if_false, Nat.mul_one]; rfl

end Cert.Attn
-- ==== Proof.AttnMath.lean ====
/-
  Causal attention of two heads that share a row of 256 lanes, as numbers: the score of a query row and a key row over
  one head's lanes, minus infinity past the row, the row's maximum, the weight of a column, and the weighted mean of the
  values. A weight past the row is zero, so a sum over the columns of the row's tile is the sum over all columns.
-/
module

public import proofs.«01_k».proof.Proof.AttnBlocks

@[expose] public section

noncomputable section

namespace Cert.Attn

open Idealize.ShloMosaic

/-- The score of query row `R` and key row `C` for head `j`: over the head's lanes. -/
def score (Q K : Fin 2048 → Fin 256 → EReal) (j : Fin 2) (R C : Fin 2048) : EReal :=
  ∑ l : Fin 256, (if headLane j l then Q R l else 0) * K C l

/-- Minus infinity past the row. -/
def past (s : Fin 2048 → EReal) (R : Fin 2048) (C : Fin 2048) : EReal := if C ≤ R then s C else ⊥

/-- The maximum of a row. -/
def top (f : Fin 2048 → EReal) : EReal := Finset.univ.sup f

/-- The weight of a column: two to the power of its score less the row's maximum. -/
def weight (f : Fin 2048 → EReal) (C : Fin 2048) : EReal := Ideal.exp2 (f C - top f)

/-- The weighted mean. -/
def mean (f : Fin 2048 → EReal) (v : Fin 2048 → EReal) : EReal :=
  Ideal.div (∑ C, weight f C * v C) (∑ C, weight f C)

theorem bot_sub (x : EReal) : (⊥ : EReal) - x = ⊥ := by rw [sub_eq_add_neg, EReal.bot_add]

theorem exp2_bot : Ideal.exp2 ⊥ = 0 := rfl

theorem weight_past (s : Fin 2048 → EReal) (R C : Fin 2048) (h : R < C) : weight (past s R) C = 0 := by
  unfold weight
  rw [show past s R C = ⊥ from if_neg (not_le.2 h), bot_sub, exp2_bot]

/-- A sum of terms that vanish from `n` on is the sum of the first `n`. -/
theorem sum_first (n : Nat) (hn : n ≤ 2048) (f : Fin 2048 → EReal) (h : ∀ C : Fin 2048, n ≤ C.val → f C = 0) :
    ∑ c : Fin n, f ⟨c, by omega⟩ = ∑ C, f C := by
  have e : ∑ C : Fin 2048, f C = ∑ C ∈ Finset.univ.map (Fin.castLEEmb hn), f C := by
    symm
    refine Finset.sum_subset (Finset.subset_univ _) fun C _ hC => h C ?_
    by_contra hlt
    exact hC (Finset.mem_map.2 ⟨⟨C, by omega⟩, Finset.mem_univ _, Fin.ext rfl⟩)
  rw [e, Finset.sum_map]
  rfl

theorem top_le {f : Fin 2048 → EReal} {a : EReal} : top f ≤ a ↔ ∀ C, f C ≤ a := by
  simp [top, Finset.sup_le_iff]

/-- The largest lane of the larger half is the largest of the row. -/
theorem rowMax_le (a : EReal) (r : Fin 256) (k : Fin 128) (s : FVec Ideal (Mat 256 256) .f32) (L : List (FVec Ideal (Mat 256 256) .f32)) :
    rowMax s L (ix2 r k) ≤ a ↔ ∀ t ∈ s :: L, halfMax t (ix2 r k) ≤ a := by
  unfold rowMax
  generalize hx : halfMax s = x
  have key : ∀ (L : List (FVec Ideal (Mat 256 256) .f32)) (x : FVec Ideal (Mat 256 128) .f32),
      L.foldl (fun a t => maximumf a (halfMax t)) x (ix2 r k) ≤ a ↔ x (ix2 r k) ≤ a ∧ ∀ t ∈ L, halfMax t (ix2 r k) ≤ a := by
    intro L
    induction L with
    | nil => intro x; simp
    | cons t L ih =>
      intro x
      rw [List.foldl_cons, ih]
      have : maximumf x (halfMax t) (ix2 r k) = max (x (ix2 r k)) (halfMax t (ix2 r k)) := by pointwise
      rw [this, max_le_iff, List.forall_mem_cons, and_assoc]
  rw [key, List.forall_mem_cons, hx]

theorem shift_le (a : EReal) (r : Fin 256) (u : Fin 1) (s : FVec Ideal (Mat 256 256) .f32) (L : List (FVec Ideal (Mat 256 256) .f32)) :
    shiftOf (rowMax s L) (ix2 r u) ≤ a ↔ ∀ t ∈ s :: L, ∀ c, t (ix2 r c) ≤ a := by
  rw [shiftOf_apply, Finset.fold_max_le]
  simp only [bot_le, true_and, Finset.mem_univ, forall_true_left, rowMax_le, halfMax_apply, max_le_iff]
  constructor
  · intro h t ht c
    by_cases hc : c.val < 128
    · exact (h ⟨c, hc⟩ t ht).1
    · have := (h ⟨c - 128, by omega⟩ t ht).2
      rwa [show (⟨128 + (c.val - 128), by omega⟩ : Fin 256) = c from Fin.ext (by simp; omega)] at this
  · intro h k t ht
    exact ⟨h t ht _, h t ht _⟩

end Cert.Attn
-- ==== Proof.MlaRef.lean ====
/-
  The reference of the latent attention, stage by stage, over the extended reals: the heads taken apart, the
  scores, the mask, the softmax of a row, and the weighted sum of the values.
-/
module

public import proofs.«01_k».proof.Proof.AttnMath
public import proofs.«01_k».proof.Proof.Gen.ReferenceIdeal.Run

@[expose] public section

noncomputable section

namespace Cert.MlaRef

open Cert.ReferenceIdeal Cert.ReferenceIdeal.Gen Idealize.ShloMosaic Idealize.ShloMosaic.TcCoe Cert.Attn

variable {F : FTy → Type} [FloatOps F]

/-- The heads taken apart: (group, batch, row, 64 lanes of two heads) to (batch, head, row, lane). -/
def heads64 (a : FVec F S4x16x2048x128 .bf16) : FVec F S16x8x2048x64 .bf16 :=
  shapeCast S16x8x2048x64 (transpose S16x4x2x2048x64 [1, 0, 3, 2, 4]
    (shapeCast S4x16x2048x2x64 a shapeCasts_S4x16x2048x128_S4x16x2048x2x64)
    transposes_S4x16x2048x2x64_S16x4x2x2048x64_1_0_3_2_4) shapeCasts_S16x4x2x2048x64_S16x8x2048x64

def heads32 (a : FVec F S4x16x2048x64 .bf16) : FVec F S16x8x2048x32 .bf16 :=
  shapeCast S16x8x2048x32 (transpose S16x4x2x2048x32 [1, 0, 3, 2, 4]
    (shapeCast S4x16x2048x2x32 a shapeCasts_S4x16x2048x64_S4x16x2048x2x32)
    transposes_S4x16x2048x2x32_S16x4x2x2048x32_1_0_3_2_4) shapeCasts_S16x4x2x2048x32_S16x8x2048x32

/-- The lanes of every head: 64 and 32. -/
def lanes (a : FVec F S4x16x2048x256 .bf16) : FVec F S16x8x2048x96 .bf16 :=
  concatenate S16x8x2048x96 3
    [⟨S16x8x2048x64, heads64 (extractStridedSlice S4x16x2048x128 ![0, 0, 0, 0] a slices_S4x16x2048x256_S4x16x2048x128_0_0_0_0)⟩,
     ⟨S16x8x2048x32, heads32 (extractStridedSlice S4x16x2048x64 ![0, 0, 0, 128] a slices_S4x16x2048x256_S4x16x2048x64_0_0_0_128)⟩]
    concatenates_S16x8x2048x64_S16x8x2048x32_S16x8x2048x96_d3

def causalMask : IVec S2048x2048 1 :=
  cmpi .sle
    (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- The scores of all rows and columns, in natural exponents, minus infinity past the row. -/
def logits (q k : FVec F S4x16x2048x256 .bf16) : FVec F S16x8x2048x2048 .f32 :=
  select (broadcastInDim S16x8x2048x2048 ![2, 3] bcast_S2048x2048_S16x8x2048x2048_2_3 causalMask)
    (mulf (Host.dotGeneral dot_S16x8x2048x96_S16x8x2048x96_S16x8x2048x2048_3_3_2_2_01_01 none (lanes q) (lanes k))
      (broadcastInDim S16x8x2048x2048 ![] bcast_S_S16x8x2048x2048 (Host.log (constant S_ .f32 0x40000000#32))))
    (broadcastInDim S16x8x2048x2048 ![] bcast_S_S16x8x2048x2048 (id (constant S_ .f32 0xFF800000#32)))

def spread (x : FVec F S16x8x2048 .f32) : FVec F S16x8x2048x2048 .f32 :=
  broadcastInDim S16x8x2048x2048 ![0, 1, 2, 3] bcast_S16x8x2048x1_S16x8x2048x2048_0_1_2_3
    (broadcastInDim S16x8x2048x1 ![0, 1, 2] bcast_S16x8x2048_S16x8x2048x1_0_1_2 x)

def tops (s : FVec F S16x8x2048x2048 .f32) : FVec F S16x8x2048 .f32 :=
  maximumf (broadcastInDim S16x8x2048 ![] bcast_S_S16x8x2048 (constant S_ .f32 0xFF800000#32))
    (Host.reduce FloatOps.maximumf s (constant S_ .f32 0xFF800000#32) reducesTo_S16x8x2048x2048_S16x8x2048_d3 h_S_)

def exps (s : FVec F S16x8x2048x2048 .f32) : FVec F S16x8x2048x2048 .f32 := Host.exp (subf s (spread (tops s)))

def sums (x : FVec F S16x8x2048x2048 .f32) : FVec F S16x8x2048 .f32 :=
  Host.reduceAdd x (constant S_ .f32 0x00000000#32) reducesTo_S16x8x2048x2048_S16x8x2048_d3 h_S_

def soft (s : FVec F S16x8x2048x2048 .f32) : FVec F S16x8x2048x2048 .f32 := Host.divf (exps s) (spread (sums (exps s)))

/-- The weighted sum of the values. -/
def mixed (p : FVec F S16x8x2048x2048 .f32) (v : FVec F S4x16x2048x128 .bf16) : FVec F S16x8x2048x64 .bf16 :=
  truncf .bf16 (Host.dotGeneral dot_S16x8x2048x2048_S16x8x2048x64_S16x8x2048x64_3_2_2_3_01_01 none
    (truncf .bf16 p bitsLt_bf16_f32) (heads64 v)) bitsLt_bf16_f32

/-- The heads put side by side again. -/
def joined (o : FVec F S16x8x2048x64 .bf16) : FVec F S4x16x2048x128 .bf16 :=
  shapeCast S4x16x2048x128 (transpose S4x16x2048x2x64 [1, 0, 3, 2, 4]
    (shapeCast S16x4x2x2048x64 o shapeCasts_S16x8x2048x64_S16x4x2x2048x64)
    transposes_S16x4x2x2048x64_S4x16x2048x2x64_1_0_3_2_4) shapeCasts_S4x16x2048x2x64_S4x16x2048x128

theorem result_eq (m : (ℓ : Loc nD τ sig) → Buf (Elt F) ℓ) (c : Dev nD) :
    Cert.ReferenceIdeal.Value.res_main_v48 m c
      = joined (mixed (soft (logits (m ((c.tc : Thread nD τ).loc main_arg0)) (m ((c.tc : Thread nD τ).loc main_arg1))))
          (m ((c.tc : Thread nD τ).loc main_arg2))) := rfl

/-! ## At an index -/

theorem heads64_apply (a : FVec Ideal S4x16x2048x128 .bf16) (b : Fin 16) (h : Fin 8) (r : Fin 2048) (d : Fin 64) :
    heads64 a (ix4 b h r d) = a (ix4 ⟨h.val / 2, by omega⟩ b r ⟨h.val % 2 * 64 + d.val, by omega⟩) := by
  pointwise [heads64]

theorem heads32_apply (a : FVec Ideal S4x16x2048x64 .bf16) (b : Fin 16) (h : Fin 8) (r : Fin 2048) (d : Fin 32) :
    heads32 a (ix4 b h r d) = a (ix4 ⟨h.val / 2, by omega⟩ b r ⟨h.val % 2 * 32 + d.val, by omega⟩) := by
  pointwise [heads32]

/-- The place, among 256, of lane `d` of head `j`. -/
def place (j : Nat) (d : Fin 96) (hj : j < 2) : Fin 256 :=
  if d.val < 64 then ⟨j * 64 + d.val, by omega⟩ else ⟨128 + (j * 32 + (d.val - 64)), by omega⟩

theorem lanes_apply (a : FVec Ideal S4x16x2048x256 .bf16) (b : Fin 16) (h : Fin 8) (r : Fin 2048) (d : Fin 96) :
    lanes a (ix4 b h r d) = a (ix4 ⟨h.val / 2, by omega⟩ b r (place (h.val % 2) d (by omega))) := by
  pointwise [lanes]
  unfold place
  by_cases hd : d.val < 64
  · rw [dif_pos hd, if_pos hd, heads64_apply]
    pointwise
  · rw [dif_neg hd, if_neg hd, heads32_apply]
    pointwise

theorem logits_apply (q k : FVec Ideal S4x16x2048x256 .bf16) (b : Fin 16) (h : Fin 8) (r c : Fin 2048) :
    logits q k (ix4 b h r c) = if c ≤ r then
      (∑ d : Fin 96, q (ix4 ⟨h.val / 2, by omega⟩ b r (place (h.val % 2) d (by omega)))
        * k (ix4 ⟨h.val / 2, by omega⟩ b c (place (h.val % 2) d (by omega)))) * Ideal.log (Ideal.ofBits .f32 0x40000000#32)
      else ⊥ := by
  pointwise [logits, causalMask]
  rw [cmpi_sle_small _ _ (by omega) (by omega)]
  simp only [lanes_apply, Fin.le_def]
  split
  · rfl
  · exact negInf_f32

theorem mixed_apply (s : FVec Ideal S16x8x2048x2048 .f32) (v : FVec Ideal S4x16x2048x128 .bf16) (b : Fin 16) (h : Fin 8) (r : Fin 2048) (d : Fin 64) :
    mixed s v (ix4 b h r d) = ∑ x, s (ix4 b h r x) * v (ix4 ⟨h.val / 2, by omega⟩ b x ⟨h.val % 2 * 64 + d.val, by omega⟩) := by
  pointwise [mixed]
  simp only [heads64_apply]

theorem joined_apply (o : FVec Ideal S16x8x2048x64 .bf16) (g : Fin 4) (b : Fin 16) (r : Fin 2048) (e : Fin 128) :
    joined o (ix4 g b r e) = o (ix4 b ⟨g.val * 2 + e.val / 64, by omega⟩ r ⟨e.val % 64, Nat.mod_lt _ (by decide)⟩) := by
  pointwise [joined]

theorem spread_apply (x : FVec Ideal S16x8x2048 .f32) (b : Fin 16) (h : Fin 8) (r c : Fin 2048) :
    spread x (ix4 b h r c) = x (ix3 b h r) := by
  pointwise [spread]

theorem sums_apply (x : FVec Ideal S16x8x2048x2048 .f32) (b : Fin 16) (h : Fin 8) (r : Fin 2048) :
    sums x (ix3 b h r) = ∑ c, x (ix4 b h r c) := by
  pointwise [sums]

theorem lift_row (hr : S16x8x2048x2048.Reduces [3] S16x8x2048) (b : Fin 16) (h : Fin 8) (r : Fin 2048) (c : Fin 2048) :
    hr.lift (ix3 b h r) c = ix4 b h r c := by
  funext a
  match a with
  | ⟨0, _⟩ => rfl
  | ⟨1, _⟩ => rfl
  | ⟨2, _⟩ => rfl
  | ⟨3, _⟩ => rfl

theorem fold_max (t : Finset (Fin 2048)) (f : Fin 2048 → EReal) :
    t.fold (FloatOps.maximumf (F := Ideal) (φ := .f32)) ⊥ f = t.sup f := by
  induction t using Finset.induction_on with
  | empty => rfl
  | insert a t ha ih =>
    rw [Finset.fold_insert ha, ih, Finset.sup_insert]
    rfl

/-- The largest entry of a row, as a fold. -/
theorem reduceMax_apply (x : FVec Ideal S16x8x2048x2048 .f32) (hr : S16x8x2048x2048.Reduces [3] S16x8x2048) (b : Fin 16) (h : Fin 8) (r : Fin 2048) :
    Host.reduce FloatOps.maximumf x (constant S_ .f32 0xFF800000#32) reducesTo_S16x8x2048x2048_S16x8x2048_d3 h_S_ (ix3 b h r)
      = Finset.univ.fold (FloatOps.maximumf (F := Ideal) (φ := .f32)) (Ideal.ofBits .f32 0xFF800000#32) (x ∘ hr.lift (ix3 b h r)) := by
  exact Host.reduce_eq_fold_single _ x _ reducesTo_S16x8x2048x2048_S16x8x2048_d3 hr h_S_ (ix3 b h r)

theorem maximumf_apply (y : FVec Ideal S16x8x2048 .f32) (b : Fin 16) (h : Fin 8) (r : Fin 2048) :
    maximumf (broadcastInDim S16x8x2048 ![] bcast_S_S16x8x2048 (constant (F := Ideal) S_ .f32 0xFF800000#32)) y (ix3 b h r)
      = max (Ideal.ofBits .f32 0xFF800000#32) (y (ix3 b h r)) := by
  pointwise

theorem tops_apply (x : FVec Ideal S16x8x2048x2048 .f32) (b : Fin 16) (h : Fin 8) (r : Fin 2048) :
    tops x (ix3 b h r) = top fun c => x (ix4 b h r c) := by
  have hr : S16x8x2048x2048.Reduces [3] S16x8x2048 := by decide
  have e := reduceMax_apply x hr b h r
  have e2 : (x ∘ hr.lift (ix3 b h r)) = fun c : Fin 2048 => x (ix4 b h r c) := funext fun c => congrArg x (lift_row hr b h r c)
  rw [e2, negInf_f32] at e
  unfold tops
  generalize Host.reduce FloatOps.maximumf x (constant S_ .f32 0xFF800000#32) reducesTo_S16x8x2048x2048_S16x8x2048_d3 h_S_ = y at e ⊢
  rw [maximumf_apply, e, negInf_f32, max_eq_right bot_le]
  exact fold_max Finset.univ _

theorem soft_apply (s : FVec Ideal S16x8x2048x2048 .f32) (b : Fin 16) (h : Fin 8) (r c : Fin 2048) :
    soft s (ix4 b h r c) = Ideal.div (Ideal.exp (s (ix4 b h r c) - top fun x => s (ix4 b h r x)))
      (∑ x, Ideal.exp (s (ix4 b h r x) - top fun x => s (ix4 b h r x))) := by
  have e : ∀ x, exps s (ix4 b h r x) = Ideal.exp (s (ix4 b h r x) - top fun x => s (ix4 b h r x)) := by
    intro x
    rw [← tops_apply, ← spread_apply (tops s) b h r x]
    unfold exps
    generalize spread (tops s) = y
    rfl
  rw [← e c, ← funext e, ← sums_apply, ← spread_apply (sums (exps s)) b h r c]
  unfold soft
  generalize spread (sums (exps s)) = y
  generalize exps s = z
  rfl

end Cert.MlaRef
-- ==== Proof.MlaPieces.lean ====
/-
  The latent attention kernel at one grid point, its stores listed tile by tile.

  The body treats eight tiles of 256 query rows, the last first. At tile `q` it stores the masked scores of the
  columns 0 to 256·q + 255, then the weights of the same columns, each head apart, in the half `(7 − q) mod 2` of its
  two scratch buffers; then the tile's output. `sTile` and `pTile` are the stores of one tile, `sAll` and `pAll` those of
  the tiles so far. The lists the run names are these lists.
-/
module

public import proofs.«01_k».proof.Proof.AttnBlocks
public import proofs.«01_k».proof.Proof.Gen.KernelIdeal.Value

@[expose] public section

noncomputable section

namespace Cert.Mla

open Cert.KernelIdeal Cert.KernelIdeal.Gen Idealize.ShloMosaic Idealize.ShloMosaic.TcCoe Idealize.SL.Sem Cert.Attn

variable {F : FTy → Type} [FloatOps F]

section Tiles

variable (arg2 : Memref sig .tc .vmem S1x1x2048x256 .bf16) (harg2 : arg2.IsWhole)
  (arg3 : Memref sig .tc .vmem S1x1x2048x256 .bf16) (harg3 : arg3.IsWhole)
  (arg6 : Memref sig .tc .vmem S2x512x2048 .f32)
  (x0 x1 : Vec F S1x1x2048x256 .bf16)

theorem inb_rows (t : Fin 8) : ∀ a, (![0, 0, 256 * t.val, 0] : Fin 4 → Nat) a + S1x1x256x256.size a ≤ S1x1x2048x256.size a := by
  intro a; have := t.isLt; fin_cases a <;> simp <;> omega

theorem inb_block (b j : Fin 2) (t : Fin 8) :
    ∀ a, (![b.val, 256 * j.val, 256 * t.val] : Fin 3 → Nat) a + S1x256x256.size a ≤ S2x512x2048.size a := by
  intro a; have := t.isLt; have := b.isLt; have := j.isLt; fin_cases a <;> simp <;> omega

/-- Tile `t` of the rows of a block. -/
def rowsOf (m : Memref sig .tc .vmem S1x1x2048x256 .bf16) (hm : m.IsWhole) (x : Vec F S1x1x2048x256 .bf16) (t : Fin 8) :
    FVec F S256x256 .bf16 :=
  shapeCast (s := S1x1x256x256) S256x256
    (m.view.readAt (Elt F) (Rect.unit (s := S1x1x2048x256) ![0, 0, 256 * t.val, 0] S1x1x256x256.size (inb_rows t)).toLoadRect (hm.unread x))
    (by decide)

/-- The scores of query tile `q` against key tile `t`, both heads. -/
def s2 (q t : Fin 8) : FVec F S512x256 .f32 :=
  scores 256 (qPair 256 (by decide) (by decide) (by decide) (mask0 256 (by decide)) (mask1 256 (by decide))
    (rowsOf arg2 harg2 x0 q)) (rowsOf arg3 harg3 x1 t)

/-- Head `j`'s scores of query tile `q` against key tile `t`, masked on the diagonal. -/
def sBlk (q : Fin 8) (j : Fin 2) (t : Fin 8) : FVec F S256x256 .f32 := headOf j (s2 arg2 harg2 arg3 harg3 x0 x1 q t)

def sDiag (q : Fin 8) (j : Fin 2) : FVec F S256x256 .f32 := diag (sBlk arg2 harg2 arg3 harg3 x0 x1 q j q)

/-- The buffer half of tile `q`. -/
def half (q : Fin 8) : Fin 2 := ⟨(7 - q.val) % 2, Nat.mod_lt _ (by decide)⟩

def blkRect (b j : Fin 2) (t : Fin 8) : Rect S2x512x2048 :=
  Rect.unit ![b.val, 256 * j.val, 256 * t.val] S1x256x256.size (inb_block b j t)

abbrev SPiece (F : FTy → Type) := View.Piece (Elt F) S2x512x2048 .f32
abbrev PPiece (F : FTy → Type) := View.Piece (Elt F) S2x512x2048 .bf16

/-- The stores of the scores before the diagonal, key tiles `ts` (the last store first). -/
def sBefore (q : Fin 8) : List (Fin 8) → List (SPiece F) → List (SPiece F)
  | [], L => L
  | t :: ts, L => ⟨blkRect (half q) 1 t, stored (sBlk arg2 harg2 arg3 harg3 x0 x1 q 1 t)⟩ ::
      ⟨blkRect (half q) 0 t, stored (sBlk arg2 harg2 arg3 harg3 x0 x1 q 0 t)⟩ :: sBefore q ts L

/-- The stores of the scores of query tile `q`. -/
def sTile (q : Fin 8) (ts : List (Fin 8)) (L : List (SPiece F)) : List (SPiece F) :=
  ⟨blkRect (half q) 1 q, stored (sDiag arg2 harg2 arg3 harg3 x0 x1 q 1)⟩ ::
    ⟨blkRect (half q) 0 q, stored (sDiag arg2 harg2 arg3 harg3 x0 x1 q 0)⟩ :: sBefore arg2 harg2 arg3 harg3 x0 x1 q ts L

/-- The row maxima of head `j` at query tile `q`: over the key tiles `t0`, `ts` before the diagonal, then the diagonal. -/
def shiftAt (q : Fin 8) (j : Fin 2) : List (Fin 8) → FVec F S256x1 .f32
  | [] => shiftOf (rowMax (sDiag arg2 harg2 arg3 harg3 x0 x1 q j) [])
  | t :: ts => shiftOf (rowMax (sBlk arg2 harg2 arg3 harg3 x0 x1 q j t)
      ((ts.map fun t => sBlk arg2 harg2 arg3 harg3 x0 x1 q j t) ++ [sDiag arg2 harg2 arg3 harg3 x0 x1 q j]))

/-- The stores of head `j`'s weights at query tile `q`, key tiles `ts` (the last store first), the scores read back from `S`. -/
def pHead (q : Fin 8) (up : List (Fin 8)) (S : List (SPiece F)) (j : Fin 2) : List (Fin 8) → List (PPiece F) → List (PPiece F)
  | [], L => L
  | t :: ts, L => ⟨blkRect (half q) j t, weights (arg6.view.readCov S (blkRect (half q) j t).toLoadRect)
      (shiftAt arg2 harg2 arg3 harg3 x0 x1 q j up)⟩ :: pHead q up S j ts L

/-- The stores of the weights of query tile `q`: `up` the key tiles before the diagonal in increasing order, `dn` all of them
    in decreasing order. -/
def pTile (q : Fin 8) (up dn : List (Fin 8)) (S : List (SPiece F)) (L : List (PPiece F)) : List (PPiece F) :=
  pHead arg2 harg2 arg3 harg3 arg6 x0 x1 q up S 1 dn (pHead arg2 harg2 arg3 harg3 arg6 x0 x1 q up S 0 dn L)

/-- The key tiles before tile `q`, in increasing and in decreasing order. -/
def below : Fin 8 → List (Fin 8)
  | 0 => [] | 1 => [0] | 2 => [0, 1] | 3 => [0, 1, 2] | 4 => [0, 1, 2, 3] | 5 => [0, 1, 2, 3, 4]
  | 6 => [0, 1, 2, 3, 4, 5] | 7 => [0, 1, 2, 3, 4, 5, 6]

def belowDown : Fin 8 → List (Fin 8)
  | 0 => [] | 1 => [0] | 2 => [1, 0] | 3 => [2, 1, 0] | 4 => [3, 2, 1, 0] | 5 => [4, 3, 2, 1, 0]
  | 6 => [5, 4, 3, 2, 1, 0] | 7 => [6, 5, 4, 3, 2, 1, 0]

/-- The score stores of the first `n` tiles treated (tiles 7, 6, …), the last store first. -/
def sAll : Nat → List (SPiece F)
  | 0 => []
  | n + 1 => sTile arg2 harg2 arg3 harg3 x0 x1 ⟨7 - n, by omega⟩ (belowDown ⟨7 - n, by omega⟩) (sAll n)

/-- The weight stores of the first `n` tiles treated. -/
def pAll : Nat → List (PPiece F)
  | 0 => []
  | n + 1 => pTile arg2 harg2 arg3 harg3 arg6 x0 x1 ⟨7 - n, by omega⟩ (below ⟨7 - n, by omega⟩)
      ((⟨7 - n, by omega⟩ : Fin 8) :: belowDown ⟨7 - n, by omega⟩) (sAll arg2 harg2 arg3 harg3 x0 x1 (n + 1)) (pAll n)

/-! ## The lists the run names -/

variable (c : Dev nD)

theorem s_1 : kernelRun0_A.sl.HS0_16 c arg2 harg2 arg3 harg3 x0 x1 = sAll arg2 harg2 arg3 harg3 x0 x1 1 := rfl
theorem s_2 : kernelRun0_A.sl.HS0_30 c arg2 harg2 arg3 harg3 x0 x1 = sAll arg2 harg2 arg3 harg3 x0 x1 2 := rfl
theorem s_3 : kernelRun0_A.sl.HS0_42 c arg2 harg2 arg3 harg3 x0 x1 = sAll arg2 harg2 arg3 harg3 x0 x1 3 := rfl
theorem s_4 : kernelRun0_A.sl.HS0_52 c arg2 harg2 arg3 harg3 x0 x1 = sAll arg2 harg2 arg3 harg3 x0 x1 4 := rfl
theorem s_5 : kernelRun0_A.sl.HS0_60 c arg2 harg2 arg3 harg3 x0 x1 = sAll arg2 harg2 arg3 harg3 x0 x1 5 := rfl
theorem s_6 : kernelRun0_A.sl.HS0_66 c arg2 harg2 arg3 harg3 x0 x1 = sAll arg2 harg2 arg3 harg3 x0 x1 6 := rfl
theorem s_7 : kernelRun0_A.sl.HS0_70 c arg2 harg2 arg3 harg3 x0 x1 = sAll arg2 harg2 arg3 harg3 x0 x1 7 := rfl
theorem s_8 : kernelRun0_A.sl.HS0_72 c arg2 harg2 arg3 harg3 x0 x1 = sAll arg2 harg2 arg3 harg3 x0 x1 8 := rfl

theorem p_1 : kernelRun0_A.sl.HS1_16 c arg2 harg2 arg3 harg3 arg6 x0 x1 = pAll arg2 harg2 arg3 harg3 arg6 x0 x1 1 := rfl
theorem p_2 : kernelRun0_A.sl.HS1_30 c arg2 harg2 arg3 harg3 arg6 x0 x1 = pAll arg2 harg2 arg3 harg3 arg6 x0 x1 2 := rfl
theorem p_3 : kernelRun0_A.sl.HS1_42 c arg2 harg2 arg3 harg3 arg6 x0 x1 = pAll arg2 harg2 arg3 harg3 arg6 x0 x1 3 := rfl
theorem p_4 : kernelRun0_A.sl.HS1_52 c arg2 harg2 arg3 harg3 arg6 x0 x1 = pAll arg2 harg2 arg3 harg3 arg6 x0 x1 4 := rfl
theorem p_5 : kernelRun0_A.sl.HS1_60 c arg2 harg2 arg3 harg3 arg6 x0 x1 = pAll arg2 harg2 arg3 harg3 arg6 x0 x1 5 := rfl
theorem p_6 : kernelRun0_A.sl.HS1_66 c arg2 harg2 arg3 harg3 arg6 x0 x1 = pAll arg2 harg2 arg3 harg3 arg6 x0 x1 6 := rfl
theorem p_7 : kernelRun0_A.sl.HS1_70 c arg2 harg2 arg3 harg3 arg6 x0 x1 = pAll arg2 harg2 arg3 harg3 arg6 x0 x1 7 := rfl
theorem p_8 : kernelRun0_A.sl.HS1_72 c arg2 harg2 arg3 harg3 arg6 x0 x1 = pAll arg2 harg2 arg3 harg3 arg6 x0 x1 8 := rfl

end Tiles

/-! ## The outputs -/

section Out

variable (arg2 : Memref sig .tc .vmem S1x1x2048x256 .bf16) (harg2 : arg2.IsWhole)
  (arg3 : Memref sig .tc .vmem S1x1x2048x256 .bf16) (harg3 : arg3.IsWhole)
  (arg4 : Memref sig .tc .vmem S1x1x2048x128 .bf16) (harg4 : arg4.IsWhole)
  (arg6 : Memref sig .tc .vmem S2x512x2048 .f32) (arg7 : Memref sig .tc .vmem S2x512x2048 .bf16)
  (arg8 : Memref sig .tc .vmem S2048x256 .bf16)
  (x0 x1 : Vec F S1x1x2048x256 .bf16) (x2 : Vec F S1x1x2048x128 .bf16)

/-- The stores of the value buffer: the values in lanes 0 to 127, ones in lanes 128 to 255. -/
def vAll : List (View.Piece (Elt F) S2048x256 .bf16) :=
  [⟨Rect.unit ![0, 128] S2048x128.size (by decide), k0_pay7⟩,
   ⟨Rect.unit ![0, 0] S2048x128.size (by decide),
    k0_pay6
      (arg4.view.readAt (Elt F) (Rect.unit (s := S1x1x2048x128) ![0, 0, 0, 0] S1x1x2048x128.size (by decide)).toLoadRect
        (harg4.unread x2))⟩]

theorem inb_weights (b : Fin 2) (q : Fin 8) :
    ∀ a, (![b.val, 0, 0] : Fin 3 → Nat) a + (![1, 512, 256 * (q.val + 1)] : Fin 3 → Nat) a ≤ S2x512x2048.size a := by
  intro a; have := q.isLt; have := b.isLt; fin_cases a <;> simp <;> omega

theorem inb_values (q : Fin 8) :
    ∀ a, (![0, 0] : Fin 2 → Nat) a + (![256 * (q.val + 1), 256] : Fin 2 → Nat) a ≤ S2048x256.size a := by
  intro a; have := q.isLt; fin_cases a <;> simp <;> omega

theorem inb_out (q : Fin 8) :
    ∀ a, (![0, 0, 256 * q.val, 0] : Fin 4 → Nat) a + S1x1x256x128.size a ≤ S1x1x2048x128.size a := by
  intro a; have := q.isLt; fin_cases a <;> simp <;> omega

theorem casts_weights (q : Fin 8) : (Cube 1 512 (256 * (q.val + 1))).ShapeCasts (Mat 512 (256 * (q.val + 1))) := by
  fin_cases q <;> decide

def pBox (q : Fin 8) : Rect S2x512x2048 :=
  Rect.unit ![(half q).val, 0, 0] ![1, 512, 256 * (q.val + 1)] (inb_weights (half q) q)

def vBox (q : Fin 8) : Rect S2048x256 := Rect.unit ![0, 0] ![256 * (q.val + 1), 256] (inb_values q)

def oRect (q : Fin 8) : Rect S1x1x2048x128 := Rect.unit ![0, 0, 256 * q.val, 0] S1x1x256x128.size (inb_out q)

/-- The output of tile `q`. -/
def outAt (q : Fin 8) : FVec F S1x1x256x128 .bf16 :=
  outTile (256 * (q.val + 1)) (casts_weights q)
    (arg7.view.readCov (pAll arg2 harg2 arg3 harg3 arg6 x0 x1 (8 - q.val)) (pBox q).toLoadRect)
    (arg8.view.readCov (vAll arg4 harg4 x2) (vBox q).toLoadRect)

/-- The eight stores of the output block, the last first. -/
def outAll : List (View.Piece (Elt F) S1x1x2048x128 .bf16) :=
  List.ofFn fun q : Fin 8 => ⟨oRect q, outAt arg2 harg2 arg3 harg3 arg4 harg4 arg6 arg7 arg8 x0 x1 x2 q⟩

variable (c : Dev nD) (i : grid0.Coords) (arg5 : Memref sig .tc .vmem S1x1x2048x128 .bf16) (harg5 : arg5.IsWhole)
  (harg6 : arg6.IsWhole) (harg7 : arg7.IsWhole) (harg8 : arg8.IsWhole)

theorem v_eq : kernelRun0_A.sl.HS2_2 c arg4 harg4 x2 = vAll arg4 harg4 x2 := rfl

theorem o_0 : k0_pay2 kernelRun0_A.sl.v23 (kernelRun0_A.sl.v1627 (F := F) c arg2 harg2 arg3 harg3 arg6 arg7 x0 x1) (kernelRun0_A.sl.v1629 (F := F) c arg4 harg4 arg8 x2) = outAt arg2 harg2 arg3 harg3 arg4 harg4 arg6 arg7 arg8 x0 x1 x2 0 := by
  unfold kernelRun0_A.sl.v1627 kernelRun0_A.sl.v1629
  rw [p_8, v_eq]
  unfold outAt
  rw [show 8 - (0 : Fin 8).val = 8 from rfl]
  generalize pAll arg2 harg2 arg3 harg3 arg6 x0 x1 8 = L
  generalize vAll arg4 harg4 x2 = W
  rfl

theorem o_1 : k0_pay348 kernelRun0_A.sl.v23 (kernelRun0_A.sl.v1555 (F := F) c arg2 harg2 arg3 harg3 arg6 arg7 x0 x1) (kernelRun0_A.sl.v1557 (F := F) c arg4 harg4 arg8 x2) = outAt arg2 harg2 arg3 harg3 arg4 harg4 arg6 arg7 arg8 x0 x1 x2 1 := by
  unfold kernelRun0_A.sl.v1555 kernelRun0_A.sl.v1557
  rw [p_7, v_eq]
  unfold outAt
  rw [show 8 - (1 : Fin 8).val = 7 from rfl]
  generalize pAll arg2 harg2 arg3 harg3 arg6 x0 x1 7 = L
  generalize vAll arg4 harg4 x2 = W
  rfl

theorem o_2 : k0_pay322 kernelRun0_A.sl.v23 (kernelRun0_A.sl.v1446 (F := F) c arg2 harg2 arg3 harg3 arg6 arg7 x0 x1) (kernelRun0_A.sl.v1448 (F := F) c arg4 harg4 arg8 x2) = outAt arg2 harg2 arg3 harg3 arg4 harg4 arg6 arg7 arg8 x0 x1 x2 2 := by
  unfold kernelRun0_A.sl.v1446 kernelRun0_A.sl.v1448
  rw [p_6, v_eq]
  unfold outAt
  rw [show 8 - (2 : Fin 8).val = 6 from rfl]
  generalize pAll arg2 harg2 arg3 harg3 arg6 x0 x1 6 = L
  generalize vAll arg4 harg4 x2 = W
  rfl

theorem o_3 : k0_pay292 kernelRun0_A.sl.v23 (kernelRun0_A.sl.v1300 (F := F) c arg2 harg2 arg3 harg3 arg6 arg7 x0 x1) (kernelRun0_A.sl.v1302 (F := F) c arg4 harg4 arg8 x2) = outAt arg2 harg2 arg3 harg3 arg4 harg4 arg6 arg7 arg8 x0 x1 x2 3 := by
  unfold kernelRun0_A.sl.v1300 kernelRun0_A.sl.v1302
  rw [p_5, v_eq]
  unfold outAt
  rw [show 8 - (3 : Fin 8).val = 5 from rfl]
  generalize pAll arg2 harg2 arg3 harg3 arg6 x0 x1 5 = L
  generalize vAll arg4 harg4 x2 = W
  rfl

theorem o_4 : k0_pay254 kernelRun0_A.sl.v23 (kernelRun0_A.sl.r_78 (F := F) c arg2 harg2 arg3 harg3 arg6 arg7 x0 x1) (kernelRun0_A.sl.v1119 (F := F) c arg4 harg4 arg8 x2) = outAt arg2 harg2 arg3 harg3 arg4 harg4 arg6 arg7 arg8 x0 x1 x2 4 := by
  unfold kernelRun0_A.sl.r_78 kernelRun0_A.sl.v1117 kernelRun0_A.sl.v1119
  rw [p_4, v_eq]
  unfold outAt
  rw [show 8 - (4 : Fin 8).val = 4 from rfl]
  generalize pAll arg2 harg2 arg3 harg3 arg6 x0 x1 4 = L
  generalize vAll arg4 harg4 x2 = W
  rfl

theorem o_5 : k0_pay206 (kernelRun0_A.sl.r_64 (F := F) c arg2 harg2 arg3 harg3 arg4 harg4 arg6 arg7 arg8 x0 x1 x2) = outAt arg2 harg2 arg3 harg3 arg4 harg4 arg6 arg7 arg8 x0 x1 x2 5 := by
  unfold kernelRun0_A.sl.r_64 kernelRun0_A.sl.v897 kernelRun0_A.sl.v899
  rw [p_3, v_eq]
  unfold outAt
  rw [show 8 - (5 : Fin 8).val = 3 from rfl]
  generalize pAll arg2 harg2 arg3 harg3 arg6 x0 x1 3 = L
  generalize vAll arg4 harg4 x2 = W
  rfl

theorem o_6 : k0_pay147 kernelRun0_A.sl.v23 (kernelRun0_A.sl.v640 (F := F) c arg2 harg2 arg3 harg3 arg6 arg7 x0 x1) (kernelRun0_A.sl.v642 (F := F) c arg4 harg4 arg8 x2) = outAt arg2 harg2 arg3 harg3 arg4 harg4 arg6 arg7 arg8 x0 x1 x2 6 := by
  unfold kernelRun0_A.sl.v640 kernelRun0_A.sl.v642
  rw [p_2, v_eq]
  unfold outAt
  rw [show 8 - (6 : Fin 8).val = 2 from rfl]
  generalize pAll arg2 harg2 arg3 harg3 arg6 x0 x1 2 = L
  generalize vAll arg4 harg4 x2 = W
  rfl

theorem o_7 : k0_pay81 kernelRun0_A.sl.v23 (kernelRun0_A.sl.r_22 (F := F) c arg2 harg2 arg3 harg3 arg6 arg7 x0 x1) (kernelRun0_A.sl.v348 (F := F) c arg4 harg4 arg8 x2) = outAt arg2 harg2 arg3 harg3 arg4 harg4 arg6 arg7 arg8 x0 x1 x2 7 := by
  unfold kernelRun0_A.sl.r_22 kernelRun0_A.sl.v346 kernelRun0_A.sl.v348
  rw [p_1, v_eq]
  unfold outAt
  rw [show 8 - (7 : Fin 8).val = 1 from rfl]
  generalize pAll arg2 harg2 arg3 harg3 arg6 x0 x1 1 = L
  generalize vAll arg4 harg4 x2 = W
  rfl

theorem out_eq : (kernelRun0_A c i arg2 harg2 arg3 harg3 arg4 harg4 arg5 harg5 arg6 harg6 arg7 harg7 arg8 harg8 x0 x1 x2).1 =
    outAll arg2 harg2 arg3 harg3 arg4 harg4 arg6 arg7 arg8 x0 x1 x2 := by
  unfold kernelRun0_A
  dsimp only
  rw [o_0, o_1, o_2, o_3, o_4, o_5, o_6, o_7]
  rfl

end Out

end Cert.Mla
-- ==== Proof.Stores.lean ====
/-
  What a buffer reads after a list of stores, the last first: where every store of the newest part of the list writes the
  values of one function and some store of it covers an index, the buffer reads that function there.
-/
module

public import Idealize.ShloMosaic.Lib.Pipeline.FrameBody

@[expose] public section

noncomputable section

namespace Cert.Stores

open Idealize.ShloMosaic Idealize.ShloMosaic.View

variable {Val : EltTy → Type} [∀ e, Nonempty (Val e)] {s : Shape} {e : EltTy}

theorem canon_agree (G : s.Idx → Val e) (rest : List (Piece Val s e)) (y : s.Idx) :
    ∀ L : List (Piece Val s e), (∀ p ∈ L, ∀ k, p.2 k = G (p.1.emb k)) → (∃ p ∈ L, y ∈ p.1.set) →
      canon (L ++ rest) y = G y
  | [], _, h => by obtain ⟨p, hp, _⟩ := h; cases hp
  | p :: L, hL, h => by
    by_cases hy : y ∈ p.1.set
    · obtain ⟨k, rfl⟩ : ∃ k, p.1.emb k = y := by
        choose j hj e using (LoadRect.mem_set _).1 hy
        exact ⟨fun a => ⟨j a, hj a⟩, funext fun a => Fin.ext (e a).symm⟩
      exact (canon_cons_emb p.1 p.2 (L ++ rest) k).trans (hL p (List.mem_cons_self ..) k)
    · rw [List.cons_append, canon_cons_of_not_mem _ _ hy]
      refine canon_agree G rest y L (fun p' h' => hL p' (List.mem_cons_of_mem _ h')) ?_
      obtain ⟨p', hp', hm⟩ := h
      rcases List.mem_cons.1 hp' with rfl | h'
      · exact absurd hm hy
      · exact ⟨p', h', hm⟩

end Cert.Stores
-- ==== Proof.MlaTile.lean ====
/-
  What the stores of one grid point hold, over the extended reals: the scores' buffer holds the masked scores, the
  weights' buffer the weights, the value buffer the values and ones, and a tile's output the weighted means of its rows.
-/
module

public import proofs.«01_k».proof.Proof.MlaPieces
public import proofs.«01_k».proof.Proof.AttnMath
public import proofs.«01_k».proof.Proof.Stores
public import Idealize.ShloMosaic.Lib.WholeRead

@[expose] public section

noncomputable section

namespace Cert.Mla

open Cert.KernelIdeal Cert.KernelIdeal.Gen Idealize.ShloMosaic Idealize.ShloMosaic.TcCoe Idealize.SL.Sem Cert.Attn Cert.Stores

variable (arg2 : Memref sig .tc .vmem S1x1x2048x256 .bf16) (harg2 : arg2.IsWhole)
  (arg3 : Memref sig .tc .vmem S1x1x2048x256 .bf16) (harg3 : arg3.IsWhole)
  (arg4 : Memref sig .tc .vmem S1x1x2048x128 .bf16) (harg4 : arg4.IsWhole)
  (arg6 : Memref sig .tc .vmem S2x512x2048 .f32) (arg7 : Memref sig .tc .vmem S2x512x2048 .bf16)
  (arg8 : Memref sig .tc .vmem S2048x256 .bf16)
  (x0 x1 : Vec Ideal S1x1x2048x256 .bf16) (x2 : Vec Ideal S1x1x2048x128 .bf16)

/-- Row `256·t + r`. -/
def row (t : Fin 8) (r : Fin 256) : Fin 2048 := ⟨256 * t.val + r.val, by omega⟩

/-- The rows of a block of queries or keys. -/
def rows (x : Vec Ideal S1x1x2048x256 .bf16) (R : Fin 2048) (l : Fin 256) : EReal := x (ix4 0 0 R l)

theorem rowsOf_apply (m : Memref sig .tc .vmem S1x1x2048x256 .bf16) (hm : m.IsWhole) (x : Vec Ideal S1x1x2048x256 .bf16)
    (t : Fin 8) (r l : Fin 256) : rowsOf (F := Ideal) m hm x t (ix2 r l) = rows x (row t r) l := by
  unfold rowsOf
  pointwise
  refine (Memref.IsWhole.readAt_unread hm x _ _).trans (congrArg x ?_)
  funext a
  apply Fin.ext
  match a with
  | ⟨0, _⟩ => rfl
  | ⟨1, _⟩ => rfl
  | ⟨2, _⟩ => show 256 * t.val + 1 * r.val = 256 * t.val + r.val; omega
  | ⟨3, _⟩ => show 0 + 1 * l.val = l.val; omega

/-- The masked scores of row `R` for head `j`. -/
def line (j : Fin 2) (R : Fin 2048) : Fin 2048 → EReal := past (score (rows x0) (rows x1) j R) R

theorem sBlk_apply (q : Fin 8) (j : Fin 2) (t : Fin 8) (r c : Fin 256) :
    sBlk (F := Ideal) arg2 harg2 arg3 harg3 x0 x1 q j t (ix2 r c) = score (rows x0) (rows x1) j (row q r) (row t c) := by
  unfold sBlk s2
  rw [headOf_apply, scores_apply]
  refine Finset.sum_congr rfl fun l _ => ?_
  rw [qPair_masks_apply, rowsOf_apply, rowsOf_apply]

theorem sBlk_line (q : Fin 8) (j : Fin 2) (t : Fin 8) (h : t < q) (r c : Fin 256) :
    sBlk (F := Ideal) arg2 harg2 arg3 harg3 x0 x1 q j t (ix2 r c) = line x0 x1 j (row q r) (row t c) := by
  rw [sBlk_apply]
  exact (if_pos (by show 256 * t.val + c.val ≤ 256 * q.val + r.val; have : t.val < q.val := h; omega)).symm

theorem sDiag_apply (q : Fin 8) (j : Fin 2) (r c : Fin 256) :
    sDiag (F := Ideal) arg2 harg2 arg3 harg3 x0 x1 q j (ix2 r c) = line x0 x1 j (row q r) (row q c) := by
  unfold sDiag
  rw [diag_apply, sBlk_apply]
  exact if_congr (by simp only [row, Fin.le_def]; omega) rfl rfl

theorem mem_below (q t : Fin 8) : t ∈ below q ↔ t < q := by revert q t; decide

theorem mem_belowDown (q t : Fin 8) : t ∈ belowDown q ↔ t < q := by revert q t; decide

theorem shiftAt_tiles (q : Fin 8) (j : Fin 2) (r : Fin 256) (u : Fin 1) (a : EReal) (l : List (Fin 8)) :
    shiftAt (F := Ideal) arg2 harg2 arg3 harg3 x0 x1 q j l (ix2 r u) ≤ a ↔
      (∀ t ∈ l, ∀ c, sBlk (F := Ideal) arg2 harg2 arg3 harg3 x0 x1 q j t (ix2 r c) ≤ a) ∧
        ∀ c, sDiag (F := Ideal) arg2 harg2 arg3 harg3 x0 x1 q j (ix2 r c) ≤ a := by
  cases l with
  | nil => unfold shiftAt; rw [shift_le]; simp
  | cons t ts =>
    unfold shiftAt
    rw [shift_le]
    simp only [List.mem_cons, List.mem_append, List.mem_map, List.not_mem_nil, or_false, forall_eq_or_imp, or_imp, forall_and,
      forall_exists_index, and_imp, forall_apply_eq_imp_iff₂, forall_eq, and_assoc]

theorem row_surj (C : Fin 2048) : ∃ t c, C = row t c :=
  ⟨⟨C.val / 256, by omega⟩, ⟨C.val % 256, by omega⟩, Fin.ext (by simp only [row]; omega)⟩

theorem shiftAt_apply (q : Fin 8) (j : Fin 2) (r : Fin 256) (u : Fin 1) :
    shiftAt (F := Ideal) arg2 harg2 arg3 harg3 x0 x1 q j (below q) (ix2 r u) = top (line x0 x1 j (row q r)) := by
  refine eq_of_forall_ge_iff fun a => ?_
  rw [shiftAt_tiles, top_le]
  constructor
  · rintro ⟨h1, h2⟩ C
    obtain ⟨t, c, rfl⟩ := row_surj C
    rcases lt_trichotomy t q with h | rfl | h
    · rw [← sBlk_line arg2 harg2 arg3 harg3 x0 x1 q j t h]; exact h1 t ((mem_below q t).2 h) c
    · rw [← sDiag_apply arg2 harg2 arg3 harg3]; exact h2 c
    · have : line x0 x1 j (row q r) (row t c) = ⊥ := if_neg (by
        show ¬ 256 * t.val + c.val ≤ 256 * q.val + r.val
        have : q.val < t.val := h
        omega)
      rw [this]; exact bot_le
  · intro h
    refine ⟨fun t ht c => ?_, fun c => ?_⟩
    · rw [sBlk_line arg2 harg2 arg3 harg3 x0 x1 q j t ((mem_below q t).1 ht)]; exact h _
    · rw [sDiag_apply]; exact h _

/-! ## The scores' buffer -/

theorem sBefore_append (q : Fin 8) (L : List (SPiece Ideal)) : ∀ ts : List (Fin 8),
    sBefore (F := Ideal) arg2 harg2 arg3 harg3 x0 x1 q ts L = sBefore (F := Ideal) arg2 harg2 arg3 harg3 x0 x1 q ts [] ++ L
  | [] => rfl
  | t :: ts => by simp only [sBefore, List.cons_append]; rw [sBefore_append q L ts]

theorem mem_sBefore (q : Fin 8) (p : SPiece Ideal) : ∀ ts : List (Fin 8),
    p ∈ sBefore (F := Ideal) arg2 harg2 arg3 harg3 x0 x1 q ts [] ↔ ∃ t ∈ ts, ∃ j : Fin 2,
      p = ⟨blkRect (half q) j t, stored (sBlk (F := Ideal) arg2 harg2 arg3 harg3 x0 x1 q j t)⟩
  | [] => by simp [sBefore]
  | t :: ts => by
    simp only [sBefore, List.mem_cons, mem_sBefore q p ts, exists_eq_or_imp, Fin.exists_fin_two]
    exact ⟨fun h => by rcases h with h | h | h; exacts [.inl (.inr h), .inl (.inl h), .inr h],
      fun h => by rcases h with (h | h) | h; exacts [.inr (.inl h), .inl h, .inr (.inr h)]⟩

/-- The masked scores of tile `q`, at an index of the buffer. -/
def sHeld (q : Fin 8) (y : S2x512x2048.Idx) : EReal :=
  line x0 x1 ⟨(y 1).val / 256, by have : (y 1).val < 512 := (y 1).isLt; omega⟩
    (row q ⟨(y 1).val % 256, Nat.mod_lt _ (by decide)⟩) (y 2)

theorem blk_emb (b j : Fin 2) (t : Fin 8) (u : Fin 1) (r c : Fin 256) :
    (blkRect b j t).emb (ix3 u r c) = ix3 (n0 := 2) (n1 := 512) (n2 := 2048) b ⟨256 * j.val + r.val, by omega⟩ (row t c) := by
  funext a
  apply Fin.ext
  match a with
  | ⟨0, _⟩ => show b.val + 1 * u.val = b.val; omega
  | ⟨1, _⟩ => show 256 * j.val + 1 * r.val = 256 * j.val + r.val; omega
  | ⟨2, _⟩ => show 256 * t.val + 1 * c.val = 256 * t.val + c.val; omega

theorem mem_blk (b j : Fin 2) (t : Fin 8) (r c : Fin 256) :
    ix3 (n0 := 2) (n1 := 512) (n2 := 2048) b ⟨256 * j.val + r.val, by omega⟩ (row t c) ∈ (blkRect b j t).set := by
  rw [← blk_emb b j t 0 r c]
  exact LoadRect.idx_mem _ _

theorem sHeld_blk (q : Fin 8) (b j : Fin 2) (t : Fin 8) (r c : Fin 256) :
    sHeld x0 x1 q (ix3 (n0 := 2) (n1 := 512) (n2 := 2048) b ⟨256 * j.val + r.val, by omega⟩ (row t c))
      = line x0 x1 j (row q r) (row t c) := by
  have h1 : (⟨(256 * j.val + r.val) / 256, by omega⟩ : Fin 2) = j := Fin.ext (by simp only; omega)
  have h2 : (⟨(256 * j.val + r.val) % 256, by omega⟩ : Fin 256) = r := Fin.ext (by simp only; omega)
  show line x0 x1 ⟨(256 * j.val + r.val) / 256, _⟩ (row q ⟨(256 * j.val + r.val) % 256, _⟩) (row t c) = _
  rw [h1, h2]

theorem sTile_canon (q : Fin 8) (L : List (SPiece Ideal)) (j : Fin 2) (t : Fin 8) (ht : t ≤ q) (r c : Fin 256) :
    View.canon (sTile (F := Ideal) arg2 harg2 arg3 harg3 x0 x1 q (belowDown q) L)
        (ix3 (n0 := 2) (n1 := 512) (n2 := 2048) (half q) ⟨256 * j.val + r.val, by omega⟩ (row t c))
      = line x0 x1 j (row q r) (row t c) := by
  have e : sTile (F := Ideal) arg2 harg2 arg3 harg3 x0 x1 q (belowDown q) L
      = sTile (F := Ideal) arg2 harg2 arg3 harg3 x0 x1 q (belowDown q) [] ++ L := by
    unfold sTile; rw [sBefore_append]; rfl
  rw [e, ← sHeld_blk x0 x1 q (half q)]
  refine canon_agree (sHeld x0 x1 q) L _ _ ?_ ?_
  · intro p hp k
    have : (∃ j : Fin 2, p = ⟨blkRect (half q) j q, stored (sDiag (F := Ideal) arg2 harg2 arg3 harg3 x0 x1 q j)⟩) ∨
        ∃ t ∈ belowDown q, ∃ j : Fin 2, p = ⟨blkRect (half q) j t, stored (sBlk (F := Ideal) arg2 harg2 arg3 harg3 x0 x1 q j t)⟩ := by
      rw [← mem_sBefore, Fin.exists_fin_two]
      unfold sTile at hp
      simp only [List.mem_cons] at hp
      tauto
    rcases this with ⟨j', rfl⟩ | ⟨t', ht', j', rfl⟩
    · obtain ⟨u, r', c', rfl⟩ : ∃ u r' c', k = ix3 (n0 := 1) (n1 := 256) (n2 := 256) u r' c' := ⟨k 0, k 1, k 2, eq_ix3 k⟩
      rw [blk_emb, sHeld_blk]
      exact (stored_apply _ u r' c').trans (sDiag_apply ..)
    · obtain ⟨u, r', c', rfl⟩ : ∃ u r' c', k = ix3 (n0 := 1) (n1 := 256) (n2 := 256) u r' c' := ⟨k 0, k 1, k 2, eq_ix3 k⟩
      rw [blk_emb, sHeld_blk]
      exact (stored_apply _ u r' c').trans (sBlk_line _ _ _ _ _ _ _ _ _ ((mem_belowDown q t').1 ht') ..)
  · rcases lt_or_eq_of_le ht with h | rfl
    · refine ⟨⟨blkRect (half q) j t, stored (sBlk (F := Ideal) arg2 harg2 arg3 harg3 x0 x1 q j t)⟩, ?_, mem_blk _ _ _ _ _⟩
      unfold sTile
      exact List.mem_cons_of_mem _ (List.mem_cons_of_mem _ ((mem_sBefore ..).2 ⟨t, (mem_belowDown q t).2 h, j, rfl⟩))
    · refine ⟨⟨blkRect (half t) j t, stored (sDiag (F := Ideal) arg2 harg2 arg3 harg3 x0 x1 t j)⟩, ?_, mem_blk _ _ _ _ _⟩
      unfold sTile
      match j with
      | 0 => exact List.mem_cons_of_mem _ (List.mem_cons_self ..)
      | 1 => exact List.mem_cons_self ..

/-! ## The weights' buffer -/

/-- The weights of tile `q`, at an index of the buffer. -/
def pHeld (q : Fin 8) (y : S2x512x2048.Idx) : EReal :=
  weight (line x0 x1 ⟨(y 1).val / 256, by have : (y 1).val < 512 := (y 1).isLt; omega⟩
    (row q ⟨(y 1).val % 256, Nat.mod_lt _ (by decide)⟩)) (y 2)

theorem pHeld_blk (q : Fin 8) (b j : Fin 2) (t : Fin 8) (r c : Fin 256) :
    pHeld x0 x1 q (ix3 (n0 := 2) (n1 := 512) (n2 := 2048) b ⟨256 * j.val + r.val, by omega⟩ (row t c))
      = weight (line x0 x1 j (row q r)) (row t c) := by
  have h1 : (⟨(256 * j.val + r.val) / 256, by omega⟩ : Fin 2) = j := Fin.ext (by simp only; omega)
  have h2 : (⟨(256 * j.val + r.val) % 256, by omega⟩ : Fin 256) = r := Fin.ext (by simp only; omega)
  show weight (line x0 x1 ⟨(256 * j.val + r.val) / 256, _⟩ (row q ⟨(256 * j.val + r.val) % 256, _⟩)) (row t c) = _
  rw [h1, h2]

/-- The store of head `j`'s weights of key tile `t`. -/
def pStore (q : Fin 8) (S : List (SPiece Ideal)) (j : Fin 2) (t : Fin 8) : PPiece Ideal :=
  ⟨blkRect (half q) j t, weights (arg6.view.readCov S (blkRect (half q) j t).toLoadRect)
      (shiftAt (F := Ideal) arg2 harg2 arg3 harg3 x0 x1 q j (below q))⟩

theorem pHead_append (q : Fin 8) (S : List (SPiece Ideal)) (j : Fin 2) (L : List (PPiece Ideal)) : ∀ ts : List (Fin 8),
    pHead (F := Ideal) arg2 harg2 arg3 harg3 arg6 x0 x1 q (below q) S j ts L
      = ts.map (pStore arg2 harg2 arg3 harg3 arg6 x0 x1 q S j) ++ L
  | [] => rfl
  | t :: ts => by simp only [pHead, List.map_cons, List.cons_append]; rw [pHead_append q S j L ts]; rfl

theorem pTile_canon (q : Fin 8) (S : List (SPiece Ideal)) (L : List (PPiece Ideal)) (j : Fin 2) (t : Fin 8) (ht : t ≤ q)
    (r c : Fin 256)
    (hS : ∀ (j : Fin 2) (t : Fin 8), t ≤ q → ∀ r c : Fin 256, View.canon S
        (ix3 (n0 := 2) (n1 := 512) (n2 := 2048) (half q) ⟨256 * j.val + r.val, by omega⟩ (row t c))
      = line x0 x1 j (row q r) (row t c)) :
    View.canon (pTile (F := Ideal) arg2 harg2 arg3 harg3 arg6 x0 x1 q (below q) (q :: belowDown q) S L)
        (ix3 (n0 := 2) (n1 := 512) (n2 := 2048) (half q) ⟨256 * j.val + r.val, by omega⟩ (row t c))
      = weight (line x0 x1 j (row q r)) (row t c) := by
  unfold pTile
  rw [pHead_append, pHead_append, ← List.append_assoc, ← pHeld_blk x0 x1 q (half q)]
  have mem : ∀ t : Fin 8, t ∈ q :: belowDown q ↔ t ≤ q := fun t => by
    rw [List.mem_cons, mem_belowDown, le_iff_eq_or_lt]
  refine canon_agree (pHeld x0 x1 q) L _ _ ?_ ?_
  · intro p hp k
    obtain ⟨j', t', ht', rfl⟩ : ∃ j' t', t' ≤ q ∧ p = pStore arg2 harg2 arg3 harg3 arg6 x0 x1 q S j' t' := by
      rcases List.mem_append.1 hp with h | h <;> obtain ⟨t', h', rfl⟩ := List.mem_map.1 h
      · exact ⟨1, t', (mem t').1 h', rfl⟩
      · exact ⟨0, t', (mem t').1 h', rfl⟩
    obtain ⟨u, r', c', rfl⟩ : ∃ u r' c', k = ix3 (n0 := 1) (n1 := 256) (n2 := 256) u r' c' := ⟨k 0, k 1, k 2, eq_ix3 k⟩
    unfold pStore
    rw [blk_emb, pHeld_blk]
    refine (weights_apply _ _ u r' c').trans ?_
    rw [shiftAt_apply]
    refine congrArg (fun z => Ideal.exp2 (z - top (line x0 x1 j' (row q r')))) ?_
    refine (congrFun (View.readCov_eq_canon' ..) _).trans ?_
    exact (congrArg (View.canon S) (blk_emb (half q) j' t' 0 r' c')).trans (hS j' t' ht' r' c')
  · refine ⟨pStore arg2 harg2 arg3 harg3 arg6 x0 x1 q S j t, ?_, mem_blk _ _ _ _ _⟩
    match j with
    | 1 => exact List.mem_append_left _ (List.mem_map_of_mem ((mem t).2 ht))
    | 0 => exact List.mem_append_right _ (List.mem_map_of_mem ((mem t).2 ht))

theorem pAll_canon (q : Fin 8) (j : Fin 2) (t : Fin 8) (ht : t ≤ q) (r c : Fin 256) :
    View.canon (pAll (F := Ideal) arg2 harg2 arg3 harg3 arg6 x0 x1 (8 - q.val))
        (ix3 (n0 := 2) (n1 := 512) (n2 := 2048) (half q) ⟨256 * j.val + r.val, by omega⟩ (row t c))
      = weight (line x0 x1 j (row q r)) (row t c) := by
  obtain ⟨n, hn, hq⟩ : ∃ n, ∃ hn : n < 8, q = ⟨7 - n, by omega⟩ := ⟨7 - q.val, by omega, Fin.ext (by simp only; omega)⟩
  have e : 8 - q.val = n + 1 := by rw [hq]; simp only; omega
  rw [e]
  unfold pAll
  rw [← hq]
  refine pTile_canon arg2 harg2 arg3 harg3 arg6 x0 x1 q _ _ j t ht r c ?_
  intro j t ht r c
  unfold sAll
  rw [← hq]
  exact sTile_canon arg2 harg2 arg3 harg3 x0 x1 q _ j t ht r c

/-! ## The value buffer -/

theorem vAll_low (C : Fin 2048) (e : Fin 128) :
    View.canon (vAll (F := Ideal) arg4 harg4 x2) (ix2 (n0 := 2048) (n1 := 256) C ⟨e.val, by omega⟩) = x2 (ix4 0 0 C e) := by
  unfold vAll
  rw [View.canon_cons_of_not_mem _ _ (by
    rw [Rect.mem_set_unit]
    intro h
    have := (h 1).1
    change 128 ≤ e.val at this
    omega)]
  have hi : ix2 (n0 := 2048) (n1 := 256) C ⟨e.val, by omega⟩
      = (Rect.unit (s := S2048x256) ![0, 0] S2048x128.size (by decide)).emb (ix2 (n0 := 2048) (n1 := 128) C e) := by
    funext a
    apply Fin.ext
    match a with
    | ⟨0, _⟩ => show C.val = 0 + 1 * C.val; omega
    | ⟨1, _⟩ => show e.val = 0 + 1 * e.val; omega
  rw [hi, View.canon_cons_emb]
  pointwise [k0_pay6]
  refine (Memref.IsWhole.readAt_unread harg4 x2 _ _).trans (congrArg x2 ?_)
  funext a
  apply Fin.ext
  match a with
  | ⟨0, _⟩ => rfl
  | ⟨1, _⟩ => rfl
  | ⟨2, _⟩ => show 0 + 1 * C.val = C.val; omega
  | ⟨3, _⟩ => show 0 + 1 * e.val = e.val; omega

theorem vAll_high (C : Fin 2048) (e : Fin 128) :
    View.canon (vAll (F := Ideal) arg4 harg4 x2) (ix2 (n0 := 2048) (n1 := 256) C ⟨128 + e.val, by omega⟩) = 1 := by
  unfold vAll
  have hi : ix2 (n0 := 2048) (n1 := 256) C ⟨128 + e.val, by omega⟩
      = (Rect.unit (s := S2048x256) ![0, 128] S2048x128.size (by decide)).emb (ix2 (n0 := 2048) (n1 := 128) C e) := by
    funext a
    apply Fin.ext
    match a with
    | ⟨0, _⟩ => show C.val = 0 + 1 * C.val; omega
    | ⟨1, _⟩ => show 128 + e.val = 128 + 1 * e.val; omega
  rw [hi, View.canon_cons_emb]
  pointwise [k0_pay7]

/-! ## A tile's output -/

theorem outAt_apply (q : Fin 8) (u u' : Fin 1) (r : Fin 256) (e : Fin 128) :
    outAt (F := Ideal) arg2 harg2 arg3 harg3 arg4 harg4 arg6 arg7 arg8 x0 x1 x2 q (ix4 u u' r e)
      = mean (line x0 x1 ⟨e.val / 64, by omega⟩ (row q r)) fun C => x2 (ix4 0 0 C e) := by
  unfold outAt
  refine (outTile_apply _ _ _ _ u u' r e).trans ?_
  have hrow : ∀ C : Fin (256 * (q.val + 1)), row ⟨C.val / 256, by omega⟩ ⟨C.val % 256, by omega⟩ = ⟨C.val, by omega⟩ :=
    fun C => Fin.ext (by simp only [row]; omega)
  have hp : ∀ C : Fin (256 * (q.val + 1)), (pBox q).toLoadRect.idx (ix3 0 ⟨256 * (e.val / 64) + r.val, by omega⟩ C)
      = ix3 (n0 := 2) (n1 := 512) (n2 := 2048) (half q) ⟨256 * (⟨e.val / 64, by omega⟩ : Fin 2).val + r.val, by simp only; omega⟩
          (row ⟨C.val / 256, by omega⟩ ⟨C.val % 256, by omega⟩) := by
    intro C
    funext a
    apply Fin.ext
    match a with
    | ⟨0, _⟩ => rfl
    | ⟨1, _⟩ => show 0 + 1 * (256 * (e.val / 64) + r.val) = 256 * (e.val / 64) + r.val; omega
    | ⟨2, _⟩ => show 0 + 1 * C.val = 256 * (C.val / 256) + C.val % 256; omega
  have hv : ∀ (C : Fin (256 * (q.val + 1))) (e' : Fin 256), (vBox q).toLoadRect.idx (ix2 C e')
      = ix2 (n0 := 2048) (n1 := 256) ⟨C.val, by omega⟩ e' := by
    intro C e'
    funext a
    apply Fin.ext
    match a with
    | ⟨0, _⟩ => show 0 + 1 * C.val = C.val; omega
    | ⟨1, _⟩ => show 0 + 1 * e'.val = e'.val; omega
  have hw : ∀ C : Fin (256 * (q.val + 1)),
      arg7.view.readCov (pAll (F := Ideal) arg2 harg2 arg3 harg3 arg6 x0 x1 (8 - q.val)) (pBox q).toLoadRect
          (ix3 0 ⟨256 * (e.val / 64) + r.val, by omega⟩ C)
        = weight (line x0 x1 ⟨e.val / 64, by omega⟩ (row q r)) ⟨C.val, by omega⟩ := by
    intro C
    refine (congrFun (View.readCov_eq_canon' ..) _).trans ((congrArg _ (hp C)).trans ?_)
    rw [pAll_canon arg2 harg2 arg3 harg3 arg6 x0 x1 q _ _ (by show C.val / 256 ≤ q.val; omega), hrow]
  have hval : ∀ (C : Fin (256 * (q.val + 1))) (e' : Fin 256),
      arg8.view.readCov (vAll (F := Ideal) arg4 harg4 x2) (vBox q).toLoadRect (ix2 C e')
        = View.canon (vAll (F := Ideal) arg4 harg4 x2) (ix2 (n0 := 2048) (n1 := 256) ⟨C.val, by omega⟩ e') := fun C e' =>
    (congrFun (View.readCov_eq_canon' ..) _).trans (congrArg _ (hv C e'))
  have zero : ∀ C : Fin 2048, 256 * (q.val + 1) ≤ C.val →
      weight (line x0 x1 ⟨e.val / 64, by omega⟩ (row q r)) C = 0 := fun C hC =>
    weight_past _ _ _ (by show 256 * q.val + r.val < C.val; omega)
  unfold mean
  refine congrArg₂ Ideal.div ?_ ?_
  · refine (Finset.sum_congr rfl fun C _ => ?_).trans
      (sum_first (256 * (q.val + 1)) (by omega) _ (fun C hC => by rw [zero C hC, zero_mul]))
    exact congrArg₂ (· * ·) (hw C) ((hval C _).trans (vAll_low ..))
  · refine (Finset.sum_congr rfl fun C _ => ?_).trans (sum_first (256 * (q.val + 1)) (by omega) _ zero)
    exact (congrArg₂ (· * ·) (hw C) ((hval C _).trans (vAll_high ..))).trans (mul_one _)

end Cert.Mla
-- ==== Proof.MlaArray.lean ====
/-
  The latent attention kernel's result array, over the extended reals: at every index the weighted mean of `attn`.
-/
module

public import proofs.«01_k».proof.Proof.MlaTile
public import Idealize.ShloMosaic.Lib.Pipeline.ValueKit

@[expose] public section

set_option maxRecDepth 16384

noncomputable section

namespace Cert.Attn

open Idealize.ShloMosaic

/-- Causal attention on arrays (group, batch, row, lane): at lane `e` the weighted mean for head `e / 64`. -/
def attn (q k : (Quad 4 16 2048 256).Idx → EReal) (v : (Quad 4 16 2048 128).Idx → EReal) (g : Fin 4) (b : Fin 16) (R : Fin 2048)
    (e : Fin 128) : EReal :=
  mean (past (score (fun R l => q (ix4 g b R l)) (fun R l => k (ix4 g b R l)) ⟨e.val / 64, by omega⟩ R) R) fun C => v (ix4 g b C e)

end Cert.Attn

namespace Cert.Mla

open Cert.KernelIdeal Cert.KernelIdeal.Gen Idealize.ShloMosaic Idealize.ShloMosaic.TcCoe Idealize.SL.Sem Cert.Attn Cert.Stores

/-- The output block of a grid point. -/
theorem out_apply (c : Dev nD) (i : grid0.Coords) (arg2 : Memref sig .tc .vmem S1x1x2048x256 .bf16) (harg2 : arg2.IsWhole)
    (arg3 : Memref sig .tc .vmem S1x1x2048x256 .bf16) (harg3 : arg3.IsWhole)
    (arg4 : Memref sig .tc .vmem S1x1x2048x128 .bf16) (harg4 : arg4.IsWhole)
    (arg5 : Memref sig .tc .vmem S1x1x2048x128 .bf16) (harg5 : arg5.IsWhole)
    (arg6 : Memref sig .tc .vmem S2x512x2048 .f32) (harg6 : arg6.IsWhole) (arg7 : Memref sig .tc .vmem S2x512x2048 .bf16)
    (harg7 : arg7.IsWhole) (arg8 : Memref sig .tc .vmem S2048x256 .bf16) (harg8 : arg8.IsWhole)
    (x0 x1 : Vec Ideal S1x1x2048x256 .bf16) (x2 : Vec Ideal S1x1x2048x128 .bf16) (R : Fin 2048) (e : Fin 128) :
    out0_A_3 (F := Ideal) c i arg2 harg2 arg3 harg3 arg4 harg4 arg5 harg5 arg6 harg6 arg7 harg7 arg8 harg8 x0 x1 x2 (ix4 0 0 R e)
      = mean (line x0 x1 ⟨e.val / 64, by omega⟩ R) fun C => x2 (ix4 0 0 C e) := by
  unfold out0_A_3
  rw [View.read_writes_junk_eq_canon, out_eq, ← List.append_nil (outAll ..)]
  have emb : ∀ (q : Fin 8) (u u' : Fin 1) (r : Fin 256) (e : Fin 128),
      (oRect q).emb (ix4 u u' r e) = ix4 (n0 := 1) (n1 := 1) (n2 := 2048) (n3 := 128) 0 0 (row q r) e := by
    intro q u u' r e
    funext a
    apply Fin.ext
    match a with
    | ⟨0, _⟩ => show 0 + 1 * u.val = 0; omega
    | ⟨1, _⟩ => show 0 + 1 * u'.val = 0; omega
    | ⟨2, _⟩ => show 256 * q.val + 1 * r.val = 256 * q.val + r.val; omega
    | ⟨3, _⟩ => show 0 + 1 * e.val = e.val; omega
  refine canon_agree (Val := Elt Ideal) (e := .bf16) (fun y : S1x1x2048x128.Idx => mean (line x0 x1 ⟨(y 3).val / 64, by
      have : (y 3).val < 128 := (y 3).isLt; omega⟩ (y 2)) fun C => x2 (ix4 0 0 C (y 3))) [] (ix4 0 0 R e) _ ?_ ?_
  · intro p hp k
    obtain ⟨q, rfl⟩ := (List.mem_ofFn' _ _).1 hp
    obtain ⟨u, u', r, e, rfl⟩ : ∃ u u' r e, k = ix4 (n0 := 1) (n1 := 1) (n2 := 256) (n3 := 128) u u' r e :=
      ⟨k 0, k 1, k 2, k 3, eq_ix4 k⟩
    rw [emb]
    exact outAt_apply ..
  · obtain ⟨q, r, rfl⟩ := row_surj R
    refine ⟨⟨oRect q, _⟩, (List.mem_ofFn' _ _).2 ⟨q, rfl⟩, ?_⟩
    rw [← emb q 0 0 r e]
    exact LoadRect.idx_mem _ _

variable (m : (ℓ : Loc nD τ sig) → Buf (Elt Ideal) ℓ)

theorem index_facts : ∀ t : Fin cfg0.N, win0_0.index t = ![(grid0.coords t 0).val, (grid0.coords t 1).val, 0, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val, 0, 0] :=
  (by decide +kernel : ∀ t : Fin grid0.N, _)

/-- The result array. -/
theorem array_eq (c : Dev nD) : (dats m 0 c).arrAt 3 cfg0.N
    = fun i : S4x16x2048x128.Idx => attn (m ((c : Thread nD τ).loc main_arg0)) (m ((c : Thread nD τ).loc main_arg1))
        (m ((c : Thread nD τ).loc main_arg2)) (i 0) (i 1) (i 2) (i 3) := by
  refine (dats m 0 c).arrAt_eq_of_covers 3 _ (by decide +kernel) fun t hf y => ?_
  obtain ⟨e0, e1, e2, e3⟩ := index_facts t
  obtain ⟨u, u', R, e, rfl⟩ : ∃ u u' R e, y = ix4 (n0 := 1) (n1 := 1) (n2 := 2048) (n3 := 128) u u' R e :=
    ⟨y 0, y 1, y 2, y 3, eq_ix4 y⟩
  have h0 : ∀ R l, iblk m c 0 t (ix4 (n0 := 1) (n1 := 1) (n2 := 2048) (n3 := 256) 0 0 R l)
      = m ((c : Thread nD τ).loc main_arg0) (ix4 (n0 := 4) (n1 := 16) (n2 := 2048) (n3 := 256) (grid0.coords t 0) (grid0.coords t 1) R l) := by
    intro R l; blk_ext [iblk, V, e0]
  have h1 : ∀ R l, iblk m c 1 t (ix4 (n0 := 1) (n1 := 1) (n2 := 2048) (n3 := 256) 0 0 R l)
      = m ((c : Thread nD τ).loc main_arg1) (ix4 (n0 := 4) (n1 := 16) (n2 := 2048) (n3 := 256) (grid0.coords t 0) (grid0.coords t 1) R l) := by
    intro R l; blk_ext [iblk, V, e1]
  have h2 : ∀ R l, iblk m c 2 t (ix4 (n0 := 1) (n1 := 1) (n2 := 2048) (n3 := 128) 0 0 R l)
      = m ((c : Thread nD τ).loc main_arg2) (ix4 (n0 := 4) (n1 := 16) (n2 := 2048) (n3 := 128) (grid0.coords t 0) (grid0.coords t 1) R l) := by
    intro R l; blk_ext [iblk, V, e2]
  have h3 : ((cfg0.win 3).blk t).view.emb (ix4 (n0 := 1) (n1 := 1) (n2 := 2048) (n3 := 128) u u' R e)
      = ix4 (n0 := 4) (n1 := 16) (n2 := 2048) (n3 := 128) (grid0.coords t 0) (grid0.coords t 1) R e := by
    blk_ext [e3]
  blk_simp
  rw [after0_3]
  obtain rfl : u = 0 := Subsingleton.elim _ _
  obtain rfl : u' = 0 := Subsingleton.elim _ _
  rw [show (win0_3.blk t).view.emb _ = _ from h3]
  unfold outsAt0
  refine (out_apply ..).trans ?_
  unfold line
  rw [show rows (iblk m c 0 t) = _ from funext₂ h0, show rows (iblk m c 1 t) = _ from funext₂ h1,
    show (fun C => iblk m c 2 t (ix4 0 0 C e)) = _ from funext fun C => h2 C e]
  rfl

end Cert.Mla
-- ==== Proof.Softmax.lean ====
/-
  The weighted mean with weights in powers of two is the softmax mean in natural exponents: where the scores of a row
  are real and its logits are the scores times the natural logarithm of two, the weights agree column by column, and
  dividing the weighted sum by the sum of the weights is dividing every weight.
-/
module

public import proofs.«01_k».proof.Proof.AttnMath

@[expose] public section

noncomputable section

namespace Cert.Attn

open Idealize.ShloMosaic

/-- Some column of a row has the row's maximum. -/
theorem top_attained (f : Fin 2048 → EReal) : ∃ C, top f = f C := by
  obtain ⟨C, -, h⟩ := Finset.exists_mem_eq_sup Finset.univ ⟨0, Finset.mem_univ _⟩ f
  exact ⟨C, h⟩

theorem le_top (f : Fin 2048 → EReal) (C : Fin 2048) : f C ≤ top f := top_le.1 le_rfl C

/-- A row whose scores up to `R` are real has a real maximum, and it is a score. -/
theorem top_real (t : Fin 2048 → ℝ) (R : Fin 2048) :
    ∃ C, C ≤ R ∧ top (past (fun C => (t C : EReal)) R) = (t C : EReal) := by
  obtain ⟨C, h⟩ := top_attained (past (fun C => (t C : EReal)) R)
  by_cases hC : C ≤ R
  · exact ⟨C, hC, by rw [h]; exact if_pos hC⟩
  · have h1 := le_top (past (fun C => (t C : EReal)) R) R
    rw [h, show past (fun C => (t C : EReal)) R C = ⊥ from if_neg hC,
      show past (fun C => (t C : EReal)) R R = (t R : EReal) from if_pos le_rfl] at h1
    exact absurd (le_bot_iff.1 h1) (EReal.coe_ne_bot _)

/-- Scaling a row of real scores by a positive number scales its maximum. -/
theorem top_scaled (t : Fin 2048 → ℝ) (R : Fin 2048) (L M : ℝ) (hL : 0 < L)
    (hM : top (past (fun C => (t C : EReal)) R) = (M : EReal)) :
    top (past (fun C => ((t C * L : ℝ) : EReal)) R) = ((M * L : ℝ) : EReal) := by
  refine le_antisymm (top_le.2 fun C => ?_) ?_
  · unfold past
    split
    · next h =>
      have := le_top (past (fun C => (t C : EReal)) R) C
      rw [hM, show past (fun C => (t C : EReal)) R C = (t C : EReal) from if_pos h, EReal.coe_le_coe_iff] at this
      exact EReal.coe_le_coe_iff.2 (mul_le_mul_of_nonneg_right this hL.le)
    · exact bot_le
  · obtain ⟨C, hC, h⟩ := top_real t R
    rw [hM, EReal.coe_eq_coe_iff] at h
    have := le_top (past (fun C => ((t C * L : ℝ) : EReal)) R) C
    rwa [show past (fun C => ((t C * L : ℝ) : EReal)) R C = ((t C * L : ℝ) : EReal) from if_pos hC, ← h] at this

/-- The weight of a column in natural exponents is its weight in powers of two. -/
theorem exp_eq_weight (t : Fin 2048 → ℝ) (R C : Fin 2048) :
    Ideal.exp (past (fun C => ((t C * Real.log 2 : ℝ) : EReal)) R C - top (past (fun C => ((t C * Real.log 2 : ℝ) : EReal)) R))
      = weight (past (fun C => (t C : EReal)) R) C := by
  obtain ⟨C0, -, hM⟩ := top_real t R
  rw [top_scaled t R (Real.log 2) (t C0) (Real.log_pos one_lt_two) hM]
  unfold weight
  rw [hM]
  unfold past
  split
  · rw [← EReal.coe_sub, ← EReal.coe_sub, Ideal.exp_coe, Ideal.exp2_coe, EReal.coe_eq_coe_iff]
    show _ = (2 : ℝ) ^ (t C - t C0)
    rw [Real.rpow_def_of_pos two_pos]
    congr 1
    ring
  · rw [bot_sub, bot_sub]
    rfl

/-- Every weight of a row of real scores is a real number, none is negative, and one is positive. -/
theorem weight_real (t : Fin 2048 → ℝ) (R : Fin 2048) :
    ∃ w : Fin 2048 → ℝ, (∀ C, weight (past (fun C => (t C : EReal)) R) C = (w C : EReal)) ∧ (∀ C, 0 ≤ w C) ∧ 0 < ∑ C, w C := by
  obtain ⟨C0, hC0, hM⟩ := top_real t R
  refine ⟨fun C => if C ≤ R then Real.rpow 2 (t C - t C0) else 0, fun C => ?_, fun C => ?_, ?_⟩
  · unfold weight
    rw [hM]
    by_cases h : C ≤ R
    · rw [show past (fun C => (t C : EReal)) R C = (t C : EReal) from if_pos h, ← EReal.coe_sub, Ideal.exp2_coe]
      exact congrArg _ (if_pos h).symm
    · rw [show past (fun C => (t C : EReal)) R C = ⊥ from if_neg h, bot_sub, exp2_bot]
      show (0 : EReal) = ((if C ≤ R then Real.rpow 2 (t C - t C0) else 0 : ℝ) : EReal)
      rw [if_neg h, EReal.coe_zero]
  · by_cases h : C ≤ R
    · exact ((Real.rpow_pos_of_pos two_pos _).le).trans_eq (if_pos h).symm
    · exact (if_neg h).ge
  · refine Finset.sum_pos' (fun C _ => ?_) ⟨C0, Finset.mem_univ _, ?_⟩
    · by_cases h : C ≤ R
      · exact ((Real.rpow_pos_of_pos two_pos _).le).trans_eq (if_pos h).symm
      · exact (if_neg h).ge
    · rw [if_pos hC0]
      exact Real.rpow_pos_of_pos two_pos _

theorem coe_sum {ι : Type} (s : Finset ι) (w : ι → ℝ) : ((∑ i ∈ s, w i : ℝ) : EReal) = ∑ i ∈ s, (w i : EReal) := by
  classical
  induction s using Finset.induction_on with
  | empty => rfl
  | insert a s ha ih => rw [Finset.sum_insert ha, Finset.sum_insert ha, EReal.coe_add, ih]

/-- A number that is real and not negative multiplies a sum term by term, whatever the terms. -/
theorem sum_mul_real {ι : Type} (s : Finset ι) (f : ι → EReal) (k : ℝ) (hk : 0 ≤ k) :
    (∑ i ∈ s, f i) * (k : EReal) = ∑ i ∈ s, f i * (k : EReal) := by
  classical
  induction s using Finset.induction_on with
  | empty => simp
  | insert a s ha ih =>
    rw [Finset.sum_insert ha, Finset.sum_insert ha, ← ih]
    exact EReal.right_distrib_of_nonneg_of_ne_top (EReal.coe_nonneg.2 hk) (EReal.coe_ne_top _) _ _

/-- The mean over the softmax weights of the logits is the weighted mean of `mean`. -/
theorem softmax_mean (t : Fin 2048 → ℝ) (R : Fin 2048) (g : Fin 2048 → EReal)
    (hg : g = past (fun C => ((t C * Real.log 2 : ℝ) : EReal)) R) (v : Fin 2048 → EReal) :
    ∑ C, Ideal.div (Ideal.exp (g C - top g)) (∑ x, Ideal.exp (g x - top g)) * v C
      = mean (past (fun C => (t C : EReal)) R) v := by
  subst hg
  simp only [exp_eq_weight]
  unfold mean
  obtain ⟨w, hw, h0, hpos⟩ := weight_real t R
  simp only [hw]
  rw [← coe_sum]
  simp only [Ideal.div_coe hpos.ne']
  rw [sum_mul_real _ _ _ (one_div_nonneg.2 hpos.le)]
  refine Finset.sum_congr rfl fun C _ => ?_
  rw [mul_assoc, mul_assoc, mul_comm (v C)]

end Cert.Attn
-- ==== Proof.MlaEq.lean ====
/-
  The reference of the latent attention is the causal attention `attn`, where the queries and keys are finite.
-/
module

public import proofs.«01_k».proof.Proof.MlaRef
public import proofs.«01_k».proof.Proof.MlaArray
public import proofs.«01_k».proof.Proof.Softmax

@[expose] public section

noncomputable section

namespace Cert.Attn

open Idealize.ShloMosaic Cert.MlaRef

/-- An array of real numbers. -/
def AllReal {s : Shape} (x : s.Idx → EReal) : Prop := ∀ i, ∃ r : ℝ, x i = (r : EReal)

theorem place_inj (j : Fin 2) : Function.Injective fun d : Fin 96 => place j.val d j.isLt := by
  intro d d' h
  have h : (place j.val d j.isLt).val = (place j.val d' j.isLt).val := congrArg Fin.val h
  unfold place at h
  apply Fin.ext
  split at h <;> split at h <;> simp only at h <;> omega

theorem place_head (j : Fin 2) (l : Fin 256) : headLane j l ↔ ∃ d : Fin 96, place j.val d j.isLt = l := by
  unfold headLane
  constructor
  · rintro (h | h)
    · refine ⟨⟨l.val - 64 * j.val, by omega⟩, Fin.ext ?_⟩
      unfold place
      rw [if_pos (by dsimp only; omega)]
      dsimp only
      omega
    · refine ⟨⟨64 + (l.val - (128 + 32 * j.val)), by omega⟩, Fin.ext ?_⟩
      unfold place
      rw [if_neg (by dsimp only; omega)]
      dsimp only
      omega
  · rintro ⟨d, rfl⟩
    unfold place
    split
    · left; dsimp only; omega
    · right; dsimp only; omega

/-- The score over the lanes of a head alone. -/
theorem score_eq (Q K : Fin 2048 → Fin 256 → EReal) (j : Fin 2) (R C : Fin 2048) :
    score Q K j R C = ∑ d : Fin 96, Q R (place j.val d j.isLt) * K C (place j.val d j.isLt) := by
  unfold score
  have e : ∀ l : Fin 256, (if headLane j l then Q R l else 0) * K C l = if headLane j l then Q R l * K C l else 0 := by
    intro l
    split
    · rfl
    · exact zero_mul _
  simp only [e]
  rw [← Finset.sum_filter, show Finset.univ.filter (fun l : Fin 256 => headLane j l)
      = Finset.univ.map ⟨fun d : Fin 96 => place j.val d j.isLt, place_inj j⟩ from by
    ext l
    simp [place_head], Finset.sum_map]
  rfl

theorem log_two : Ideal.log (Ideal.ofBits .f32 0x40000000#32) = ((Real.log 2 : ℝ) : EReal) := by
  have : Ideal.ofBits .f32 0x40000000#32 = ((2 : ℝ) : EReal) := by
    simp [Ideal.ofBits, Ideal.ieee]
    rw [← EReal.coe_mul, EReal.coe_eq_coe_iff]
    norm_num
  rw [this, Ideal.log_coe, if_neg (by norm_num)]

end Cert.Attn

namespace Cert.MlaRef

open Cert.ReferenceIdeal Cert.ReferenceIdeal.Gen Idealize.ShloMosaic Idealize.ShloMosaic.TcCoe Cert.Attn

theorem ref_eq (q k : FVec Ideal S4x16x2048x256 .bf16) (v : FVec Ideal S4x16x2048x128 .bf16) (hq : AllReal q) (hk : AllReal k)
    (g : Fin 4) (b : Fin 16) (R : Fin 2048) (e : Fin 128) :
    joined (mixed (soft (logits q k)) v) (ix4 g b R e) = attn q k v g b R e := by
  rw [joined_apply, mixed_apply]
  simp only [soft_apply]
  choose Q hQ using hq
  choose K hK using hk
  have hj : e.val / 64 < 2 := by omega
  have hs : ∀ C, score (fun R l => q (ix4 g b R l)) (fun R l => k (ix4 g b R l)) ⟨e.val / 64, hj⟩ R C
      = ((∑ d : Fin 96, Q (ix4 g b R (place (e.val / 64) d hj)) * K (ix4 g b C (place (e.val / 64) d hj)) : ℝ) : EReal) := by
    intro C
    rw [score_eq, coe_sum]
    refine Finset.sum_congr rfl fun d _ => ?_
    rw [hQ, hK, EReal.coe_mul]
  unfold attn
  rw [funext hs]
  have e1 : (⟨(g.val * 2 + e.val / 64) / 2, by omega⟩ : Fin 4) = g := Fin.ext (by dsimp only; omega)
  have e2 : (g.val * 2 + e.val / 64) % 2 = e.val / 64 := by omega
  have e3 : (⟨(g.val * 2 + e.val / 64) % 2 * 64 + e.val % 64, by omega⟩ : Fin 128) = e := Fin.ext (by dsimp only; omega)
  simp only [e1, e3]
  refine softmax_mean _ R (fun C => logits q k (ix4 b ⟨g.val * 2 + e.val / 64, by omega⟩ R C)) (funext fun C => ?_) _
  rw [logits_apply]
  unfold past
  refine if_congr Iff.rfl ?_ rfl
  simp only [e1, e2]
  rw [log_two, EReal.coe_mul, ← hs C, score_eq]

end Cert.MlaRef
-- ==== Proof.Finite.lean ====
/-
  What the precondition says: every entry of the queries and of the keys is a real number.
-/
module

public import proofs.«01_k».proof.Proof.MlaEq
public import proofs.«01_k».proof.Proof.Gen.Pre_finite_qk
public import Idealize.ShloMosaic.Lib.ReduceAll

@[expose] public section

noncomputable section

namespace Cert.Finite

open Cert.Pre_finite_qk Cert.Pre_finite_qk.Gen Idealize.ShloMosaic Cert.Attn

theorem top_f32 : Ideal.ofBits .f32 0x7F800000#32 = ⊤ := by simp [Ideal.ofBits, Ideal.ieee]

/-- A number of absolute value below infinity is real. -/
theorem real_of_abs_lt (x : EReal) (h : Ideal.cmp .olt (max x (-x)) ⊤ = 1#1) : ∃ r : ℝ, x = (r : EReal) := by
  have hlt : max x (-x) < ⊤ := by
    by_contra hn
    unfold Ideal.cmp at h
    simp [hn] at h
  induction x using EReal.rec with
  | bot => simp at hlt
  | coe r => exact ⟨r, rfl⟩
  | top => simp at hlt

theorem andi_one {a b : BitVec 1} (h : IntOp.andi a b = 1#1) : a = 1#1 ∧ b = 1#1 := by
  revert a b
  decide

instance : Subsingleton S_.Idx := ⟨fun a b => funext fun i => i.elim0⟩

theorem real_of_all (x : FVec Ideal S4x16x2048x256 .bf16) (j : S_.Idx)
    (h : Host.reduce IntOp.andi (cmpf .olt (Host.absf (extf .f32 x bitsLt_bf16_f32))
      (broadcastInDim S4x16x2048x256 ![] bcast_S_S4x16x2048x256 (constant (F := Ideal) S_ .f32 0x7F800000#32)))
      (constantI S_ 1 1#1) reducesTo_S4x16x2048x256_S_d0_1_2_3 h_S_ j = 1#1) : AllReal x := by
  intro i
  have := Host.reduce_andi_all _ _ _ _ _ h i
  refine real_of_abs_lt (x i) ?_
  rw [← top_f32]
  exact this

theorem real_of_finite (q k : FVec Ideal S4x16x2048x256 .bf16) (v : FVec Ideal S4x16x2048x128 .bf16)
    (h : fn (F := Ideal) q k v = fun _ => 1#1) : AllReal q ∧ AllReal k := by
  dsimp only [fn] at h
  have h := congrFun h (Shape.Idx.first h_S_)
  obtain ⟨h1, h2⟩ := andi_one h
  exact ⟨real_of_all q _ h1, real_of_all k _ h2⟩

end Cert.Finite
-- ==== Proof.MergeTile.lean ====
/-
  The gated merge of the three branches as numbers, for one row, and the block of rows that the kernel stores.
-/
module

public import proofs.«01_k».proof.Proof.Gen.MergeIdeal.Value
public import Idealize.ShloMosaic.Lib.Pointwise
public import Idealize.ShloMosaic.Lib.ValueIdx
public import Idealize.ShloMosaic.Lib.Pipeline.ValueKit

@[expose] public section

noncomputable section

namespace Cert.Merge

open Idealize.ShloMosaic

/-- A row over its root mean square, times the gain. -/
def normed (X G : Fin 1024 → EReal) (k : Fin 1024) : EReal :=
  X k * Ideal.rsqrt (Ideal.div (∑ i, X i * X i) (Ideal.ofBits .f32 0x44800000#32) + Ideal.ofBits .f32 0x358637BD#32) * G k

/-- The gate of branch `g`, lane `d`. -/
def gate (X G : Fin 1024 → EReal) (W : Fin 1024 → Fin 3072 → EReal) (g : Fin 3) (d : Fin 1024) : EReal :=
  Ideal.logistic (∑ k, normed X G k * W k ⟨1024 * g.val + d.val, by omega⟩)

/-- The projection of a branch, whose 512 lanes come as four pairs of heads. -/
def project (O : Fin 4 → Fin 128 → EReal) (B : Fin 512 → Fin 1024 → EReal) (d : Fin 1024) : EReal :=
  ∑ e : Fin 512, O ⟨e.val / 128, by omega⟩ ⟨e.val % 128, Nat.mod_lt _ (by decide)⟩ * B e d

/-- The row with the gated branches projected onto it. -/
def merged (X G : Fin 1024 → EReal) (O : Fin 3 → Fin 4 → Fin 128 → EReal) (W : Fin 1024 → Fin 3072 → EReal)
    (B : Fin 3 → Fin 512 → Fin 1024 → EReal) (Z : Fin 1024 → Fin 1024 → EReal) (n : Fin 1024) : EReal :=
  X n + ∑ d, (gate X G W 0 d * project (O 0) (B 0) d + gate X G W 1 d * project (O 1) (B 1) d
    + gate X G W 2 d * project (O 2) (B 2) d) * Z d n

end Cert.Merge

namespace Cert.MergeTile

open Cert.MergeIdeal Cert.MergeIdeal.Gen Idealize.ShloMosaic Idealize.ShloMosaic.TcCoe Cert.Merge

theorem pay2_apply (v0 : FVec Ideal S1024x1024 .f32) (v11 : FVec Ideal S1x1024 .f32) (r k : Fin 1024) :
    k0_pay2 (F := Ideal) v0 v11 (ix2 r k) = normed (fun c => v0 (ix2 r c)) (fun c => v11 (ix2 0 c)) k := by
  pointwise [k0_pay2, normed]

/-- One of four values by the quarter that a lane falls into. -/
theorem quarter (f : Fin 4 → Fin 128 → EReal) (e : Fin 512) :
    (if h : e.val < 128 then f 0 ⟨e.val, h⟩
      else if h : e.val - 128 < 128 then f 1 ⟨e.val - 128, h⟩
        else if h : e.val - 128 - 128 < 128 then f 2 ⟨e.val - 128 - 128, h⟩
          else f 3 ⟨e.val - 128 - 128 - 128, by omega⟩)
      = f ⟨e.val / 128, by omega⟩ ⟨e.val % 128, Nat.mod_lt _ (by decide)⟩ := by
  split_ifs with h0 h1 h2 <;> congr 1 <;> first | (apply Fin.ext; simp; omega) | (congr 1; apply Fin.ext; simp; omega)

/-- The four pairs side by side. -/
theorem pay5_apply (a : Fin 4 → FVec Ideal S1x1024x128 .bf16) (r : Fin 1024) (e : Fin 512) :
    k0_pay5 (F := Ideal) (a 0) (a 1) (a 2) (a 3) (ix2 r e)
      = a ⟨e.val / 128, by omega⟩ (ix3 0 r ⟨e.val % 128, Nat.mod_lt _ (by decide)⟩) := by
  refine Eq.trans ?_ (quarter (fun p l => a p (ix3 0 r l)) e)
  pointwise [k0_pay5]

theorem pay6_apply (v14 : FVec Ideal S1024x1024 .bf16) (v57 : FVec Ideal S1024x1024 .bf16) (r d : Fin 1024) :
    k0_pay6 (F := Ideal) v14 v57 (ix2 r d) = ∑ k, v14 (ix2 r k) * v57 (ix2 k d) := by
  pointwise [k0_pay6]

/-- A branch's lanes times its weights. -/
def onto (o : FVec Ideal S1024x512 .bf16) (b : FVec Ideal S1x512x1024 .bf16) : FVec Ideal S1024x1024 .f32 :=
  matmul dot_S1024x512_S512x1024_S1024x1024_1_0_0_1_n_n none o (shapeCast S512x1024 b shapeCasts_S1x512x1024_S512x1024)
    (constant S1024x1024 .f32 0x00000000#32)

theorem onto_apply (o : FVec Ideal S1024x512 .bf16) (b : FVec Ideal S1x512x1024 .bf16) (r d : Fin 1024) :
    onto o b (ix2 r d) = ∑ e, o (ix2 r e) * b (ix3 0 e d) := by
  pointwise [onto]

theorem pay3_eq (v0 : FVec Ideal S1024x1024 .f32) (v11 : FVec Ideal S1x1024 .f32) (a0 a1 a2 a3 : FVec Ideal S1x1024x128 .bf16)
    (w : FVec Ideal S1024x1024 .bf16) (b : FVec Ideal S1x512x1024 .bf16) :
    k0_pay3 (F := Ideal) v0 v11 a0 a1 a2 a3 w b
      = mulf (logistic (k0_pay6 (k0_pay2 v0 v11) w)) (onto (k0_pay5 a0 a1 a2 a3) b) := rfl

theorem pay4_eq (v14 : FVec Ideal S1024x1024 .bf16) (v30 : FVec Ideal S1024x1024 .f32) (a0 a1 a2 a3 : FVec Ideal S1x1024x128 .bf16)
    (w : FVec Ideal S1024x1024 .bf16) (b : FVec Ideal S1x512x1024 .bf16) :
    k0_pay4 (F := Ideal) v14 v30 a0 a1 a2 a3 w b
      = addf v30 (mulf (logistic (k0_pay6 v14 w)) (onto (k0_pay5 a0 a1 a2 a3) b)) := rfl

/-- What is projected onto the row: the first two terms and the third. -/
def total (v47 : FVec Ideal S1024x1024 .f32) (v56 : FVec Ideal S1024x512 .bf16) (v58 : FVec Ideal S1024x1024 .f32)
    (b : FVec Ideal S1x512x1024 .bf16) : FVec Ideal S1024x1024 .f32 :=
  addf v47 (mulf (logistic v58) (onto v56 b))

theorem pay7_apply (v0 v47 : FVec Ideal S1024x1024 .f32) (v56 : FVec Ideal S1024x512 .bf16) (v58 : FVec Ideal S1024x1024 .f32)
    (b : FVec Ideal S1x512x1024 .bf16) (z : FVec Ideal S1024x1024 .bf16) (r n : Fin 1024) :
    k0_pay7 (F := Ideal) v0 v47 v56 v58 b z (ix2 r n) = v0 (ix2 r n) + ∑ d, total v47 v56 v58 b (ix2 r d) * z (ix2 d n) := by
  show addf v0 (matmul dot_S1024x1024_S1024x1024_S1024x1024_1_0_0_1_n_n none (truncf .bf16 (total v47 v56 v58 b) bitsLt_bf16_f32) z
    (constant S1024x1024 .f32 0x00000000#32)) (ix2 r n) = _
  pointwise []

/-- A gated branch at an index. -/
theorem term_apply (n : FVec Ideal S1024x1024 .bf16) (w : FVec Ideal S1024x1024 .bf16) (o : FVec Ideal S1024x512 .bf16)
    (b : FVec Ideal S1x512x1024 .bf16) (r d : Fin 1024) :
    mulf (logistic (k0_pay6 (F := Ideal) n w)) (onto o b) (ix2 r d)
      = Ideal.logistic (∑ k, n (ix2 r k) * w (ix2 k d)) * ∑ e, o (ix2 r e) * b (ix3 0 e d) := by
  rw [← pay6_apply, ← onto_apply]
  rfl

variable (x : Vec Ideal S1024x1024 .f32) (o1 o2 o3 : Vec Ideal S4x1024x128 .bf16) (g : Vec Ideal S1x1024 .f32)
  (w : Vec Ideal S1024x3072 .bf16) (b : Vec Ideal S3x512x1024 .bf16) (z : Vec Ideal S1024x1024 .bf16)

/-- The pair `p` of a branch. -/
theorem pair_eq (o : Vec Ideal S4x1024x128 .bf16) (r : Fin 1024) (e : Fin 512) :
    k0_pay5 (F := Ideal) (View.ld o r0_2) (View.ld o r0_3) (View.ld o r0_4) (View.ld o r0_5) (ix2 r e)
      = o (ix3 ⟨e.val / 128, by omega⟩ r ⟨e.val % 128, Nat.mod_lt _ (by decide)⟩) := by
  refine (pay5_apply ![View.ld o r0_2, View.ld o r0_3, View.ld o r0_4, View.ld o r0_5] r e).trans ?_
  have h : ∀ (p : Fin 4) (l : Fin 128), (![View.ld o r0_2, View.ld o r0_3, View.ld o r0_4, View.ld o r0_5] :
      Fin 4 → FVec Ideal S1x1024x128 .bf16) p (ix3 0 r l) = o (ix3 p r l) := by
    intro p l
    fin_cases p <;> exact View.ld_unit_apply_of _ _ _ _ _ _ fun a => by fin_cases a <;> simp [ix3]
  exact h _ _

theorem lanes0 (r d : Fin 1024) : View.ld (Val := Elt Ideal) (e' := .bf16) w r0_6 (ix2 r d)
    = w (ix2 r ⟨1024 * (0 : Fin 3).val + d.val, by simp; omega⟩) :=
  View.ld_unit_apply_of _ _ _ _ _ _ fun a => by fin_cases a <;> simp [ix2]
theorem lanes1 (r d : Fin 1024) : View.ld (Val := Elt Ideal) (e' := .bf16) w r0_8 (ix2 r d)
    = w (ix2 r ⟨1024 * (1 : Fin 3).val + d.val, by simp; omega⟩) :=
  View.ld_unit_apply_of _ _ _ _ _ _ fun a => by fin_cases a <;> simp [ix2]
theorem lanes2 (r d : Fin 1024) : View.ld (Val := Elt Ideal) (e' := .bf16) w r0_10 (ix2 r d)
    = w (ix2 r ⟨1024 * (2 : Fin 3).val + d.val, by simp; omega⟩) :=
  View.ld_unit_apply_of _ _ _ _ _ _ fun a => by fin_cases a <;> simp [ix2]
theorem plane0 (e : Fin 512) (d : Fin 1024) : View.ld (Val := Elt Ideal) (e' := .bf16) b r0_7 (ix3 0 e d) = b (ix3 0 e d) :=
  View.ld_unit_apply_of _ _ _ _ _ _ fun a => by fin_cases a <;> simp [ix3]
theorem plane1 (e : Fin 512) (d : Fin 1024) : View.ld (Val := Elt Ideal) (e' := .bf16) b r0_9 (ix3 0 e d) = b (ix3 1 e d) :=
  View.ld_unit_apply_of _ _ _ _ _ _ fun a => by fin_cases a <;> simp [ix3]
theorem plane2 (e : Fin 512) (d : Fin 1024) : View.ld (Val := Elt Ideal) (e' := .bf16) b r0_11 (ix3 0 e d) = b (ix3 2 e d) :=
  View.ld_unit_apply_of _ _ _ _ _ _ fun a => by fin_cases a <;> simp [ix3]

/-- The block of rows that a grid point stores. -/
theorem out_apply (x8 : Vec Ideal S1x1024 .f32) (x9 : Vec Ideal S1024x256 .bf16) (x10 : Vec Ideal S1x128 .f32) (r n : Fin 1024) :
    out0_11 (F := Ideal) x o1 o2 o3 g w b z x8 x9 x10 (ix2 r n)
      = merged (fun c => x (ix2 r c)) (fun c => g (ix2 0 c)) ![fun p l => o1 (ix3 p r l), fun p l => o2 (ix3 p r l), fun p l => o3 (ix3 p r l)]
          (fun k j => w (ix2 k j)) (fun i e d => b (ix3 i e d)) (fun d n => z (ix2 d n)) n := by
  unfold out0_11
  rw [View.canon_cons_unit_lit _ _ _ (by decide), pay7_apply]
  unfold k0_pay31 k0_pay32 k0_pay33 k0_pay30
  rw [show View.ld (Val := Elt Ideal) (e' := .f32) x r0_0 = x from View.ld_unit_lit _ _ (by decide),
    show View.ld (Val := Elt Ideal) (e' := .f32) g r0_1 = g from View.ld_unit_lit _ _ (by decide),
    show View.ld (Val := Elt Ideal) (e' := .bf16) z r0_0 = z from View.ld_unit_lit _ _ (by decide)]
  unfold merged
  refine congrArg₂ (· + ·) rfl (Finset.sum_congr rfl fun d _ => congrArg (· * _) ?_)
  rw [pay4_eq, pay3_eq]
  show (mulf (logistic (k0_pay6 (F := Ideal) _ _)) (onto _ _) (ix2 r d) + mulf (logistic (k0_pay6 (F := Ideal) _ _)) (onto _ _) (ix2 r d))
    + mulf (logistic (k0_pay6 (F := Ideal) _ _)) (onto _ _) (ix2 r d) = _
  refine congrArg₂ (· + ·) (congrArg₂ (· + ·) ?_ ?_) ?_ <;> refine (term_apply _ _ _ _ r d).trans ?_
  · exact congrArg₂ (· * ·) (congrArg _ (Finset.sum_congr rfl fun k _ => congrArg₂ (· * ·) (pay2_apply ..) (lanes0 ..)))
      (Finset.sum_congr rfl fun e _ => congrArg₂ (· * ·) (pair_eq ..) (plane0 ..))
  · exact congrArg₂ (· * ·) (congrArg _ (Finset.sum_congr rfl fun k _ => congrArg₂ (· * ·) (pay2_apply ..) (lanes1 ..)))
      (Finset.sum_congr rfl fun e _ => congrArg₂ (· * ·) (pair_eq ..) (plane1 ..))
  · exact congrArg₂ (· * ·) (congrArg _ (Finset.sum_congr rfl fun k _ => congrArg₂ (· * ·) (pay2_apply ..) (lanes2 ..)))
      (Finset.sum_congr rfl fun e _ => congrArg₂ (· * ·) (pair_eq ..) (plane2 ..))

end Cert.MergeTile
-- ==== Proof.MergeArray.lean ====
/-
  The merge kernel's first result array, over the extended reals: every row with its gated branches projected onto it.
-/
module

public import proofs.«01_k».proof.Proof.MergeTile

@[expose] public section

set_option maxRecDepth 16384

noncomputable section

namespace Cert.MergeTile

open Cert.MergeIdeal Cert.MergeIdeal.Gen Idealize.ShloMosaic Idealize.ShloMosaic.TcCoe Idealize.SL.Sem Cert.Merge

/-- The rows `1024 t + r`. -/
def rowAt (t : Fin 32) (r : Fin 1024) : Fin 32768 := ⟨1024 * t.val + r.val, by omega⟩

variable (m : (ℓ : Loc nD τ sig) → Buf (Elt Ideal) ℓ)

theorem index_facts : ∀ t : Fin cfg0.N, win0_0.index t = ![(grid0.coords t 0).val, 0]
    ∧ win0_1.index t = ![0, (grid0.coords t 0).val, 0]
    ∧ win0_2.index t = ![0, (grid0.coords t 0).val, 0]
    ∧ win0_3.index t = ![0, (grid0.coords t 0).val, 0]
    ∧ win0_4.index t = ![0, 0]
    ∧ win0_5.index t = ![0, 0]
    ∧ win0_6.index t = ![0, 0, 0]
    ∧ win0_7.index t = ![0, 0]
    ∧ win0_11.index t = ![(grid0.coords t 0).val, 0] :=
  (by decide +kernel : ∀ t : Fin grid0.N, _)

/-- The result array. -/
theorem array_eq (c : Dev nD) : (dats m 0 c).arrAt 11 cfg0.N
    = fun i : S32768x1024.Idx => merged (fun k => m ((c : Thread nD τ).loc main_arg0) (ix2 (i 0) k))
        (fun k => m ((c : Thread nD τ).loc main_arg4) (ix2 (0 : Fin 1) k))
        ![fun p l => m ((c : Thread nD τ).loc main_arg1) (ix3 p (i 0) l), fun p l => m ((c : Thread nD τ).loc main_arg2) (ix3 p (i 0) l),
          fun p l => m ((c : Thread nD τ).loc main_arg3) (ix3 p (i 0) l)]
        (fun k j => m ((c : Thread nD τ).loc main_arg5) (ix2 k j)) (fun g e d => m ((c : Thread nD τ).loc main_arg6) (ix3 g e d))
        (fun d n => m ((c : Thread nD τ).loc main_arg7) (ix2 d n)) (i 1) := by
  refine (dats m 0 c).arrAt_eq_of_covers 11 _ (by decide +kernel) fun t hf y => ?_
  obtain ⟨e0, e1, e2, e3, e4, e5, e6, e7, e11⟩ := index_facts t
  obtain ⟨r, n, rfl⟩ : ∃ r n, y = ix2 (n0 := 1024) (n1 := 1024) r n := ⟨y 0, y 1, eq_ix2 y⟩
  have h0 : ∀ r k, iblk m c 0 t (ix2 (n0 := 1024) (n1 := 1024) r k)
      = m ((c : Thread nD τ).loc main_arg0) (ix2 (n0 := 32768) (n1 := 1024) (rowAt (grid0.coords t 0) r) k) := by
    intro r k; blk_ext [iblk, V, e0, rowAt]
  have h1 : ∀ p r l, iblk m c 1 t (ix3 (n0 := 4) (n1 := 1024) (n2 := 128) p r l)
      = m ((c : Thread nD τ).loc main_arg1) (ix3 (n0 := 4) (n1 := 32768) (n2 := 128) p (rowAt (grid0.coords t 0) r) l) := by
    intro p r l; blk_ext [iblk, V, e1, rowAt]
  have h2 : ∀ p r l, iblk m c 2 t (ix3 (n0 := 4) (n1 := 1024) (n2 := 128) p r l)
      = m ((c : Thread nD τ).loc main_arg2) (ix3 (n0 := 4) (n1 := 32768) (n2 := 128) p (rowAt (grid0.coords t 0) r) l) := by
    intro p r l; blk_ext [iblk, V, e2, rowAt]
  have h3 : ∀ p r l, iblk m c 3 t (ix3 (n0 := 4) (n1 := 1024) (n2 := 128) p r l)
      = m ((c : Thread nD τ).loc main_arg3) (ix3 (n0 := 4) (n1 := 32768) (n2 := 128) p (rowAt (grid0.coords t 0) r) l) := by
    intro p r l; blk_ext [iblk, V, e3, rowAt]
  have h4 : ∀ k, iblk m c 4 t (ix2 (n0 := 1) (n1 := 1024) 0 k)
      = m ((c : Thread nD τ).loc main_arg4) (ix2 (n0 := 1) (n1 := 1024) 0 k) := by
    intro k; blk_ext [iblk, V, e4]
  have h5 : ∀ k j, iblk m c 5 t (ix2 (n0 := 1024) (n1 := 3072) k j)
      = m ((c : Thread nD τ).loc main_arg5) (ix2 (n0 := 1024) (n1 := 3072) k j) := by
    intro k j; blk_ext [iblk, V, e5]
  have h6 : ∀ g e d, iblk m c 6 t (ix3 (n0 := 3) (n1 := 512) (n2 := 1024) g e d)
      = m ((c : Thread nD τ).loc main_arg6) (ix3 (n0 := 3) (n1 := 512) (n2 := 1024) g e d) := by
    intro g e d; blk_ext [iblk, V, e6]
  have h7 : ∀ d n, iblk m c 7 t (ix2 (n0 := 1024) (n1 := 1024) d n)
      = m ((c : Thread nD τ).loc main_arg7) (ix2 (n0 := 1024) (n1 := 1024) d n) := by
    intro d n; blk_ext [iblk, V, e7]
  have h11 : ((cfg0.win 11).blk t).view.emb (ix2 (n0 := 1024) (n1 := 1024) r n)
      = ix2 (n0 := 32768) (n1 := 1024) (rowAt (grid0.coords t 0) r) n := by
    blk_ext [e11, rowAt]
  blk_simp
  rw [after0_11]
  rw [show (win0_11.blk t).view.emb _ = _ from h11]
  refine (out_apply ..).trans ?_
  simp only [h0, h1, h2, h3, h4, h5, h6, h7]
  rfl

end Cert.MergeTile
-- ==== Proof.MergeRef.lean ====
/-
  The reference of the merge, stage by stage, over the extended reals: the normed rows, the gates, the branches side by
  side, their projections, and the gated sum projected onto the rows.
-/
module

public import proofs.«01_k».proof.Proof.MergeTile
public import proofs.«01_k».proof.Proof.Gen.MergeRefIdeal.Run

@[expose] public section

noncomputable section

namespace Cert.MergeRef

open Cert.MergeRefIdeal Cert.MergeRefIdeal.Gen Idealize.ShloMosaic Idealize.ShloMosaic.TcCoe Cert.Merge

def rows (x : FVec Ideal S32768x1024 .f32) (g : FVec Ideal S1x1024 .f32) : FVec Ideal S32768x1024 .f32 :=
  mulf (mulf x (broadcastInDim S32768x1024 ![0, 1] bcast_S32768x1_S32768x1024_0_1 (Host.rsqrt (addf (Host.divf
    (broadcastInDim S32768x1 ![0] bcast_S32768_S32768x1_0 (Host.reduceAdd (mulf x x) (constant S_ .f32 0x00000000#32) reducesTo_S32768x1024_S32768_d1 h_S_))
    (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 (shapeCast S1024 g shapeCasts_S1x1024_S1024)))

def inner (n : FVec Ideal S32768x1024 .f32) (w : FVec Ideal S1024x3072 .bf16) : FVec Ideal S32768x3x1024 .f32 :=
  shapeCast S32768x3x1024 (Host.dotGeneral dot_S32768x1024_S1024x3072_S32768x3072_1_0_0_1_n_n none n (extf .f32 w bitsLt_bf16_f32))
    shapeCasts_S32768x3072_S32768x3x1024

def sigmoid (y : FVec Ideal S32768x3x1024 .f32) : FVec Ideal S32768x3x1024 .f32 :=
  Host.divf (broadcastInDim S32768x3x1024 ![] bcast_S_S32768x3x1024 (constant S_ .f32 0x3F800000#32))
    (addf (broadcastInDim S32768x3x1024 ![] bcast_S_S32768x3x1024 (constant S_ .f32 0x3F800000#32)) (Host.exp (Host.negf y)))

def flat (o : FVec Ideal S4x32768x128 .bf16) : FVec Ideal S32768x1x512 .f32 :=
  broadcastInDim S32768x1x512 ![0, 2] bcast_S32768x512_S32768x1x512_0_2 (shapeCast S32768x512
    (transpose S32768x4x128 [1, 0, 2] (extf .f32 o bitsLt_bf16_f32) transposes_S4x32768x128_S32768x4x128_1_0_2) shapeCasts_S32768x4x128_S32768x512)

def stacked (o1 o2 o3 : FVec Ideal S4x32768x128 .bf16) : FVec Ideal S32768x3x512 .f32 :=
  concatenate S32768x3x512 1 [⟨S32768x1x512, flat o1⟩, ⟨S32768x1x512, flat o2⟩, ⟨S32768x1x512, flat o3⟩]
    concatenates_S32768x1x512_S32768x1x512_S32768x1x512_S32768x3x512_d1

def projected (b : FVec Ideal S3x512x1024 .bf16) (s : FVec Ideal S32768x3x512 .f32) : FVec Ideal S32768x3x1024 .f32 :=
  transpose S32768x3x1024 [2, 0, 1] (Host.dotGeneral dot_S3x512x1024_S32768x3x512_S3x1024x32768_1_2_2_0_0_1 none
    (extf .f32 b bitsLt_bf16_f32) s) transposes_S3x1024x32768_S32768x3x1024_2_0_1

def mixed (y p : FVec Ideal S32768x3x1024 .f32) : FVec Ideal S32768x1024 .f32 :=
  Host.reduceAdd (mulf y p) (constant S_ .f32 0x00000000#32) reducesTo_S32768x3x1024_S32768x1024_d1 h_S_

def onto (x s : FVec Ideal S32768x1024 .f32) (z : FVec Ideal S1024x1024 .bf16) : FVec Ideal S32768x1024 .f32 :=
  addf x (Host.dotGeneral dot_S32768x1024_S1024x1024_S32768x1024_1_0_0_1_n_n none s (extf .f32 z bitsLt_bf16_f32))

theorem rows_apply (x : FVec Ideal S32768x1024 .f32) (g : FVec Ideal S1x1024 .f32) (r : Fin 32768) (k : Fin 1024) :
    rows x g (ix2 r k) = normed (fun c => x (ix2 r c)) (fun c => g (ix2 0 c)) k := by
  pointwise [rows, normed]

theorem inner_apply (n : FVec Ideal S32768x1024 .f32) (w : FVec Ideal S1024x3072 .bf16) (r : Fin 32768) (g : Fin 3) (d : Fin 1024) :
    inner n w (ix3 r g d) = ∑ k, n (ix2 r k) * w (ix2 k ⟨1024 * g.val + d.val, by omega⟩) := by
  pointwise [inner]
  refine Finset.sum_congr rfl fun k _ => congrArg (_ * ·) (congrArg w (congrArg (ix2 k) (Fin.ext ?_)))
  show g.val * 1024 + d.val = 1024 * g.val + d.val
  omega

theorem sigmoid_apply (y : FVec Ideal S32768x3x1024 .f32) (r : Fin 32768) (g : Fin 3) (d : Fin 1024) :
    sigmoid y (ix3 r g d) = Ideal.logistic (y (ix3 r g d)) := by
  pointwise [sigmoid]
  rfl

theorem flat_apply (o : FVec Ideal S4x32768x128 .bf16) (r : Fin 32768) (u : Fin 1) (e : Fin 512) :
    flat o (ix3 r u e) = o (ix3 ⟨e.val / 128, by omega⟩ r ⟨e.val % 128, Nat.mod_lt _ (by decide)⟩) := by
  pointwise [flat]

theorem projected_apply (b : FVec Ideal S3x512x1024 .bf16) (s : FVec Ideal S32768x3x512 .f32) (r : Fin 32768) (g : Fin 3) (d : Fin 1024) :
    projected b s (ix3 r g d) = ∑ e, s (ix3 r g e) * b (ix3 g e d) := by
  pointwise [projected]
  exact Finset.sum_congr rfl fun e _ => mul_comm _ _

theorem mixed_apply (y p : FVec Ideal S32768x3x1024 .f32) (r : Fin 32768) (d : Fin 1024) :
    mixed y p (ix2 r d) = ∑ g : Fin 3, y (ix3 r g d) * p (ix3 r g d) := by
  pointwise [mixed]

theorem onto_apply (x s : FVec Ideal S32768x1024 .f32) (z : FVec Ideal S1024x1024 .bf16) (r : Fin 32768) (n : Fin 1024) :
    onto x s z (ix2 r n) = x (ix2 r n) + ∑ d, s (ix2 r d) * z (ix2 d n) := by
  pointwise [onto]

theorem stacked_apply (o1 o2 o3 : FVec Ideal S4x32768x128 .bf16) (r : Fin 32768) (g : Fin 3) (e : Fin 512) :
    stacked o1 o2 o3 (ix3 r g e) = ![flat o1, flat o2, flat o3] g (ix3 r 0 e) := by
  pointwise [stacked]
  fin_cases g <;> simp

theorem stacked_lane (o1 o2 o3 : FVec Ideal S4x32768x128 .bf16) (r : Fin 32768) (g : Fin 3) (e : Fin 512) :
    stacked o1 o2 o3 (ix3 r g e) = (![fun p l => o1 (ix3 p r l), fun p l => o2 (ix3 p r l), fun p l => o3 (ix3 p r l)] :
      Fin 3 → Fin 4 → Fin 128 → EReal) g ⟨e.val / 128, by omega⟩ ⟨e.val % 128, Nat.mod_lt _ (by decide)⟩ := by
  rw [stacked_apply]
  fin_cases g <;> exact flat_apply _ r 0 e

/-- The whole reference. -/
def result (x : FVec Ideal S32768x1024 .f32) (o1 o2 o3 : FVec Ideal S4x32768x128 .bf16) (g : FVec Ideal S1x1024 .f32)
    (w : FVec Ideal S1024x3072 .bf16) (b : FVec Ideal S3x512x1024 .bf16) (z : FVec Ideal S1024x1024 .bf16) : FVec Ideal S32768x1024 .f32 :=
  onto x (mixed (sigmoid (inner (rows x g) w)) (projected b (stacked o1 o2 o3))) z

/-- The reference computes the merged rows. -/
theorem result_apply (x : FVec Ideal S32768x1024 .f32) (o1 o2 o3 : FVec Ideal S4x32768x128 .bf16) (g : FVec Ideal S1x1024 .f32)
    (w : FVec Ideal S1024x3072 .bf16) (b : FVec Ideal S3x512x1024 .bf16) (z : FVec Ideal S1024x1024 .bf16) (r : Fin 32768) (n : Fin 1024) :
    result x o1 o2 o3 g w b z (ix2 r n)
      = merged (fun c => x (ix2 r c)) (fun c => g (ix2 0 c)) ![fun p l => o1 (ix3 p r l), fun p l => o2 (ix3 p r l), fun p l => o3 (ix3 p r l)]
          (fun k j => w (ix2 k j)) (fun i e d => b (ix3 i e d)) (fun d n => z (ix2 d n)) n := by
  unfold result merged
  rw [onto_apply]
  refine congrArg₂ (· + ·) rfl (Finset.sum_congr rfl fun d _ => congrArg₂ (· * ·) ?_ rfl)
  rw [mixed_apply]
  have e : ∀ i : Fin 3, sigmoid (inner (rows x g) w) (ix3 r i d) * projected b (stacked o1 o2 o3) (ix3 r i d)
      = gate (fun c => x (ix2 r c)) (fun c => g (ix2 0 c)) (fun k j => w (ix2 k j)) i d
        * project ((![fun p l => o1 (ix3 p r l), fun p l => o2 (ix3 p r l), fun p l => o3 (ix3 p r l)] :
          Fin 3 → Fin 4 → Fin 128 → EReal) i) (fun e d => b (ix3 i e d)) d := by
    intro i
    rw [sigmoid_apply, inner_apply, projected_apply]
    unfold gate project
    simp only [rows_apply, stacked_lane]
  rw [Finset.sum_congr rfl fun i _ => e i, Fin.sum_univ_three]

end Cert.MergeRef
-- ==== Proof.FoxBlocks.lean ====
/-
  The blocks of the forgetting attention kernel that the latent attention kernel has not: queries and keys of 128
  lanes, the decay of a key column taken off its scores, and the decay of a query row added to the row's shift and taken
  off again. Each is one function of the blocks it reads, and each is read at an index over the extended reals.
-/
module

public import proofs.«01_k».proof.Proof.AttnMath

@[expose] public section

noncomputable section

namespace Cert.Attn

open Idealize.ShloMosaic

variable {F : FTy → Type} [FloatOps F]

/-! ## The operations -/

/-- Scores less the decay of their columns, in powers of two. -/
def decayed (lg : F .f32) (s : FVec F (Mat 256 256) .f32) (d : FVec F (Mat 1 256) .f32) : FVec F (Mat 256 256) .f32 :=
  subf s (broadcastTo (Mat 256 256) (mulf d (broadcast (Mat 1 256) lg)) (by decide))

/-- The decay of each row for the head numbered `hd`, in powers of two, as a column: the lane of that number. -/
def rowDecay (lg hd : F .f32) (d : FVec F (Mat 256 128) .f32) : FVec F (Mat 256 1) .f32 :=
  mulf (shapeCast (Mat 256 1)
    (multiReduction .add [1] ⟨1, ![256]⟩
      (select (cmpf .oeq (sitofp .f32 (iota .tc (Mat 256 128) 32 [1] (by decide))) (broadcast (Mat 256 128) hd)) d
        (broadcast (Mat 256 128) (Scalar.ofBits .f32 0x00000000#32)))
      0x00000000#32 (by decide) (.inl rfl) rfl) (by decide))
    (broadcast (Mat 256 1) lg)

/-- A column added and taken off again. -/
def overBack (sh d : FVec F (Mat 256 1) .f32) : FVec F (Mat 256 1) .f32 := subf (addf sh d) d

/-! ## The operations at an index, over the extended reals -/

theorem decayed_apply (lg : EReal) (s : FVec Ideal (Mat 256 256) .f32) (d : FVec Ideal (Mat 1 256) .f32) (r c : Fin 256) :
    decayed (F := Ideal) lg s d (ix2 r c) = s (ix2 r c) - d (ix2 0 c) * lg := by
  pointwise [decayed]

theorem overBack_apply (sh d : FVec Ideal (Mat 256 1) .f32) (r : Fin 256) (u : Fin 1) :
    overBack sh d (ix2 r u) = sh (ix2 r u) + d (ix2 r u) - d (ix2 r u) := rfl

/-- A small whole number as a word, read back. -/
theorem toInt_small (n : Nat) (h : n < 2 ^ 31) : (BitVec.ofNat 32 n).toInt = (n : Int) := by
  rw [BitVec.toInt_eq_toNat_of_lt, BitVec.toNat_ofNat, Nat.mod_eq_of_lt (by omega)]
  rw [BitVec.toNat_ofNat, Nat.mod_eq_of_lt (by omega)]
  omega

/-- The lane of the head's number. -/
theorem rowDecay_apply (lg : EReal) (h : Fin 128) (d : FVec Ideal (Mat 256 128) .f32) (r : Fin 256) (u : Fin 1) :
    rowDecay (F := Ideal) lg (((BitVec.ofNat 32 h.val).toInt : ℝ) : EReal) d (ix2 r u) = d (ix2 r h) * lg := by
  pointwise [rowDecay]
  refine congrArg₂ (· * ·) ((Finset.sum_eq_single h (fun x _ hx => ?_) (fun hn => absurd (Finset.mem_univ h) hn)).trans ?_) rfl
  · refine if_neg fun he => hx (Fin.ext ?_)
    have he : (((BitVec.ofNat 32 x.val).toInt : ℝ) : EReal) = (((BitVec.ofNat 32 h.val).toInt : ℝ) : EReal) := he
    rw [toInt_small _ (by omega), toInt_small _ (by omega), EReal.coe_eq_coe_iff, Int.cast_inj] at he
    omega
  · exact if_pos rfl

theorem qPair128_apply (hb) (hs) (hc) (m0 m1 : IVec (Mat 1 128) 1) (q : FVec Ideal (Mat 256 128) .bf16) (j : Fin 2)
    (r : Fin 256) (l : Fin 128) :
    qPair 128 hb hs hc m0 m1 q (ix2 ⟨256 * j + r, by omega⟩ l)
      = if (if j = 0 then m0 else m1) (ix2 0 l) = 1#1 then q (ix2 r l) else 0 := by
  match j with
  | 0 =>
    have h : (⟨256 * (0 : Fin 2).val + r.val, by omega⟩ : Fin 512) = ⟨r, by omega⟩ := Fin.ext (by simp)
    rw [h]
    pointwise [qPair]
    rfl
  | 1 =>
    have h : (⟨256 * (1 : Fin 2).val + r.val, by omega⟩ : Fin 512) = ⟨256 + r, by omega⟩ := Fin.ext (by simp)
    rw [h]
    pointwise [qPair]
    rfl

theorem qPair128_masks_apply (hb) (hs) (hc) (hi) (q : FVec Ideal (Mat 256 128) .bf16) (j : Fin 2) (r : Fin 256) (l : Fin 128) :
    qPair 128 hb hs hc (mask0 128 hi) (mask1 128 hi) q (ix2 ⟨256 * j + r, by omega⟩ l)
      = if headLane j l then q (ix2 r l) else 0 := by
  rw [qPair128_apply]
  match j with
  | 0 => exact if_congr (mask0_apply 128 hi l (by norm_num)) rfl rfl
  | 1 => exact if_congr (mask1_apply 128 hi l (by norm_num)) rfl rfl

/-! ## The scores as numbers -/

/-- The score of query row `R` and key row `C` for head `j`, over the head's lanes, less the column's decay. -/
def decayScore (lg : EReal) (Q K : Fin 2048 → Fin 128 → EReal) (D : Fin 2048 → EReal) (j : Fin 2) (R C : Fin 2048) : EReal :=
  (∑ l : Fin 128, (if headLane j l then Q R l else 0) * K C l) - D C * lg

/-- The weighted mean, the weights taken over a given shift. -/
def meanOver (f : Fin 2048 → EReal) (t : EReal) (v : Fin 2048 → EReal) : EReal :=
  Ideal.div (∑ C, Ideal.exp2 (f C - t) * v C) (∑ C, Ideal.exp2 (f C - t))

theorem exp2_past (s : Fin 2048 → EReal) (R C : Fin 2048) (t : EReal) (h : R < C) : Ideal.exp2 (past s R C - t) = 0 := by
  rw [show past s R C = ⊥ from if_neg (not_le.2 h), bot_sub, exp2_bot]

/-- A real number added and taken off again leaves a number as it was. -/
theorem add_sub_real (t : EReal) (d : ℝ) : t + (d : EReal) - (d : EReal) = t := by
  exact EReal.add_sub_cancel_right

theorem meanOver_top (f : Fin 2048 → EReal) (d : ℝ) (v : Fin 2048 → EReal) :
    meanOver f (top f + (d : EReal) - (d : EReal)) v = mean f v := by
  rw [add_sub_real]
  rfl

end Cert.Attn
-- ==== Proof.FoxPieces.lean ====
/-
  The forgetting attention kernel at one grid point, its stores listed tile by tile.

  The body treats eight tiles of 256 query rows, the last first. At tile `q` it stores the masked scores of the
  columns 0 to 256·q + 255, then the weights of the same columns, each head apart, in the half `(7 − q) mod 2` of its
  two scratch buffers; then the tile's output. `sTile` and `pTile` are the stores of one tile, `sAll` and `pAll` those of
  the tiles so far. The lists the run names are these lists.
-/
module

public import proofs.«01_k».proof.Proof.FoxBlocks
public import proofs.«01_k».proof.Proof.Gen.FoxIdeal.Value

@[expose] public section

noncomputable section

namespace Cert.FoxTile

open Cert.FoxIdeal Cert.FoxIdeal.Gen Idealize.ShloMosaic Idealize.ShloMosaic.TcCoe Idealize.SL.Sem Cert.Attn

variable {F : FTy → Type} [FloatOps F] [Named F]

section Tiles

variable (i : grid0.Coords) (arg2 : Memref sig .tc .vmem S1x1x2048x128 .bf16) (harg2 : arg2.IsWhole)
  (arg3 : Memref sig .tc .vmem S1x1x2048x128 .bf16) (harg3 : arg3.IsWhole)
  (arg5 : Memref sig .tc .vmem S16x2048 .f32) (harg5 : arg5.IsWhole)
  (arg6 : Memref sig .tc .vmem S2048x128 .f32) (harg6 : arg6.IsWhole)
  (arg8 : Memref sig .tc .vmem S2x512x2048 .f32)
  (x0 x1 : Vec F S1x1x2048x128 .bf16) (x3 : Vec F S16x2048 .f32) (x4 : Vec F S2048x128 .f32)

theorem inb_rows (t : Fin 8) : ∀ a, (![0, 0, 256 * t.val, 0] : Fin 4 → Nat) a + S1x1x256x128.size a ≤ S1x1x2048x128.size a := by
  intro a; have := t.isLt; fin_cases a <;> simp <;> omega

theorem inb_block (b j : Fin 2) (t : Fin 8) :
    ∀ a, (![b.val, 256 * j.val, 256 * t.val] : Fin 3 → Nat) a + S1x256x256.size a ≤ S2x512x2048.size a := by
  intro a; have := t.isLt; have := b.isLt; have := j.isLt; fin_cases a <;> simp <;> omega

/-- Tile `t` of the rows of a block. -/
def rowsOf (m : Memref sig .tc .vmem S1x1x2048x128 .bf16) (hm : m.IsWhole) (x : Vec F S1x1x2048x128 .bf16) (t : Fin 8) :
    FVec F S256x128 .bf16 :=
  shapeCast (s := S1x1x256x128) S256x128
    (m.view.readAt (Elt F) (Rect.unit (s := S1x1x2048x128) ![0, 0, 256 * t.val, 0] S1x1x256x128.size (inb_rows t)).toLoadRect (hm.unread x))
    (by decide)

/-- The scores of query tile `q` against key tile `t`, both heads. -/
def s2 (q t : Fin 8) : FVec F S512x256 .f32 :=
  scores 128 (qPair 128 (by decide) (by decide) (by decide) (mask0 128 (by decide)) (mask1 128 (by decide))
    (rowsOf arg2 harg2 x0 q)) (rowsOf arg3 harg3 x1 t)

/-- The number of head `j` of the grid point's pair, as the kernel computes it. -/
def headNo (j : Fin 2) : BitVec 32 := Scalar.addi (Scalar.muli 2#32 (BitVec.ofNat 32 (i 0).val)) (BitVec.ofNat 32 j.val)

/-- Where the kernel reads the decays of key tile `t` for head `j`. -/
def decayOff (j : Fin 2) (t : Fin 8) : Fin 2 → Nat := ![(Scalar.indexCast (headNo i j)).toNat, 256 * t.val]

theorem decayOff_eq : ∀ (i : grid0.Coords) (j : Fin 2) (t : Fin 8), decayOff i j t = ![2 * (i 0).val + j.val, 256 * t.val] := by
  decide +kernel

theorem inb_decay (j : Fin 2) (t : Fin 8) : ∀ a, decayOff i j t a + S1x256.size a ≤ S16x2048.size a := by
  rw [decayOff_eq]
  have h0 : (i 0).val < 4 := (i 0).isLt
  intro a; have := t.isLt; have := j.isLt; fin_cases a <;> simp <;> omega

theorem inb_rowDecay (q : Fin 8) : ∀ a, (![256 * q.val, 0] : Fin 2 → Nat) a + S256x128.size a ≤ S2048x128.size a := by
  intro a; have := q.isLt; fin_cases a <;> simp <;> omega

/-- The named constant: the binary logarithm of e. -/
def lg : F .f32 := Named.named κ "log2e" 0x3FB8AA3B#32

/-- The decays of key tile `t` for head `j`. -/
def colDecays (j : Fin 2) (t : Fin 8) : FVec F S1x256 .f32 :=
  arg5.view.readAt (Elt F) (Rect.unit (s := S16x2048) (decayOff i j t) S1x256.size (inb_decay i j t)).toLoadRect (harg5.unread x3)

/-- Head `j`'s decayed scores of query tile `q` against key tile `t`, masked on the diagonal. -/
def sBlk (q : Fin 8) (j : Fin 2) (t : Fin 8) : FVec F S256x256 .f32 :=
  decayed lg (headOf j (s2 arg2 harg2 arg3 harg3 x0 x1 q t)) (colDecays i arg5 harg5 x3 j t)

def sDiag (q : Fin 8) (j : Fin 2) : FVec F S256x256 .f32 := diag (sBlk i arg2 harg2 arg3 harg3 arg5 harg5 x0 x1 x3 q j q)

/-- The decays of the rows of tile `q` for head `j`. -/
def rowDecays (q : Fin 8) (j : Fin 2) : FVec F S256x1 .f32 :=
  rowDecay lg (Scalar.sitofp .f32 (headNo i j))
    (arg6.view.readAt (Elt F) (Rect.unit (s := S2048x128) ![256 * q.val, 0] S256x128.size (inb_rowDecay q)).toLoadRect (harg6.unread x4))

/-- The buffer half of tile `q`. -/
def half (q : Fin 8) : Fin 2 := ⟨(7 - q.val) % 2, Nat.mod_lt _ (by decide)⟩

def blkRect (b j : Fin 2) (t : Fin 8) : Rect S2x512x2048 :=
  Rect.unit ![b.val, 256 * j.val, 256 * t.val] S1x256x256.size (inb_block b j t)

abbrev SPiece (F : FTy → Type) := View.Piece (Elt F) S2x512x2048 .f32
abbrev PPiece (F : FTy → Type) := View.Piece (Elt F) S2x512x2048 .bf16

/-- The stores of the scores before the diagonal, key tiles `ts` (the last store first). -/
def sBefore (q : Fin 8) : List (Fin 8) → List (SPiece F) → List (SPiece F)
  | [], L => L
  | t :: ts, L => ⟨blkRect (half q) 1 t, stored (sBlk i arg2 harg2 arg3 harg3 arg5 harg5 x0 x1 x3 q 1 t)⟩ ::
      ⟨blkRect (half q) 0 t, stored (sBlk i arg2 harg2 arg3 harg3 arg5 harg5 x0 x1 x3 q 0 t)⟩ :: sBefore q ts L

/-- The stores of the scores of query tile `q`. -/
def sTile (q : Fin 8) (ts : List (Fin 8)) (L : List (SPiece F)) : List (SPiece F) :=
  ⟨blkRect (half q) 1 q, stored (sDiag i arg2 harg2 arg3 harg3 arg5 harg5 x0 x1 x3 q 1)⟩ ::
    ⟨blkRect (half q) 0 q, stored (sDiag i arg2 harg2 arg3 harg3 arg5 harg5 x0 x1 x3 q 0)⟩ :: sBefore i arg2 harg2 arg3 harg3 arg5 harg5 x0 x1 x3 q ts L

/-- The shifts of head `j` at query tile `q`: the row maxima over the key tiles `t0`, `ts` before the diagonal, then the
    diagonal, with the decays of the rows added and taken off again. -/
def shiftAt (q : Fin 8) (j : Fin 2) : List (Fin 8) → FVec F S256x1 .f32
  | [] => overBack (shiftOf (rowMax (sDiag i arg2 harg2 arg3 harg3 arg5 harg5 x0 x1 x3 q j) [])) (rowDecays i arg6 harg6 x4 q j)
  | t :: ts => overBack (shiftOf (rowMax (sBlk i arg2 harg2 arg3 harg3 arg5 harg5 x0 x1 x3 q j t)
      ((ts.map fun t => sBlk i arg2 harg2 arg3 harg3 arg5 harg5 x0 x1 x3 q j t) ++ [sDiag i arg2 harg2 arg3 harg3 arg5 harg5 x0 x1 x3 q j])))
      (rowDecays i arg6 harg6 x4 q j)

/-- The stores of head `j`'s weights at query tile `q`, key tiles `ts` (the last store first), the scores read back from `S`. -/
def pHead (q : Fin 8) (up : List (Fin 8)) (S : List (SPiece F)) (j : Fin 2) : List (Fin 8) → List (PPiece F) → List (PPiece F)
  | [], L => L
  | t :: ts, L => ⟨blkRect (half q) j t, weights (arg8.view.readCov S (blkRect (half q) j t).toLoadRect)
      (shiftAt i arg2 harg2 arg3 harg3 arg5 harg5 arg6 harg6 x0 x1 x3 x4 q j up)⟩ :: pHead q up S j ts L

/-- The stores of the weights of query tile `q`: `up` the key tiles before the diagonal in increasing order, `dn` all of them
    in decreasing order. -/
def pTile (q : Fin 8) (up dn : List (Fin 8)) (S : List (SPiece F)) (L : List (PPiece F)) : List (PPiece F) :=
  pHead i arg2 harg2 arg3 harg3 arg5 harg5 arg6 harg6 arg8 x0 x1 x3 x4 q up S 1 dn (pHead i arg2 harg2 arg3 harg3 arg5 harg5 arg6 harg6 arg8 x0 x1 x3 x4 q up S 0 dn L)

/-- The key tiles before tile `q`, in increasing and in decreasing order. -/
def below : Fin 8 → List (Fin 8)
  | 0 => [] | 1 => [0] | 2 => [0, 1] | 3 => [0, 1, 2] | 4 => [0, 1, 2, 3] | 5 => [0, 1, 2, 3, 4]
  | 6 => [0, 1, 2, 3, 4, 5] | 7 => [0, 1, 2, 3, 4, 5, 6]

def belowDown : Fin 8 → List (Fin 8)
  | 0 => [] | 1 => [0] | 2 => [1, 0] | 3 => [2, 1, 0] | 4 => [3, 2, 1, 0] | 5 => [4, 3, 2, 1, 0]
  | 6 => [5, 4, 3, 2, 1, 0] | 7 => [6, 5, 4, 3, 2, 1, 0]

/-- The score stores of the first `n` tiles treated (tiles 7, 6, …), the last store first. -/
def sAll : Nat → List (SPiece F)
  | 0 => []
  | n + 1 => sTile i arg2 harg2 arg3 harg3 arg5 harg5 x0 x1 x3 ⟨7 - n, by omega⟩ (belowDown ⟨7 - n, by omega⟩) (sAll n)

/-- The weight stores of the first `n` tiles treated. -/
def pAll : Nat → List (PPiece F)
  | 0 => []
  | n + 1 => pTile i arg2 harg2 arg3 harg3 arg5 harg5 arg6 harg6 arg8 x0 x1 x3 x4 ⟨7 - n, by omega⟩ (below ⟨7 - n, by omega⟩)
      ((⟨7 - n, by omega⟩ : Fin 8) :: belowDown ⟨7 - n, by omega⟩) (sAll i arg2 harg2 arg3 harg3 arg5 harg5 x0 x1 x3 (n + 1)) (pAll n)

/-! ## The lists the run names -/

variable (c : Dev nD)

theorem s_1 : kernelRun0_A.sl.HS0_16 c i arg2 harg2 arg3 harg3 arg5 harg5 x0 x1 x3 = sAll i arg2 harg2 arg3 harg3 arg5 harg5 x0 x1 x3 1 := rfl
theorem s_2 : kernelRun0_A.sl.HS0_30 c i arg2 harg2 arg3 harg3 arg5 harg5 x0 x1 x3 = sAll i arg2 harg2 arg3 harg3 arg5 harg5 x0 x1 x3 2 := rfl
theorem s_3 : kernelRun0_A.sl.HS0_42 c i arg2 harg2 arg3 harg3 arg5 harg5 x0 x1 x3 = sAll i arg2 harg2 arg3 harg3 arg5 harg5 x0 x1 x3 3 := rfl
theorem s_4 : kernelRun0_A.sl.HS0_52 c i arg2 harg2 arg3 harg3 arg5 harg5 x0 x1 x3 = sAll i arg2 harg2 arg3 harg3 arg5 harg5 x0 x1 x3 4 := rfl
theorem s_5 : kernelRun0_A.sl.HS0_60 c i arg2 harg2 arg3 harg3 arg5 harg5 x0 x1 x3 = sAll i arg2 harg2 arg3 harg3 arg5 harg5 x0 x1 x3 5 := rfl
theorem s_6 : kernelRun0_A.sl.HS0_66 c i arg2 harg2 arg3 harg3 arg5 harg5 x0 x1 x3 = sAll i arg2 harg2 arg3 harg3 arg5 harg5 x0 x1 x3 6 := rfl
theorem s_7 : kernelRun0_A.sl.HS0_70 c i arg2 harg2 arg3 harg3 arg5 harg5 x0 x1 x3 = sAll i arg2 harg2 arg3 harg3 arg5 harg5 x0 x1 x3 7 := rfl
theorem s_8 : kernelRun0_A.sl.HS0_72 c i arg2 harg2 arg3 harg3 arg5 harg5 x0 x1 x3 = sAll i arg2 harg2 arg3 harg3 arg5 harg5 x0 x1 x3 8 := rfl

theorem p_1 : kernelRun0_A.sl.HS1_16 c i arg2 harg2 arg3 harg3 arg5 harg5 arg6 harg6 arg8 x0 x1 x3 x4 = pAll i arg2 harg2 arg3 harg3 arg5 harg5 arg6 harg6 arg8 x0 x1 x3 x4 1 := rfl
theorem p_2 : kernelRun0_A.sl.HS1_30 c i arg2 harg2 arg3 harg3 arg5 harg5 arg6 harg6 arg8 x0 x1 x3 x4 = pAll i arg2 harg2 arg3 harg3 arg5 harg5 arg6 harg6 arg8 x0 x1 x3 x4 2 := rfl
theorem p_3 : kernelRun0_A.sl.HS1_42 c i arg2 harg2 arg3 harg3 arg5 harg5 arg6 harg6 arg8 x0 x1 x3 x4 = pAll i arg2 harg2 arg3 harg3 arg5 harg5 arg6 harg6 arg8 x0 x1 x3 x4 3 := rfl
theorem p_4 : kernelRun0_A.sl.HS1_52 c i arg2 harg2 arg3 harg3 arg5 harg5 arg6 harg6 arg8 x0 x1 x3 x4 = pAll i arg2 harg2 arg3 harg3 arg5 harg5 arg6 harg6 arg8 x0 x1 x3 x4 4 := rfl
theorem p_5 : kernelRun0_A.sl.HS1_60 c i arg2 harg2 arg3 harg3 arg5 harg5 arg6 harg6 arg8 x0 x1 x3 x4 = pAll i arg2 harg2 arg3 harg3 arg5 harg5 arg6 harg6 arg8 x0 x1 x3 x4 5 := rfl
theorem p_6 : kernelRun0_A.sl.HS1_66 c i arg2 harg2 arg3 harg3 arg5 harg5 arg6 harg6 arg8 x0 x1 x3 x4 = pAll i arg2 harg2 arg3 harg3 arg5 harg5 arg6 harg6 arg8 x0 x1 x3 x4 6 := rfl
theorem p_7 : kernelRun0_A.sl.HS1_70 c i arg2 harg2 arg3 harg3 arg5 harg5 arg6 harg6 arg8 x0 x1 x3 x4 = pAll i arg2 harg2 arg3 harg3 arg5 harg5 arg6 harg6 arg8 x0 x1 x3 x4 7 := rfl
theorem p_8 : kernelRun0_A.sl.HS1_72 c i arg2 harg2 arg3 harg3 arg5 harg5 arg6 harg6 arg8 x0 x1 x3 x4 = pAll i arg2 harg2 arg3 harg3 arg5 harg5 arg6 harg6 arg8 x0 x1 x3 x4 8 := rfl

end Tiles

/-! ## The outputs -/

section Out

variable (i : grid0.Coords) (arg2 : Memref sig .tc .vmem S1x1x2048x128 .bf16) (harg2 : arg2.IsWhole)
  (arg3 : Memref sig .tc .vmem S1x1x2048x128 .bf16) (harg3 : arg3.IsWhole)
  (arg4 : Memref sig .tc .vmem S1x1x2048x128 .bf16) (harg4 : arg4.IsWhole)
  (arg5 : Memref sig .tc .vmem S16x2048 .f32) (harg5 : arg5.IsWhole)
  (arg6 : Memref sig .tc .vmem S2048x128 .f32) (harg6 : arg6.IsWhole)
  (arg8 : Memref sig .tc .vmem S2x512x2048 .f32) (arg9 : Memref sig .tc .vmem S2x512x2048 .bf16)
  (arg10 : Memref sig .tc .vmem S2048x256 .bf16)
  (x0 x1 x2 : Vec F S1x1x2048x128 .bf16) (x3 : Vec F S16x2048 .f32) (x4 : Vec F S2048x128 .f32)

/-- The stores of the value buffer: the values in lanes 0 to 127, ones in lanes 128 to 255. -/
def vAll : List (View.Piece (Elt F) S2048x256 .bf16) :=
  [⟨Rect.unit ![0, 128] S2048x128.size (by decide),
    shapeCast S2048x128 (broadcast S2048x128 (Scalar.ofBits .bf16 0x3F80#16) : FVec F S2048x128 .bf16) (by decide)⟩,
   ⟨Rect.unit ![0, 0] S2048x128.size (by decide),
    shapeCast (s := S2048x128) S2048x128 (shapeCast (s := S1x1x2048x128) S2048x128
      (arg4.view.readAt (Elt F) (Rect.unit (s := S1x1x2048x128) ![0, 0, 0, 0] S1x1x2048x128.size (by decide)).toLoadRect
        (harg4.unread x2)) (by decide)) (by decide)⟩]

theorem inb_weights (b : Fin 2) (q : Fin 8) :
    ∀ a, (![b.val, 0, 0] : Fin 3 → Nat) a + (![1, 512, 256 * (q.val + 1)] : Fin 3 → Nat) a ≤ S2x512x2048.size a := by
  intro a; have := q.isLt; have := b.isLt; fin_cases a <;> simp <;> omega

theorem inb_values (q : Fin 8) :
    ∀ a, (![0, 0] : Fin 2 → Nat) a + (![256 * (q.val + 1), 256] : Fin 2 → Nat) a ≤ S2048x256.size a := by
  intro a; have := q.isLt; fin_cases a <;> simp <;> omega

theorem inb_out (q : Fin 8) :
    ∀ a, (![0, 0, 256 * q.val, 0] : Fin 4 → Nat) a + S1x1x256x128.size a ≤ S1x1x2048x128.size a := by
  intro a; have := q.isLt; fin_cases a <;> simp <;> omega

theorem casts_weights (q : Fin 8) : (Cube 1 512 (256 * (q.val + 1))).ShapeCasts (Mat 512 (256 * (q.val + 1))) := by
  fin_cases q <;> decide

def pBox (q : Fin 8) : Rect S2x512x2048 :=
  Rect.unit ![(half q).val, 0, 0] ![1, 512, 256 * (q.val + 1)] (inb_weights (half q) q)

def vBox (q : Fin 8) : Rect S2048x256 := Rect.unit ![0, 0] ![256 * (q.val + 1), 256] (inb_values q)

def oRect (q : Fin 8) : Rect S1x1x2048x128 := Rect.unit ![0, 0, 256 * q.val, 0] S1x1x256x128.size (inb_out q)

/-- The output of tile `q`. -/
def outAt (q : Fin 8) : FVec F S1x1x256x128 .bf16 :=
  outTile (256 * (q.val + 1)) (casts_weights q)
    (arg9.view.readCov (pAll i arg2 harg2 arg3 harg3 arg5 harg5 arg6 harg6 arg8 x0 x1 x3 x4 (8 - q.val)) (pBox q).toLoadRect)
    (arg10.view.readCov (vAll arg4 harg4 x2) (vBox q).toLoadRect)

/-- The eight stores of the output block, the last first. -/
def outAll : List (View.Piece (Elt F) S1x1x2048x128 .bf16) :=
  List.ofFn fun q : Fin 8 => ⟨oRect q, outAt i arg2 harg2 arg3 harg3 arg4 harg4 arg5 harg5 arg6 harg6 arg8 arg9 arg10 x0 x1 x2 x3 x4 q⟩

variable (c : Dev nD) (arg7 : Memref sig .tc .vmem S1x1x2048x128 .bf16) (harg7 : arg7.IsWhole)
  (harg8 : arg8.IsWhole) (harg9 : arg9.IsWhole) (harg10 : arg10.IsWhole)

theorem v_eq : kernelRun0_A.sl.HS2_2 c arg4 harg4 x2 = vAll arg4 harg4 x2 := rfl

theorem o_0 : k0_pay1 kernelRun0_A.sl.v0 (kernelRun0_A.sl.r_143 (F := F) c i arg2 harg2 arg3 harg3 arg5 harg5 arg6 harg6 arg8 arg9 x0 x1 x3 x4) (kernelRun0_A.sl.v2461 (F := F) c arg4 harg4 arg10 x2) =
    outAt i arg2 harg2 arg3 harg3 arg4 harg4 arg5 harg5 arg6 harg6 arg8 arg9 arg10 x0 x1 x2 x3 x4 0 := by
  unfold outAt
  rw [show 8 - (0 : Fin 8).val = 8 from rfl, ← p_8 i arg2 harg2 arg3 harg3 arg5 harg5 arg6 harg6 arg8 x0 x1 x3 x4 c,
    ← v_eq arg4 harg4 x2 c]
  rfl

theorem o_1 : k0_pay399 (kernelRun0_A.sl.r_138 (F := F) c i arg2 harg2 arg3 harg3 arg4 harg4 arg5 harg5 arg6 harg6 arg8 arg9 arg10 x0 x1 x2 x3 x4) (k0_pay398 kernelRun0_A.sl.v0) =
    outAt i arg2 harg2 arg3 harg3 arg4 harg4 arg5 harg5 arg6 harg6 arg8 arg9 arg10 x0 x1 x2 x3 x4 1 := by
  unfold outAt
  rw [show 8 - (1 : Fin 8).val = 7 from rfl, ← p_7 i arg2 harg2 arg3 harg3 arg5 harg5 arg6 harg6 arg8 x0 x1 x3 x4 c,
    ← v_eq arg4 harg4 x2 c]
  rfl

theorem o_2 : kernelRun0_A.sl.v2183 (F := F) c i arg2 harg2 arg3 harg3 arg4 harg4 arg5 harg5 arg6 harg6 arg8 arg9 arg10 x0 x1 x2 x3 x4 =
    outAt i arg2 harg2 arg3 harg3 arg4 harg4 arg5 harg5 arg6 harg6 arg8 arg9 arg10 x0 x1 x2 x3 x4 2 := by
  unfold outAt
  rw [show 8 - (2 : Fin 8).val = 6 from rfl, ← p_6 i arg2 harg2 arg3 harg3 arg5 harg5 arg6 harg6 arg8 x0 x1 x3 x4 c,
    ← v_eq arg4 harg4 x2 c]
  rfl

theorem o_3 : kernelRun0_A.sl.v1957 (F := F) c i arg2 harg2 arg3 harg3 arg4 harg4 arg5 harg5 arg6 harg6 arg8 arg9 arg10 x0 x1 x2 x3 x4 =
    outAt i arg2 harg2 arg3 harg3 arg4 harg4 arg5 harg5 arg6 harg6 arg8 arg9 arg10 x0 x1 x2 x3 x4 3 := by
  unfold outAt
  rw [show 8 - (3 : Fin 8).val = 5 from rfl, ← p_5 i arg2 harg2 arg3 harg3 arg5 harg5 arg6 harg6 arg8 x0 x1 x3 x4 c,
    ← v_eq arg4 harg4 x2 c]
  rfl

theorem o_4 : kernelRun0_A.sl.v1678 (F := F) c i arg2 harg2 arg3 harg3 arg4 harg4 arg5 harg5 arg6 harg6 arg8 arg9 arg10 x0 x1 x2 x3 x4 =
    outAt i arg2 harg2 arg3 harg3 arg4 harg4 arg5 harg5 arg6 harg6 arg8 arg9 arg10 x0 x1 x2 x3 x4 4 := by
  unfold outAt
  rw [show 8 - (4 : Fin 8).val = 4 from rfl, ← p_4 i arg2 harg2 arg3 harg3 arg5 harg5 arg6 harg6 arg8 x0 x1 x3 x4 c,
    ← v_eq arg4 harg4 x2 c]
  rfl

theorem o_5 : kernelRun0_A.sl.v1346 (F := F) c i arg2 harg2 arg3 harg3 arg4 harg4 arg5 harg5 arg6 harg6 arg8 arg9 arg10 x0 x1 x2 x3 x4 =
    outAt i arg2 harg2 arg3 harg3 arg4 harg4 arg5 harg5 arg6 harg6 arg8 arg9 arg10 x0 x1 x2 x3 x4 5 := by
  unfold outAt
  rw [show 8 - (5 : Fin 8).val = 3 from rfl, ← p_3 i arg2 harg2 arg3 harg3 arg5 harg5 arg6 harg6 arg8 x0 x1 x3 x4 c,
    ← v_eq arg4 harg4 x2 c]
  rfl

theorem o_6 : k0_pay163 kernelRun0_A.sl.v0 (kernelRun0_A.sl.v947 (F := F) c i arg2 harg2 arg3 harg3 arg4 harg4 arg5 harg5 arg6 harg6 arg8 arg9 arg10 x0 x1 x2 x3 x4) (kernelRun0_A.sl.v948 (F := F) c i arg2 harg2 arg3 harg3 arg4 harg4 arg5 harg5 arg6 harg6 arg8 arg9 arg10 x0 x1 x2 x3 x4) =
    outAt i arg2 harg2 arg3 harg3 arg4 harg4 arg5 harg5 arg6 harg6 arg8 arg9 arg10 x0 x1 x2 x3 x4 6 := by
  unfold outAt
  rw [show 8 - (6 : Fin 8).val = 2 from rfl, ← p_2 i arg2 harg2 arg3 harg3 arg5 harg5 arg6 harg6 arg8 x0 x1 x3 x4 c,
    ← v_eq arg4 harg4 x2 c]
  rfl

theorem o_7 : k0_pay89 kernelRun0_A.sl.v0 (kernelRun0_A.sl.v509 (F := F) c i arg2 harg2 arg3 harg3 arg4 harg4 arg5 harg5 arg6 harg6 arg8 arg9 arg10 x0 x1 x2 x3 x4) =
    outAt i arg2 harg2 arg3 harg3 arg4 harg4 arg5 harg5 arg6 harg6 arg8 arg9 arg10 x0 x1 x2 x3 x4 7 := by
  unfold outAt
  rw [show 8 - (7 : Fin 8).val = 1 from rfl, ← p_1 i arg2 harg2 arg3 harg3 arg5 harg5 arg6 harg6 arg8 x0 x1 x3 x4 c,
    ← v_eq arg4 harg4 x2 c]
  rfl

theorem out_eq : (kernelRun0_A c i arg2 harg2 arg3 harg3 arg4 harg4 arg5 harg5 arg6 harg6 arg7 harg7 arg8 harg8 arg9 harg9 arg10 harg10 x0 x1 x2 x3 x4).1 =
    outAll i arg2 harg2 arg3 harg3 arg4 harg4 arg5 harg5 arg6 harg6 arg8 arg9 arg10 x0 x1 x2 x3 x4 := by
  unfold kernelRun0_A
  dsimp only
  rw [o_0, o_1, o_2, o_3, o_4, o_5, o_6, o_7]
  rfl

end Out

end Cert.FoxTile
-- ==== Proof.FoxTile.lean ====
/-
  What the stores of one grid point hold, over the extended reals: the scores' buffer holds the masked scores, the
  weights' buffer the weights, the value buffer the values and ones, and a tile's output the weighted means of its rows.
-/
module

public import proofs.«01_k».proof.Proof.FoxPieces
public import proofs.«01_k».proof.Proof.AttnMath
public import proofs.«01_k».proof.Proof.Stores
public import Idealize.ShloMosaic.Lib.WholeRead

@[expose] public section

noncomputable section

namespace Cert.FoxTile

open Cert.FoxIdeal Cert.FoxIdeal.Gen Idealize.ShloMosaic Idealize.ShloMosaic.TcCoe Idealize.SL.Sem Cert.Attn Cert.Stores

variable (i : grid0.Coords) (arg2 : Memref sig .tc .vmem S1x1x2048x128 .bf16) (harg2 : arg2.IsWhole)
  (arg3 : Memref sig .tc .vmem S1x1x2048x128 .bf16) (harg3 : arg3.IsWhole)
  (arg4 : Memref sig .tc .vmem S1x1x2048x128 .bf16) (harg4 : arg4.IsWhole)
  (arg5 : Memref sig .tc .vmem S16x2048 .f32) (harg5 : arg5.IsWhole)
  (arg6 : Memref sig .tc .vmem S2048x128 .f32) (harg6 : arg6.IsWhole)
  (arg8 : Memref sig .tc .vmem S2x512x2048 .f32) (arg9 : Memref sig .tc .vmem S2x512x2048 .bf16)
  (arg10 : Memref sig .tc .vmem S2048x256 .bf16)
  (x0 x1 x2 : Vec Ideal S1x1x2048x128 .bf16) (x3 : Vec Ideal S16x2048 .f32) (x4 : Vec Ideal S2048x128 .f32)

/-- Row `256·t + r`. -/
def row (t : Fin 8) (r : Fin 256) : Fin 2048 := ⟨256 * t.val + r.val, by omega⟩

/-- The rows of a block of queries or keys. -/
def rows (x : Vec Ideal S1x1x2048x128 .bf16) (R : Fin 2048) (l : Fin 128) : EReal := x (ix4 0 0 R l)

theorem rowsOf_apply (m : Memref sig .tc .vmem S1x1x2048x128 .bf16) (hm : m.IsWhole) (x : Vec Ideal S1x1x2048x128 .bf16)
    (t : Fin 8) (r : Fin 256) (l : Fin 128) : rowsOf (F := Ideal) m hm x t (ix2 r l) = rows x (row t r) l := by
  unfold rowsOf
  pointwise
  refine (Memref.IsWhole.readAt_unread hm x _ _).trans (congrArg x ?_)
  funext a
  apply Fin.ext
  match a with
  | ⟨0, _⟩ => rfl
  | ⟨1, _⟩ => rfl
  | ⟨2, _⟩ => show 256 * t.val + 1 * r.val = 256 * t.val + r.val; omega
  | ⟨3, _⟩ => show 0 + 1 * l.val = l.val; omega

theorem head_lt (i : grid0.Coords) (j : Fin 2) : 2 * (i 0).val + j.val < 8 := by
  have h0 : (i 0).val < 4 := (i 0).isLt
  omega

theorem headNo_eq : ∀ (i : grid0.Coords) (j : Fin 2), headNo i j = BitVec.ofNat 32 (2 * (i 0).val + j.val) := by decide +kernel

/-- The decays of the columns for head `j` of the grid point's pair. -/
def colDec (j : Fin 2) (C : Fin 2048) : EReal := x3 (ix2 ⟨2 * (i 0).val + j.val, by have := head_lt i j; omega⟩ C)

/-- The decay of row `R`, in powers of two. -/
def rowDec (j : Fin 2) (R : Fin 2048) : EReal := x4 (ix2 R ⟨2 * (i 0).val + j.val, by have := head_lt i j; omega⟩) * lg (F := Ideal)

theorem colDecays_apply (j : Fin 2) (t : Fin 8) (u : Fin 1) (c : Fin 256) :
    colDecays (F := Ideal) i arg5 harg5 x3 j t (ix2 u c) = colDec i x3 j (row t c) := by
  unfold colDecays
  refine (Memref.IsWhole.readAt_unread harg5 x3 _ _).trans (congrArg x3 ?_)
  funext a
  apply Fin.ext
  have h := decayOff_eq i j t
  match a with
  | ⟨0, _⟩ =>
    show decayOff i j t 0 + 1 * u.val = 2 * (i 0).val + j.val
    rw [h]
    show 2 * (i 0).val + j.val + 1 * u.val = _
    omega
  | ⟨1, _⟩ => show 256 * t.val + 1 * c.val = 256 * t.val + c.val; omega

theorem rowDecays_apply (q : Fin 8) (j : Fin 2) (r : Fin 256) (u : Fin 1) :
    rowDecays (F := Ideal) i arg6 harg6 x4 q j (ix2 r u) = rowDec i x4 j (row q r) := by
  unfold rowDecays
  rw [headNo_eq]
  refine (rowDecay_apply (lg (F := Ideal)) ⟨2 * (i 0).val + j.val, by have := head_lt i j; omega⟩ _ r u).trans ?_
  unfold rowDec
  refine congrArg₂ (· * ·) ((Memref.IsWhole.readAt_unread harg6 x4 _ _).trans (congrArg x4 ?_)) rfl
  funext a
  apply Fin.ext
  match a with
  | ⟨0, _⟩ => show 256 * q.val + 1 * r.val = 256 * q.val + r.val; omega
  | ⟨1, _⟩ => show 0 + 1 * (2 * (i 0).val + j.val) = 2 * (i 0).val + j.val; omega

/-- The decayed scores of row `R` for head `j`. -/
def sc (j : Fin 2) (R : Fin 2048) : Fin 2048 → EReal := decayScore (lg (F := Ideal)) (rows x0) (rows x1) (colDec i x3 j) j R

/-- The masked scores of row `R` for head `j`. -/
def line (j : Fin 2) (R : Fin 2048) : Fin 2048 → EReal := past (sc i x0 x1 x3 j R) R

/-- The shift of row `R`: its largest score, the row's decay added and taken off again. -/
def shiftLine (j : Fin 2) (R : Fin 2048) : EReal := top (line i x0 x1 x3 j R) + rowDec i x4 j R - rowDec i x4 j R

/-- The weight of column `C` for row `R`. -/
def wt (j : Fin 2) (R C : Fin 2048) : EReal := Ideal.exp2 (line i x0 x1 x3 j R C - shiftLine i x0 x1 x3 x4 j R)

theorem sBlk_apply (q : Fin 8) (j : Fin 2) (t : Fin 8) (r c : Fin 256) :
    sBlk (F := Ideal) i arg2 harg2 arg3 harg3 arg5 harg5 x0 x1 x3 q j t (ix2 r c) = sc i x0 x1 x3 j (row q r) (row t c) := by
  unfold sBlk s2
  refine (decayed_apply _ _ _ r c).trans ?_
  rw [headOf_apply, scores_apply, colDecays_apply]
  unfold sc decayScore
  refine congrArg₂ (· - ·) (Finset.sum_congr rfl fun l _ => ?_) rfl
  rw [qPair128_masks_apply, rowsOf_apply, rowsOf_apply]

theorem sBlk_line (q : Fin 8) (j : Fin 2) (t : Fin 8) (h : t < q) (r c : Fin 256) :
    sBlk (F := Ideal) i arg2 harg2 arg3 harg3 arg5 harg5 x0 x1 x3 q j t (ix2 r c) = line i x0 x1 x3 j (row q r) (row t c) := by
  rw [sBlk_apply]
  exact (if_pos (by show 256 * t.val + c.val ≤ 256 * q.val + r.val; have : t.val < q.val := h; omega)).symm

theorem sDiag_apply (q : Fin 8) (j : Fin 2) (r c : Fin 256) :
    sDiag (F := Ideal) i arg2 harg2 arg3 harg3 arg5 harg5 x0 x1 x3 q j (ix2 r c) = line i x0 x1 x3 j (row q r) (row q c) := by
  unfold sDiag
  rw [diag_apply, sBlk_apply]
  exact if_congr (by simp only [row, Fin.le_def]; omega) rfl rfl

theorem mem_below (q t : Fin 8) : t ∈ below q ↔ t < q := by revert q t; decide

theorem mem_belowDown (q t : Fin 8) : t ∈ belowDown q ↔ t < q := by revert q t; decide

/-- The shift before the row's decay is added. -/
def shift0 (q : Fin 8) (j : Fin 2) : List (Fin 8) → FVec Ideal S256x1 .f32
  | [] => shiftOf (rowMax (sDiag i arg2 harg2 arg3 harg3 arg5 harg5 x0 x1 x3 q j) [])
  | t :: ts => shiftOf (rowMax (sBlk i arg2 harg2 arg3 harg3 arg5 harg5 x0 x1 x3 q j t)
      ((ts.map fun t => sBlk i arg2 harg2 arg3 harg3 arg5 harg5 x0 x1 x3 q j t) ++ [sDiag i arg2 harg2 arg3 harg3 arg5 harg5 x0 x1 x3 q j]))

theorem shiftAt_over (q : Fin 8) (j : Fin 2) (l : List (Fin 8)) :
    shiftAt (F := Ideal) i arg2 harg2 arg3 harg3 arg5 harg5 arg6 harg6 x0 x1 x3 x4 q j l
      = overBack (shift0 i arg2 harg2 arg3 harg3 arg5 harg5 x0 x1 x3 q j l) (rowDecays i arg6 harg6 x4 q j) := by
  cases l <;> rfl

theorem shift0_tiles (q : Fin 8) (j : Fin 2) (r : Fin 256) (u : Fin 1) (a : EReal) (l : List (Fin 8)) :
    shift0 i arg2 harg2 arg3 harg3 arg5 harg5 x0 x1 x3 q j l (ix2 r u) ≤ a ↔
      (∀ t ∈ l, ∀ c, sBlk (F := Ideal) i arg2 harg2 arg3 harg3 arg5 harg5 x0 x1 x3 q j t (ix2 r c) ≤ a) ∧
        ∀ c, sDiag (F := Ideal) i arg2 harg2 arg3 harg3 arg5 harg5 x0 x1 x3 q j (ix2 r c) ≤ a := by
  cases l with
  | nil => unfold shift0; rw [shift_le]; simp
  | cons t ts =>
    unfold shift0
    rw [shift_le]
    simp only [List.mem_cons, List.mem_append, List.mem_map, List.not_mem_nil, or_false, forall_eq_or_imp, or_imp, forall_and,
      forall_exists_index, and_imp, forall_apply_eq_imp_iff₂, forall_eq, and_assoc]

theorem row_surj (C : Fin 2048) : ∃ t c, C = row t c :=
  ⟨⟨C.val / 256, by omega⟩, ⟨C.val % 256, by omega⟩, Fin.ext (by simp only [row]; omega)⟩

theorem shift0_apply (q : Fin 8) (j : Fin 2) (r : Fin 256) (u : Fin 1) :
    shift0 i arg2 harg2 arg3 harg3 arg5 harg5 x0 x1 x3 q j (below q) (ix2 r u) = top (line i x0 x1 x3 j (row q r)) := by
  refine eq_of_forall_ge_iff fun a => ?_
  rw [shift0_tiles, top_le]
  constructor
  · rintro ⟨h1, h2⟩ C
    obtain ⟨t, c, rfl⟩ := row_surj C
    rcases lt_trichotomy t q with h | rfl | h
    · rw [← sBlk_line i arg2 harg2 arg3 harg3 arg5 harg5 x0 x1 x3 q j t h]; exact h1 t ((mem_below q t).2 h) c
    · rw [← sDiag_apply i arg2 harg2 arg3 harg3 arg5 harg5]; exact h2 c
    · have : line i x0 x1 x3 j (row q r) (row t c) = ⊥ := if_neg (by
        show ¬ 256 * t.val + c.val ≤ 256 * q.val + r.val
        have : q.val < t.val := h
        omega)
      rw [this]; exact bot_le
  · intro h
    refine ⟨fun t ht c => ?_, fun c => ?_⟩
    · rw [sBlk_line i arg2 harg2 arg3 harg3 arg5 harg5 x0 x1 x3 q j t ((mem_below q t).1 ht)]; exact h _
    · rw [sDiag_apply]; exact h _

theorem shiftAt_apply (q : Fin 8) (j : Fin 2) (r : Fin 256) (u : Fin 1) :
    shiftAt (F := Ideal) i arg2 harg2 arg3 harg3 arg5 harg5 arg6 harg6 x0 x1 x3 x4 q j (below q) (ix2 r u)
      = shiftLine i x0 x1 x3 x4 j (row q r) := by
  rw [shiftAt_over, overBack_apply, shift0_apply, rowDecays_apply]
  rfl

/-! ## The scores' buffer -/

theorem sBefore_append (q : Fin 8) (L : List (SPiece Ideal)) : ∀ ts : List (Fin 8),
    sBefore (F := Ideal) i arg2 harg2 arg3 harg3 arg5 harg5 x0 x1 x3 q ts L = sBefore (F := Ideal) i arg2 harg2 arg3 harg3 arg5 harg5 x0 x1 x3 q ts [] ++ L
  | [] => rfl
  | t :: ts => by simp only [sBefore, List.cons_append]; rw [sBefore_append q L ts]

theorem mem_sBefore (q : Fin 8) (p : SPiece Ideal) : ∀ ts : List (Fin 8),
    p ∈ sBefore (F := Ideal) i arg2 harg2 arg3 harg3 arg5 harg5 x0 x1 x3 q ts [] ↔ ∃ t ∈ ts, ∃ j : Fin 2,
      p = ⟨blkRect (half q) j t, stored (sBlk (F := Ideal) i arg2 harg2 arg3 harg3 arg5 harg5 x0 x1 x3 q j t)⟩
  | [] => by simp [sBefore]
  | t :: ts => by
    simp only [sBefore, List.mem_cons, mem_sBefore q p ts, exists_eq_or_imp, Fin.exists_fin_two]
    exact ⟨fun h => by rcases h with h | h | h; exacts [.inl (.inr h), .inl (.inl h), .inr h],
      fun h => by rcases h with (h | h) | h; exacts [.inr (.inl h), .inl h, .inr (.inr h)]⟩

/-- The masked scores of tile `q`, at an index of the buffer. -/
def sHeld (q : Fin 8) (y : S2x512x2048.Idx) : EReal :=
  line i x0 x1 x3 ⟨(y 1).val / 256, by have : (y 1).val < 512 := (y 1).isLt; omega⟩
    (row q ⟨(y 1).val % 256, Nat.mod_lt _ (by decide)⟩) (y 2)

theorem blk_emb (b j : Fin 2) (t : Fin 8) (u : Fin 1) (r c : Fin 256) :
    (blkRect b j t).emb (ix3 u r c) = ix3 (n0 := 2) (n1 := 512) (n2 := 2048) b ⟨256 * j.val + r.val, by omega⟩ (row t c) := by
  funext a
  apply Fin.ext
  match a with
  | ⟨0, _⟩ => show b.val + 1 * u.val = b.val; omega
  | ⟨1, _⟩ => show 256 * j.val + 1 * r.val = 256 * j.val + r.val; omega
  | ⟨2, _⟩ => show 256 * t.val + 1 * c.val = 256 * t.val + c.val; omega

theorem mem_blk (b j : Fin 2) (t : Fin 8) (r c : Fin 256) :
    ix3 (n0 := 2) (n1 := 512) (n2 := 2048) b ⟨256 * j.val + r.val, by omega⟩ (row t c) ∈ (blkRect b j t).set := by
  rw [← blk_emb b j t 0 r c]
  exact LoadRect.idx_mem _ _

theorem sHeld_blk (q : Fin 8) (b j : Fin 2) (t : Fin 8) (r c : Fin 256) :
    sHeld i x0 x1 x3 q (ix3 (n0 := 2) (n1 := 512) (n2 := 2048) b ⟨256 * j.val + r.val, by omega⟩ (row t c))
      = line i x0 x1 x3 j (row q r) (row t c) := by
  have h1 : (⟨(256 * j.val + r.val) / 256, by omega⟩ : Fin 2) = j := Fin.ext (by simp only; omega)
  have h2 : (⟨(256 * j.val + r.val) % 256, by omega⟩ : Fin 256) = r := Fin.ext (by simp only; omega)
  show line i x0 x1 x3 ⟨(256 * j.val + r.val) / 256, _⟩ (row q ⟨(256 * j.val + r.val) % 256, _⟩) (row t c) = _
  rw [h1, h2]

theorem sTile_canon (q : Fin 8) (L : List (SPiece Ideal)) (j : Fin 2) (t : Fin 8) (ht : t ≤ q) (r c : Fin 256) :
    View.canon (sTile (F := Ideal) i arg2 harg2 arg3 harg3 arg5 harg5 x0 x1 x3 q (belowDown q) L)
        (ix3 (n0 := 2) (n1 := 512) (n2 := 2048) (half q) ⟨256 * j.val + r.val, by omega⟩ (row t c))
      = line i x0 x1 x3 j (row q r) (row t c) := by
  have e : sTile (F := Ideal) i arg2 harg2 arg3 harg3 arg5 harg5 x0 x1 x3 q (belowDown q) L
      = sTile (F := Ideal) i arg2 harg2 arg3 harg3 arg5 harg5 x0 x1 x3 q (belowDown q) [] ++ L := by
    unfold sTile; rw [sBefore_append]; rfl
  rw [e, ← sHeld_blk i x0 x1 x3 q (half q)]
  refine canon_agree (sHeld i x0 x1 x3 q) L _ _ ?_ ?_
  · intro p hp k
    have : (∃ j : Fin 2, p = ⟨blkRect (half q) j q, stored (sDiag (F := Ideal) i arg2 harg2 arg3 harg3 arg5 harg5 x0 x1 x3 q j)⟩) ∨
        ∃ t ∈ belowDown q, ∃ j : Fin 2, p = ⟨blkRect (half q) j t, stored (sBlk (F := Ideal) i arg2 harg2 arg3 harg3 arg5 harg5 x0 x1 x3 q j t)⟩ := by
      rw [← mem_sBefore, Fin.exists_fin_two]
      unfold sTile at hp
      simp only [List.mem_cons] at hp
      tauto
    rcases this with ⟨j', rfl⟩ | ⟨t', ht', j', rfl⟩
    · obtain ⟨u, r', c', rfl⟩ : ∃ u r' c', k = ix3 (n0 := 1) (n1 := 256) (n2 := 256) u r' c' := ⟨k 0, k 1, k 2, eq_ix3 k⟩
      rw [blk_emb, sHeld_blk]
      exact (stored_apply _ u r' c').trans (sDiag_apply i arg2 harg2 arg3 harg3 arg5 harg5 x0 x1 x3 q j' r' c')
    · obtain ⟨u, r', c', rfl⟩ : ∃ u r' c', k = ix3 (n0 := 1) (n1 := 256) (n2 := 256) u r' c' := ⟨k 0, k 1, k 2, eq_ix3 k⟩
      rw [blk_emb, sHeld_blk]
      exact (stored_apply _ u r' c').trans (sBlk_line i arg2 harg2 arg3 harg3 arg5 harg5 x0 x1 x3 q j' t' ((mem_belowDown q t').1 ht') r' c')
  · rcases lt_or_eq_of_le ht with h | rfl
    · refine ⟨⟨blkRect (half q) j t, stored (sBlk (F := Ideal) i arg2 harg2 arg3 harg3 arg5 harg5 x0 x1 x3 q j t)⟩, ?_, mem_blk _ _ _ _ _⟩
      unfold sTile
      exact List.mem_cons_of_mem _ (List.mem_cons_of_mem _ ((mem_sBefore ..).2 ⟨t, (mem_belowDown q t).2 h, j, rfl⟩))
    · refine ⟨⟨blkRect (half t) j t, stored (sDiag (F := Ideal) i arg2 harg2 arg3 harg3 arg5 harg5 x0 x1 x3 t j)⟩, ?_, mem_blk _ _ _ _ _⟩
      unfold sTile
      match j with
      | 0 => exact List.mem_cons_of_mem _ (List.mem_cons_self ..)
      | 1 => exact List.mem_cons_self ..

/-! ## The weights' buffer -/

/-- The weights of tile `q`, at an index of the buffer. -/
def pHeld (q : Fin 8) (y : S2x512x2048.Idx) : EReal :=
  wt i x0 x1 x3 x4 ⟨(y 1).val / 256, by have : (y 1).val < 512 := (y 1).isLt; omega⟩
    (row q ⟨(y 1).val % 256, Nat.mod_lt _ (by decide)⟩) (y 2)

theorem pHeld_blk (q : Fin 8) (b j : Fin 2) (t : Fin 8) (r c : Fin 256) :
    pHeld i x0 x1 x3 x4 q (ix3 (n0 := 2) (n1 := 512) (n2 := 2048) b ⟨256 * j.val + r.val, by omega⟩ (row t c))
      = wt i x0 x1 x3 x4 j (row q r) (row t c) := by
  have h1 : (⟨(256 * j.val + r.val) / 256, by omega⟩ : Fin 2) = j := Fin.ext (by simp only; omega)
  have h2 : (⟨(256 * j.val + r.val) % 256, by omega⟩ : Fin 256) = r := Fin.ext (by simp only; omega)
  show wt i x0 x1 x3 x4 ⟨(256 * j.val + r.val) / 256, _⟩ (row q ⟨(256 * j.val + r.val) % 256, _⟩) (row t c) = _
  rw [h1, h2]

/-- The store of head `j`'s weights of key tile `t`. -/
def pStore (q : Fin 8) (S : List (SPiece Ideal)) (j : Fin 2) (t : Fin 8) : PPiece Ideal :=
  ⟨blkRect (half q) j t, weights (arg8.view.readCov S (blkRect (half q) j t).toLoadRect)
      (shiftAt (F := Ideal) i arg2 harg2 arg3 harg3 arg5 harg5 arg6 harg6 x0 x1 x3 x4 q j (below q))⟩

theorem pHead_append (q : Fin 8) (S : List (SPiece Ideal)) (j : Fin 2) (L : List (PPiece Ideal)) : ∀ ts : List (Fin 8),
    pHead (F := Ideal) i arg2 harg2 arg3 harg3 arg5 harg5 arg6 harg6 arg8 x0 x1 x3 x4 q (below q) S j ts L
      = ts.map (pStore i arg2 harg2 arg3 harg3 arg5 harg5 arg6 harg6 arg8 x0 x1 x3 x4 q S j) ++ L
  | [] => rfl
  | t :: ts => by simp only [pHead, List.map_cons, List.cons_append]; rw [pHead_append q S j L ts]; rfl

theorem pTile_canon (q : Fin 8) (S : List (SPiece Ideal)) (L : List (PPiece Ideal)) (j : Fin 2) (t : Fin 8) (ht : t ≤ q)
    (r c : Fin 256)
    (hS : ∀ (j : Fin 2) (t : Fin 8), t ≤ q → ∀ r c : Fin 256, View.canon S
        (ix3 (n0 := 2) (n1 := 512) (n2 := 2048) (half q) ⟨256 * j.val + r.val, by omega⟩ (row t c))
      = line i x0 x1 x3 j (row q r) (row t c)) :
    View.canon (pTile (F := Ideal) i arg2 harg2 arg3 harg3 arg5 harg5 arg6 harg6 arg8 x0 x1 x3 x4 q (below q) (q :: belowDown q) S L)
        (ix3 (n0 := 2) (n1 := 512) (n2 := 2048) (half q) ⟨256 * j.val + r.val, by omega⟩ (row t c))
      = wt i x0 x1 x3 x4 j (row q r) (row t c) := by
  unfold pTile
  rw [pHead_append, pHead_append, ← List.append_assoc, ← pHeld_blk i x0 x1 x3 x4 q (half q)]
  have mem : ∀ t : Fin 8, t ∈ q :: belowDown q ↔ t ≤ q := fun t => by
    rw [List.mem_cons, mem_belowDown, le_iff_eq_or_lt]
  refine canon_agree (pHeld i x0 x1 x3 x4 q) L _ _ ?_ ?_
  · intro p hp k
    obtain ⟨j', t', ht', rfl⟩ : ∃ j' t', t' ≤ q ∧ p = pStore i arg2 harg2 arg3 harg3 arg5 harg5 arg6 harg6 arg8 x0 x1 x3 x4 q S j' t' := by
      rcases List.mem_append.1 hp with h | h <;> obtain ⟨t', h', rfl⟩ := List.mem_map.1 h
      · exact ⟨1, t', (mem t').1 h', rfl⟩
      · exact ⟨0, t', (mem t').1 h', rfl⟩
    obtain ⟨u, r', c', rfl⟩ : ∃ u r' c', k = ix3 (n0 := 1) (n1 := 256) (n2 := 256) u r' c' := ⟨k 0, k 1, k 2, eq_ix3 k⟩
    unfold pStore
    rw [blk_emb, pHeld_blk]
    refine (weights_apply _ _ u r' c').trans ?_
    rw [shiftAt_apply]
    refine congrArg (fun z => Ideal.exp2 (z - shiftLine i x0 x1 x3 x4 j' (row q r'))) ?_
    refine (congrFun (View.readCov_eq_canon' ..) _).trans ?_
    exact (congrArg (View.canon S) (blk_emb (half q) j' t' 0 r' c')).trans (hS j' t' ht' r' c')
  · refine ⟨pStore i arg2 harg2 arg3 harg3 arg5 harg5 arg6 harg6 arg8 x0 x1 x3 x4 q S j t, ?_, mem_blk _ _ _ _ _⟩
    match j with
    | 1 => exact List.mem_append_left _ (List.mem_map_of_mem ((mem t).2 ht))
    | 0 => exact List.mem_append_right _ (List.mem_map_of_mem ((mem t).2 ht))

theorem pAll_canon (q : Fin 8) (j : Fin 2) (t : Fin 8) (ht : t ≤ q) (r c : Fin 256) :
    View.canon (pAll (F := Ideal) i arg2 harg2 arg3 harg3 arg5 harg5 arg6 harg6 arg8 x0 x1 x3 x4 (8 - q.val))
        (ix3 (n0 := 2) (n1 := 512) (n2 := 2048) (half q) ⟨256 * j.val + r.val, by omega⟩ (row t c))
      = wt i x0 x1 x3 x4 j (row q r) (row t c) := by
  obtain ⟨n, hn, hq⟩ : ∃ n, ∃ hn : n < 8, q = ⟨7 - n, by omega⟩ := ⟨7 - q.val, by omega, Fin.ext (by simp only; omega)⟩
  have e : 8 - q.val = n + 1 := by rw [hq]; simp only; omega
  rw [e]
  unfold pAll
  rw [← hq]
  refine pTile_canon i arg2 harg2 arg3 harg3 arg5 harg5 arg6 harg6 arg8 x0 x1 x3 x4 q _ _ j t ht r c ?_
  intro j t ht r c
  unfold sAll
  rw [← hq]
  exact sTile_canon i arg2 harg2 arg3 harg3 arg5 harg5 x0 x1 x3 q _ j t ht r c

/-! ## The value buffer -/

theorem vAll_low (C : Fin 2048) (e : Fin 128) :
    View.canon (vAll (F := Ideal) arg4 harg4 x2) (ix2 (n0 := 2048) (n1 := 256) C ⟨e.val, by omega⟩) = x2 (ix4 0 0 C e) := by
  unfold vAll
  rw [View.canon_cons_of_not_mem _ _ (by
    rw [Rect.mem_set_unit]
    intro h
    have := (h 1).1
    change 128 ≤ e.val at this
    omega)]
  have hi : ix2 (n0 := 2048) (n1 := 256) C ⟨e.val, by omega⟩
      = (Rect.unit (s := S2048x256) ![0, 0] S2048x128.size (by decide)).emb (ix2 (n0 := 2048) (n1 := 128) C e) := by
    funext a
    apply Fin.ext
    match a with
    | ⟨0, _⟩ => show C.val = 0 + 1 * C.val; omega
    | ⟨1, _⟩ => show e.val = 0 + 1 * e.val; omega
  rw [hi, View.canon_cons_emb]
  pointwise
  refine (Memref.IsWhole.readAt_unread harg4 x2 _ _).trans (congrArg x2 ?_)
  funext a
  apply Fin.ext
  match a with
  | ⟨0, _⟩ => rfl
  | ⟨1, _⟩ => rfl
  | ⟨2, _⟩ => show 0 + 1 * C.val = C.val; omega
  | ⟨3, _⟩ => show 0 + 1 * e.val = e.val; omega

theorem vAll_high (C : Fin 2048) (e : Fin 128) :
    View.canon (vAll (F := Ideal) arg4 harg4 x2) (ix2 (n0 := 2048) (n1 := 256) C ⟨128 + e.val, by omega⟩) = 1 := by
  unfold vAll
  have hi : ix2 (n0 := 2048) (n1 := 256) C ⟨128 + e.val, by omega⟩
      = (Rect.unit (s := S2048x256) ![0, 128] S2048x128.size (by decide)).emb (ix2 (n0 := 2048) (n1 := 128) C e) := by
    funext a
    apply Fin.ext
    match a with
    | ⟨0, _⟩ => show C.val = 0 + 1 * C.val; omega
    | ⟨1, _⟩ => show 128 + e.val = 128 + 1 * e.val; omega
  rw [hi, View.canon_cons_emb]
  pointwise

/-! ## A tile's output -/

theorem outAt_apply (q : Fin 8) (u u' : Fin 1) (r : Fin 256) (e : Fin 128) :
    outAt (F := Ideal) i arg2 harg2 arg3 harg3 arg4 harg4 arg5 harg5 arg6 harg6 arg8 arg9 arg10 x0 x1 x2 x3 x4 q (ix4 u u' r e)
      = meanOver (line i x0 x1 x3 ⟨e.val / 64, by omega⟩ (row q r)) (shiftLine i x0 x1 x3 x4 ⟨e.val / 64, by omega⟩ (row q r)) fun C => x2 (ix4 0 0 C e) := by
  unfold outAt
  refine (outTile_apply _ _ _ _ u u' r e).trans ?_
  have hrow : ∀ C : Fin (256 * (q.val + 1)), row ⟨C.val / 256, by omega⟩ ⟨C.val % 256, by omega⟩ = ⟨C.val, by omega⟩ :=
    fun C => Fin.ext (by simp only [row]; omega)
  have hp : ∀ C : Fin (256 * (q.val + 1)), (pBox q).toLoadRect.idx (ix3 0 ⟨256 * (e.val / 64) + r.val, by omega⟩ C)
      = ix3 (n0 := 2) (n1 := 512) (n2 := 2048) (half q) ⟨256 * (⟨e.val / 64, by omega⟩ : Fin 2).val + r.val, by simp only; omega⟩
          (row ⟨C.val / 256, by omega⟩ ⟨C.val % 256, by omega⟩) := by
    intro C
    funext a
    apply Fin.ext
    match a with
    | ⟨0, _⟩ => rfl
    | ⟨1, _⟩ => show 0 + 1 * (256 * (e.val / 64) + r.val) = 256 * (e.val / 64) + r.val; omega
    | ⟨2, _⟩ => show 0 + 1 * C.val = 256 * (C.val / 256) + C.val % 256; omega
  have hv : ∀ (C : Fin (256 * (q.val + 1))) (e' : Fin 256), (vBox q).toLoadRect.idx (ix2 C e')
      = ix2 (n0 := 2048) (n1 := 256) ⟨C.val, by omega⟩ e' := by
    intro C e'
    funext a
    apply Fin.ext
    match a with
    | ⟨0, _⟩ => show 0 + 1 * C.val = C.val; omega
    | ⟨1, _⟩ => show 0 + 1 * e'.val = e'.val; omega
  have hw : ∀ C : Fin (256 * (q.val + 1)),
      arg9.view.readCov (pAll (F := Ideal) i arg2 harg2 arg3 harg3 arg5 harg5 arg6 harg6 arg8 x0 x1 x3 x4 (8 - q.val)) (pBox q).toLoadRect
          (ix3 0 ⟨256 * (e.val / 64) + r.val, by omega⟩ C)
        = wt i x0 x1 x3 x4 ⟨e.val / 64, by omega⟩ (row q r) ⟨C.val, by omega⟩ := by
    intro C
    refine (congrFun (View.readCov_eq_canon' ..) _).trans ((congrArg _ (hp C)).trans ?_)
    rw [pAll_canon i arg2 harg2 arg3 harg3 arg5 harg5 arg6 harg6 arg8 x0 x1 x3 x4 q _ _ (by show C.val / 256 ≤ q.val; omega), hrow]
  have hval : ∀ (C : Fin (256 * (q.val + 1))) (e' : Fin 256),
      arg10.view.readCov (vAll (F := Ideal) arg4 harg4 x2) (vBox q).toLoadRect (ix2 C e')
        = View.canon (vAll (F := Ideal) arg4 harg4 x2) (ix2 (n0 := 2048) (n1 := 256) ⟨C.val, by omega⟩ e') := fun C e' =>
    (congrFun (View.readCov_eq_canon' ..) _).trans (congrArg _ (hv C e'))
  have zero : ∀ C : Fin 2048, 256 * (q.val + 1) ≤ C.val →
      wt i x0 x1 x3 x4 ⟨e.val / 64, by omega⟩ (row q r) C = 0 := fun C hC =>
    exp2_past _ _ _ _ (by show 256 * q.val + r.val < C.val; omega)
  unfold meanOver
  refine congrArg₂ Ideal.div ?_ ?_
  · refine (Finset.sum_congr rfl fun C _ => ?_).trans
      (sum_first (256 * (q.val + 1)) (by omega) _ (fun C hC => by
        show wt i x0 x1 x3 x4 ⟨e.val / 64, _⟩ (row q r) C * _ = 0
        rw [zero C hC, zero_mul]))
    exact congrArg₂ (· * ·) (hw C) ((hval C _).trans (vAll_low ..))
  · refine (Finset.sum_congr rfl fun C _ => ?_).trans (sum_first (256 * (q.val + 1)) (by omega) _ zero)
    exact (congrArg₂ (· * ·) (hw C) ((hval C _).trans (vAll_high ..))).trans (mul_one _)

end Cert.FoxTile
-- ==== Proof.FoxArray.lean ====
/-
  The forgetting attention kernel's result array, over the extended reals: at every index the weighted mean of `foxAttn`.
-/
module

public import proofs.«01_k».proof.Proof.FoxTile
public import Idealize.ShloMosaic.Lib.Pipeline.ValueKit

@[expose] public section

set_option maxRecDepth 16384

noncomputable section

namespace Cert.Attn

open Idealize.ShloMosaic

/-- Row `R` of batch element `b`, among all rows. -/
def flat (b : Fin 16) (R : Fin 2048) : Fin 32768 := ⟨2048 * b.val + R.val, by omega⟩

/-- The scores of row `R` for head `j` of group `g`: over the head's lanes, less the columns' decays, minus infinity past the row. -/
def foxLine (lg : EReal) (q k : (Quad 4 16 2048 128).Idx → EReal) (crow : (Mat 16 32768).Idx → EReal) (g : Fin 4) (b : Fin 16)
    (j : Fin 2) (R : Fin 2048) : Fin 2048 → EReal :=
  past (decayScore lg (fun R l => q (ix4 g b R l)) (fun R l => k (ix4 g b R l))
    (fun C => crow (ix2 ⟨2 * g.val + j.val, by omega⟩ (flat b C))) j R) R

/-- Forgetting attention on arrays (group, batch, row, lane): at lane `e` the weighted mean for head `e / 64`. -/
def foxAttn (lg : EReal) (q k v : (Quad 4 16 2048 128).Idx → EReal) (crow : (Mat 16 32768).Idx → EReal)
    (ccol : (Mat 32768 128).Idx → EReal) (g : Fin 4) (b : Fin 16) (R : Fin 2048) (e : Fin 128) : EReal :=
  meanOver (foxLine lg q k crow g b ⟨e.val / 64, by omega⟩ R)
    (top (foxLine lg q k crow g b ⟨e.val / 64, by omega⟩ R)
      + ccol (ix2 (flat b R) ⟨2 * g.val + e.val / 64, by omega⟩) * lg - ccol (ix2 (flat b R) ⟨2 * g.val + e.val / 64, by omega⟩) * lg)
    fun C => v (ix4 g b C e)

end Cert.Attn

namespace Cert.FoxTile

open Cert.FoxIdeal Cert.FoxIdeal.Gen Idealize.ShloMosaic Idealize.ShloMosaic.TcCoe Idealize.SL.Sem Cert.Attn Cert.Stores

/-- The output block of a grid point. -/
theorem out_apply (c : Dev nD) (i : grid0.Coords) (arg2 : Memref sig .tc .vmem S1x1x2048x128 .bf16) (harg2 : arg2.IsWhole)
    (arg3 : Memref sig .tc .vmem S1x1x2048x128 .bf16) (harg3 : arg3.IsWhole)
    (arg4 : Memref sig .tc .vmem S1x1x2048x128 .bf16) (harg4 : arg4.IsWhole)
    (arg5 : Memref sig .tc .vmem S16x2048 .f32) (harg5 : arg5.IsWhole)
    (arg6 : Memref sig .tc .vmem S2048x128 .f32) (harg6 : arg6.IsWhole)
    (arg7 : Memref sig .tc .vmem S1x1x2048x128 .bf16) (harg7 : arg7.IsWhole)
    (arg8 : Memref sig .tc .vmem S2x512x2048 .f32) (harg8 : arg8.IsWhole) (arg9 : Memref sig .tc .vmem S2x512x2048 .bf16)
    (harg9 : arg9.IsWhole) (arg10 : Memref sig .tc .vmem S2048x256 .bf16) (harg10 : arg10.IsWhole)
    (x0 x1 x2 : Vec Ideal S1x1x2048x128 .bf16) (x3 : Vec Ideal S16x2048 .f32) (x4 : Vec Ideal S2048x128 .f32) (R : Fin 2048) (e : Fin 128) :
    out0_A_5 (F := Ideal) c i arg2 harg2 arg3 harg3 arg4 harg4 arg5 harg5 arg6 harg6 arg7 harg7 arg8 harg8 arg9 harg9 arg10 harg10
        x0 x1 x2 x3 x4 (ix4 0 0 R e)
      = meanOver (line i x0 x1 x3 ⟨e.val / 64, by omega⟩ R) (shiftLine i x0 x1 x3 x4 ⟨e.val / 64, by omega⟩ R)
          fun C => x2 (ix4 0 0 C e) := by
  unfold out0_A_5
  rw [View.read_writes_junk_eq_canon, out_eq, ← List.append_nil (outAll ..)]
  have emb : ∀ (q : Fin 8) (u u' : Fin 1) (r : Fin 256) (e : Fin 128),
      (oRect q).emb (ix4 u u' r e) = ix4 (n0 := 1) (n1 := 1) (n2 := 2048) (n3 := 128) 0 0 (row q r) e := by
    intro q u u' r e
    funext a
    apply Fin.ext
    match a with
    | ⟨0, _⟩ => show 0 + 1 * u.val = 0; omega
    | ⟨1, _⟩ => show 0 + 1 * u'.val = 0; omega
    | ⟨2, _⟩ => show 256 * q.val + 1 * r.val = 256 * q.val + r.val; omega
    | ⟨3, _⟩ => show 0 + 1 * e.val = e.val; omega
  refine canon_agree (Val := Elt Ideal) (e := .bf16) (fun y : S1x1x2048x128.Idx => meanOver (line i x0 x1 x3 ⟨(y 3).val / 64, by
      have : (y 3).val < 128 := (y 3).isLt; omega⟩ (y 2)) (shiftLine i x0 x1 x3 x4 ⟨(y 3).val / 64, by
      have : (y 3).val < 128 := (y 3).isLt; omega⟩ (y 2)) fun C => x2 (ix4 0 0 C (y 3))) [] (ix4 0 0 R e) _ ?_ ?_
  · intro p hp k
    obtain ⟨q, rfl⟩ := (List.mem_ofFn' _ _).1 hp
    obtain ⟨u, u', r, e, rfl⟩ : ∃ u u' r e, k = ix4 (n0 := 1) (n1 := 1) (n2 := 256) (n3 := 128) u u' r e :=
      ⟨k 0, k 1, k 2, k 3, eq_ix4 k⟩
    rw [emb]
    exact outAt_apply ..
  · obtain ⟨q, r, rfl⟩ := row_surj R
    refine ⟨⟨oRect q, _⟩, (List.mem_ofFn' _ _).2 ⟨q, rfl⟩, ?_⟩
    rw [← emb q 0 0 r e]
    exact LoadRect.idx_mem _ _

variable (m : (ℓ : Loc nD τ sig) → Buf (Elt Ideal) ℓ)

theorem index_facts : ∀ t : Fin cfg0.N, win0_0.index t = ![(grid0.coords t 0).val, (grid0.coords t 1).val, 0, 0]
    ∧ win0_1.index t = ![(grid0.coords t 0).val, (grid0.coords t 1).val, 0, 0]
    ∧ win0_2.index t = ![(grid0.coords t 0).val, (grid0.coords t 1).val, 0, 0]
    ∧ win0_3.index t = ![0, (grid0.coords t 1).val]
    ∧ win0_4.index t = ![(grid0.coords t 1).val, 0]
    ∧ win0_5.index t = ![(grid0.coords t 0).val, (grid0.coords t 1).val, 0, 0] :=
  (by decide +kernel : ∀ t : Fin grid0.N, _)

/-- The result array. -/
theorem array_eq (c : Dev nD) : (dats m 0 c).arrAt 5 cfg0.N
    = fun i : S4x16x2048x128.Idx => foxAttn (lg (F := Ideal)) (m ((c : Thread nD τ).loc main_arg0)) (m ((c : Thread nD τ).loc main_arg1))
        (m ((c : Thread nD τ).loc main_arg2)) (m ((c : Thread nD τ).loc main_arg3)) (m ((c : Thread nD τ).loc main_arg4))
        (i 0) (i 1) (i 2) (i 3) := by
  refine (dats m 0 c).arrAt_eq_of_covers 5 _ (by decide +kernel) fun t hf y => ?_
  obtain ⟨e0, e1, e2, e3, e4, e5⟩ := index_facts t
  obtain ⟨u, u', R, e, rfl⟩ : ∃ u u' R e, y = ix4 (n0 := 1) (n1 := 1) (n2 := 2048) (n3 := 128) u u' R e :=
    ⟨y 0, y 1, y 2, y 3, eq_ix4 y⟩
  have h0 : ∀ R l, iblk m c 0 t (ix4 (n0 := 1) (n1 := 1) (n2 := 2048) (n3 := 128) 0 0 R l)
      = m ((c : Thread nD τ).loc main_arg0) (ix4 (n0 := 4) (n1 := 16) (n2 := 2048) (n3 := 128) (grid0.coords t 0) (grid0.coords t 1) R l) := by
    intro R l; blk_ext [iblk, V, e0]
  have h1 : ∀ R l, iblk m c 1 t (ix4 (n0 := 1) (n1 := 1) (n2 := 2048) (n3 := 128) 0 0 R l)
      = m ((c : Thread nD τ).loc main_arg1) (ix4 (n0 := 4) (n1 := 16) (n2 := 2048) (n3 := 128) (grid0.coords t 0) (grid0.coords t 1) R l) := by
    intro R l; blk_ext [iblk, V, e1]
  have h2 : ∀ R l, iblk m c 2 t (ix4 (n0 := 1) (n1 := 1) (n2 := 2048) (n3 := 128) 0 0 R l)
      = m ((c : Thread nD τ).loc main_arg2) (ix4 (n0 := 4) (n1 := 16) (n2 := 2048) (n3 := 128) (grid0.coords t 0) (grid0.coords t 1) R l) := by
    intro R l; blk_ext [iblk, V, e2]
  have h3 : ∀ h C, iblk m c 3 t (ix2 (n0 := 16) (n1 := 2048) h C)
      = m ((c : Thread nD τ).loc main_arg3) (ix2 (n0 := 16) (n1 := 32768) h (flat (grid0.coords t 1) C)) := by
    intro h C; unfold flat; blk_ext [iblk, V, e3]
  have h4 : ∀ R h, iblk m c 4 t (ix2 (n0 := 2048) (n1 := 128) R h)
      = m ((c : Thread nD τ).loc main_arg4) (ix2 (n0 := 32768) (n1 := 128) (flat (grid0.coords t 1) R) h) := by
    intro R h; unfold flat; blk_ext [iblk, V, e4]
  have h5 : ((cfg0.win 5).blk t).view.emb (ix4 (n0 := 1) (n1 := 1) (n2 := 2048) (n3 := 128) u u' R e)
      = ix4 (n0 := 4) (n1 := 16) (n2 := 2048) (n3 := 128) (grid0.coords t 0) (grid0.coords t 1) R e := by
    blk_ext [e5]
  blk_simp
  rw [after0_5]
  obtain rfl : u = 0 := Subsingleton.elim _ _
  obtain rfl : u' = 0 := Subsingleton.elim _ _
  rw [show (win0_5.blk t).view.emb _ = _ from h5]
  unfold outsAt0
  refine (out_apply ..).trans ?_
  unfold shiftLine line sc rowDec
  rw [show rows (iblk m c 0 t) = _ from funext₂ h0, show rows (iblk m c 1 t) = _ from funext₂ h1,
    show colDec _ (iblk m c 3 t) _ = _ from funext fun C => h3 _ C, h4,
    show (fun C => iblk m c 2 t (ix4 0 0 C e)) = _ from funext fun C => h2 C e]
  rfl

end Cert.FoxTile
-- ==== Proof.FoxRef.lean ====
/-
  The reference of the forgetting attention, over the extended reals: the logits at an index. Taking the heads apart,
  the softmax of a row and the weighted sum of the values are those of the latent attention's reference.
-/
module

public import proofs.«01_k».proof.Proof.MlaRef
public import proofs.«01_k».proof.Proof.FoxArray
public import proofs.«01_k».proof.Proof.Gen.FoxRefIdeal.Run

@[expose] public section

noncomputable section

namespace Cert.FoxRef

open Cert.FoxRefIdeal Cert.FoxRefIdeal.Gen Idealize.ShloMosaic Idealize.ShloMosaic.TcCoe Cert.Attn
open Cert.MlaRef (heads64 heads64_apply causalMask soft mixed joined)

variable {F : FTy → Type} [FloatOps F]

/-- The decays of the query rows: (batch, head, row). -/
def rowDecays (ccol : FVec F S32768x128 .f32) : FVec F S16x8x2048 .f32 :=
  transpose S16x8x2048 [0, 2, 1]
    (shapeCast S16x2048x8 (extractStridedSlice S32768x8 ![0, 0] ccol slices_S32768x128_S32768x8_0_0) shapeCasts_S32768x8_S16x2048x8)
    transposes_S16x2048x8_S16x8x2048_0_2_1

/-- The decays of the key rows: (batch, head, row). -/
def colDecays (crow : FVec F S16x32768 .f32) : FVec F S16x8x2048 .f32 :=
  transpose S16x8x2048 [1, 0, 2]
    (shapeCast S8x16x2048 (extractStridedSlice S8x32768 ![0, 0] crow slices_S16x32768_S8x32768_0_0) shapeCasts_S8x32768_S8x16x2048)
    transposes_S8x16x2048_S16x8x2048_1_0_2

/-- The scores in natural exponents. -/
def scaled (q k : FVec F S4x16x2048x128 .bf16) : FVec F S16x8x2048x2048 .f32 :=
  mulf (Host.dotGeneral dot_S16x8x2048x64_S16x8x2048x64_S16x8x2048x2048_3_3_2_2_01_01 none (heads64 q) (heads64 k))
    (broadcastInDim S16x8x2048x2048 ![] bcast_S_S16x8x2048x2048 (Host.log (constant S_ .f32 0x40000000#32)))

/-- The logits of all rows and columns: the scores, the row's decay added and the column's taken off, minus infinity past
    the row. -/
def logits (q k : FVec F S4x16x2048x128 .bf16) (crow : FVec F S16x32768 .f32) (ccol : FVec F S32768x128 .f32) :
    FVec F S16x8x2048x2048 .f32 :=
  select (broadcastInDim S16x8x2048x2048 ![2, 3] bcast_S2048x2048_S16x8x2048x2048_2_3 causalMask)
    (subf
      (addf (scaled q k)
        (broadcastInDim S16x8x2048x2048 ![0, 1, 2, 3] bcast_S16x8x2048x1_S16x8x2048x2048_0_1_2_3
          (broadcastInDim S16x8x2048x1 ![0, 1, 2] bcast_S16x8x2048_S16x8x2048x1_0_1_2 (rowDecays ccol))))
      (broadcastInDim S16x8x2048x2048 ![0, 1, 2, 3] bcast_S16x8x1x2048_S16x8x2048x2048_0_1_2_3
        (broadcastInDim S16x8x1x2048 ![0, 1, 3] bcast_S16x8x2048_S16x8x1x2048_0_1_3 (colDecays crow))))
    (broadcastInDim S16x8x2048x2048 ![] bcast_S_S16x8x2048x2048 (id (constant S_ .f32 0xFF800000#32)))

theorem result_eq (m : (ℓ : Loc nD τ sig) → Buf (Elt F) ℓ) (c : Dev nD) :
    Cert.FoxRefIdeal.Value.res_main_v48 m c
      = joined (mixed (soft (logits (m ((c.tc : Thread nD τ).loc main_arg0)) (m ((c.tc : Thread nD τ).loc main_arg1))
          (m ((c.tc : Thread nD τ).loc main_arg3)) (m ((c.tc : Thread nD τ).loc main_arg4))))
          (m ((c.tc : Thread nD τ).loc main_arg2))) := rfl

/-! ## At an index -/

theorem rowDecays_apply (ccol : FVec Ideal S32768x128 .f32) (b : Fin 16) (h : Fin 8) (r : Fin 2048) :
    rowDecays ccol (ix3 b h r) = ccol (ix2 (flat b r) ⟨h.val, by omega⟩) := by
  unfold flat
  pointwise [rowDecays]
  simp only [Nat.mul_comm]

theorem colDecays_apply (crow : FVec Ideal S16x32768 .f32) (b : Fin 16) (h : Fin 8) (r : Fin 2048) :
    colDecays crow (ix3 b h r) = crow (ix2 ⟨h.val, by omega⟩ (flat b r)) := by
  unfold flat
  pointwise [colDecays]
  simp only [Nat.mul_comm]

theorem scaled_apply (q k : FVec Ideal S4x16x2048x128 .bf16) (b : Fin 16) (h : Fin 8) (r c : Fin 2048) :
    scaled q k (ix4 b h r c)
      = (∑ d : Fin 64, q (ix4 ⟨h.val / 2, by omega⟩ b r ⟨h.val % 2 * 64 + d.val, by omega⟩)
        * k (ix4 ⟨h.val / 2, by omega⟩ b c ⟨h.val % 2 * 64 + d.val, by omega⟩)) * Ideal.log (Ideal.ofBits .f32 0x40000000#32) := by
  pointwise [scaled]
  simp only [heads64_apply]

theorem logits_apply (q k : FVec Ideal S4x16x2048x128 .bf16) (crow : FVec Ideal S16x32768 .f32) (ccol : FVec Ideal S32768x128 .f32)
    (b : Fin 16) (h : Fin 8) (r c : Fin 2048) :
    logits q k crow ccol (ix4 b h r c) = if c ≤ r then
      scaled q k (ix4 b h r c) + ccol (ix2 (flat b r) ⟨h.val, by omega⟩) - crow (ix2 ⟨h.val, by omega⟩ (flat b c)) else ⊥ := by
  rw [← rowDecays_apply ccol, ← colDecays_apply crow]
  unfold logits
  generalize scaled q k = s
  generalize rowDecays ccol = x
  generalize colDecays crow = y
  pointwise [causalMask]
  rw [cmpi_sle_small _ _ (by omega) (by omega)]
  simp only [Fin.le_def]
  split
  · rfl
  · exact negInf_f32

end Cert.FoxRef
-- ==== Proof.FoxEq.lean ====
/-
  The reference of the forgetting attention is `foxAttn` with the binary logarithm of e, where the queries, the keys and
  the decays are finite. The logits of a row are its scores times the natural logarithm of two, plus the row's decay, and
  a number added to a whole row changes no weight.
-/
module

public import proofs.«01_k».proof.Proof.FoxRef
public import proofs.«01_k».proof.Proof.MlaEq

@[expose] public section

noncomputable section

namespace Cert.Attn

open Idealize.ShloMosaic

/-- A number added to every score of a row leaves the scores less their maximum as they were. -/
theorem past_sub_top (s : Fin 2048 → ℝ) (a : ℝ) (R C : Fin 2048) :
    past (fun C => ((s C + a : ℝ) : EReal)) R C - top (past (fun C => ((s C + a : ℝ) : EReal)) R)
      = past (fun C => (s C : EReal)) R C - top (past (fun C => (s C : EReal)) R) := by
  obtain ⟨C0, h0, hM⟩ := top_real s R
  obtain ⟨C1, h1, hN⟩ := top_real (fun C => s C + a) R
  have e1 : s C1 ≤ s C0 := by
    have := le_top (past (fun C => (s C : EReal)) R) C1
    rw [hM, show past (fun C => (s C : EReal)) R C1 = (s C1 : EReal) from if_pos h1] at this
    exact EReal.coe_le_coe_iff.1 this
  have e2 : s C0 + a ≤ s C1 + a := by
    have := le_top (past (fun C => ((s C + a : ℝ) : EReal)) R) C0
    rw [hN, show past (fun C => ((s C + a : ℝ) : EReal)) R C0 = ((s C0 + a : ℝ) : EReal) from if_pos h0] at this
    exact EReal.coe_le_coe_iff.1 this
  rw [hM, hN]
  unfold past
  split
  · rw [← EReal.coe_sub, ← EReal.coe_sub, EReal.coe_eq_coe_iff]
    linarith
  · rw [bot_sub, bot_sub]

/-- The mean over the softmax weights of logits with a number added to the whole row. -/
theorem softmax_mean_add (t : Fin 2048 → ℝ) (a : ℝ) (R : Fin 2048) (g : Fin 2048 → EReal)
    (hg : g = past (fun C => ((t C * Real.log 2 + a : ℝ) : EReal)) R) (v : Fin 2048 → EReal) :
    ∑ C, Ideal.div (Ideal.exp (g C - top g)) (∑ x, Ideal.exp (g x - top g)) * v C
      = mean (past (fun C => (t C : EReal)) R) v := by
  have h : ∀ C, g C - top g = past (fun C => ((t C * Real.log 2 : ℝ) : EReal)) R C
      - top (past (fun C => ((t C * Real.log 2 : ℝ) : EReal)) R) := fun C => by
    rw [hg]
    exact past_sub_top (fun C => t C * Real.log 2) a R C
  simp only [h]
  exact softmax_mean t R _ rfl v

theorem lane_inj (j : Fin 2) : Function.Injective fun d : Fin 64 => (⟨j.val * 64 + d.val, by omega⟩ : Fin 128) := by
  intro d d' h
  have h : j.val * 64 + d.val = j.val * 64 + d'.val := congrArg Fin.val h
  exact Fin.ext (by omega)

theorem lane_head (j : Fin 2) (l : Fin 128) : headLane j l ↔ ∃ d : Fin 64, (⟨j.val * 64 + d.val, by omega⟩ : Fin 128) = l := by
  unfold headLane
  constructor
  · rintro (h | h)
    · exact ⟨⟨l.val - 64 * j.val, by omega⟩, Fin.ext (by dsimp only; omega)⟩
    · omega
  · rintro ⟨d, rfl⟩
    left
    dsimp only
    omega

/-- The score over the lanes of a head alone. -/
theorem decayScore_eq (lg : EReal) (Q K : Fin 2048 → Fin 128 → EReal) (D : Fin 2048 → EReal) (j : Fin 2) (R C : Fin 2048) :
    decayScore lg Q K D j R C
      = (∑ d : Fin 64, Q R ⟨j.val * 64 + d.val, by omega⟩ * K C ⟨j.val * 64 + d.val, by omega⟩) - D C * lg := by
  unfold decayScore
  have e : ∀ l : Fin 128, (if headLane j l then Q R l else 0) * K C l = if headLane j l then Q R l * K C l else 0 := by
    intro l
    split
    · rfl
    · exact zero_mul _
  simp only [e]
  rw [← Finset.sum_filter, show Finset.univ.filter (fun l : Fin 128 => headLane j l)
      = Finset.univ.map ⟨fun d : Fin 64 => (⟨j.val * 64 + d.val, by omega⟩ : Fin 128), lane_inj j⟩ from by
    ext l
    simp [lane_head], Finset.sum_map]
  rfl

end Cert.Attn

namespace Cert.FoxRef

open Cert.FoxRefIdeal Cert.FoxRefIdeal.Gen Idealize.ShloMosaic Idealize.ShloMosaic.TcCoe Cert.Attn
open Cert.MlaRef (mixed soft joined joined_apply mixed_apply soft_apply)

theorem ref_eq (q k v : FVec Ideal S4x16x2048x128 .bf16) (crow : FVec Ideal S16x32768 .f32) (ccol : FVec Ideal S32768x128 .f32)
    (hq : AllReal q) (hk : AllReal k) (hr : ∀ (h : Fin 8) n, ∃ r : ℝ, crow (ix2 ⟨h.val, by omega⟩ n) = (r : EReal))
    (hc : ∀ n (h : Fin 8), ∃ r : ℝ, ccol (ix2 n ⟨h.val, by omega⟩) = (r : EReal))
    (g : Fin 4) (b : Fin 16) (R : Fin 2048) (e : Fin 128) :
    joined (mixed (soft (logits q k crow ccol)) v) (ix4 g b R e)
      = foxAttn (((Real.log 2)⁻¹ : ℝ) : EReal) q k v crow ccol g b R e := by
  rw [joined_apply, mixed_apply]
  simp only [soft_apply]
  choose Q hQ using hq
  choose K hK using hk
  have hj : e.val / 64 < 2 := by omega
  have hh : 2 * g.val + e.val / 64 < 8 := by omega
  obtain ⟨a, ha⟩ := hc (flat b R) ⟨2 * g.val + e.val / 64, hh⟩
  choose D hD using fun n => hr ⟨2 * g.val + e.val / 64, hh⟩ n
  dsimp only at ha hD
  have hL : Real.log 2 ≠ 0 := (Real.log_pos one_lt_two).ne'
  have hs : ∀ C, decayScore (((Real.log 2)⁻¹ : ℝ) : EReal) (fun R l => q (ix4 g b R l)) (fun R l => k (ix4 g b R l))
        (fun C => crow (ix2 ⟨2 * g.val + (⟨e.val / 64, hj⟩ : Fin 2).val, by dsimp only; omega⟩ (flat b C))) ⟨e.val / 64, hj⟩ R C
      = (((∑ d : Fin 64, Q (ix4 g b R ⟨e.val / 64 * 64 + d.val, by omega⟩) * K (ix4 g b C ⟨e.val / 64 * 64 + d.val, by omega⟩))
          - D (flat b C) * (Real.log 2)⁻¹ : ℝ) : EReal) := by
    intro C
    rw [decayScore_eq, EReal.coe_sub, EReal.coe_mul, coe_sum]
    refine congrArg₂ (· - ·) (Finset.sum_congr rfl fun d _ => ?_) (congrArg₂ (· * ·) (hD _) rfl)
    rw [hQ, hK, EReal.coe_mul]
  unfold foxAttn foxLine
  rw [funext hs, ha, ← EReal.coe_mul, meanOver_top]
  have e1 : (⟨(g.val * 2 + e.val / 64) / 2, by omega⟩ : Fin 4) = g := Fin.ext (by dsimp only; omega)
  have e2 : (g.val * 2 + e.val / 64) % 2 = e.val / 64 := by omega
  have e3 : (⟨(g.val * 2 + e.val / 64) % 2 * 64 + e.val % 64, by omega⟩ : Fin 128) = e := Fin.ext (by dsimp only; omega)
  have e4 : g.val * 2 + e.val / 64 = 2 * g.val + e.val / 64 := by omega
  simp only [e1, e3]
  refine softmax_mean_add _ a R (fun C => logits q k crow ccol (ix4 b ⟨g.val * 2 + e.val / 64, by omega⟩ R C)) (funext fun C => ?_) _
  rw [logits_apply]
  unfold past
  refine if_congr Iff.rfl ?_ rfl
  rw [scaled_apply]
  simp only [e1, e2]
  simp only [e4]
  rw [log_two, ha, hD]
  simp only [hQ, hK]
  simp only [← EReal.coe_mul]
  rw [← coe_sum, ← EReal.coe_mul, ← EReal.coe_add, ← EReal.coe_sub, EReal.coe_eq_coe_iff]
  field_simp
  ring

end Cert.FoxRef
-- ==== Proof.FoxFinite.lean ====
/-
  What the precondition of the forgetting attention says: every entry of the queries and of the keys is a real number,
  and every decay of the eight heads.
-/
module

public import proofs.«01_k».proof.Proof.Finite
public import proofs.«01_k».proof.Proof.Gen.Pre_finite_fox

@[expose] public section

noncomputable section

namespace Cert.FoxFinite

open Cert.Pre_finite_fox Cert.Pre_finite_fox.Gen Idealize.ShloMosaic Cert.Attn Cert.Finite

theorem real_of_all (x : FVec Ideal S4x16x2048x128 .bf16) (j : S_.Idx)
    (h : Host.reduce IntOp.andi (cmpf .olt (Host.absf (extf .f32 x bitsLt_bf16_f32))
      (broadcastInDim S4x16x2048x128 ![] bcast_S_S4x16x2048x128 (constant (F := Ideal) S_ .f32 0x7F800000#32)))
      (constantI S_ 1 1#1) reducesTo_S4x16x2048x128_S_d0_1_2_3 h_S_ j = 1#1) : AllReal x := by
  intro i
  have := Host.reduce_andi_all _ _ _ _ _ h i
  refine real_of_abs_lt (x i) ?_
  rw [← top_f32]
  exact this

theorem real_of_rows (x : FVec Ideal S8x32768 .f32) (j : S_.Idx)
    (h : Host.reduce IntOp.andi (cmpf .olt (Host.absf x)
      (broadcastInDim S8x32768 ![] bcast_S_S8x32768 (constant (F := Ideal) S_ .f32 0x7F800000#32)))
      (constantI S_ 1 1#1) reducesTo_S8x32768_S_d0_1 h_S_ j = 1#1) : AllReal x := by
  intro i
  have := Host.reduce_andi_all _ _ _ _ _ h i
  refine real_of_abs_lt (x i) ?_
  rw [← top_f32]
  exact this

theorem real_of_lanes (x : FVec Ideal S32768x8 .f32) (j : S_.Idx)
    (h : Host.reduce IntOp.andi (cmpf .olt (Host.absf x)
      (broadcastInDim S32768x8 ![] bcast_S_S32768x8 (constant (F := Ideal) S_ .f32 0x7F800000#32)))
      (constantI S_ 1 1#1) reducesTo_S32768x8_S_d0_1 h_S_ j = 1#1) : AllReal x := by
  intro i
  have := Host.reduce_andi_all _ _ _ _ _ h i
  refine real_of_abs_lt (x i) ?_
  rw [← top_f32]
  exact this

theorem real_of_finite (q k v : FVec Ideal S4x16x2048x128 .bf16) (crow : FVec Ideal S16x32768 .f32) (ccol : FVec Ideal S32768x128 .f32)
    (h : fn (F := Ideal) q k v crow ccol = fun _ => 1#1) :
    AllReal q ∧ AllReal k ∧ (∀ (h : Fin 8) n, ∃ r : ℝ, crow (ix2 ⟨h.val, by omega⟩ n) = (r : EReal))
      ∧ ∀ n (h : Fin 8), ∃ r : ℝ, ccol (ix2 n ⟨h.val, by omega⟩) = (r : EReal) := by
  dsimp only [fn, fn_part1] at h
  have h := congrFun h (Shape.Idx.first h_S_)
  obtain ⟨h1, h2⟩ := andi_one h
  obtain ⟨hq, hk⟩ := andi_one h1
  obtain ⟨hr, hc⟩ := andi_one h2
  have hr := real_of_rows _ _ hr
  have hc := real_of_lanes _ _ hc
  refine ⟨real_of_all q _ hq, real_of_all k _ hk, fun h n => ?_, fun n h => ?_⟩
  · obtain ⟨r, e⟩ := hr (ix2 h n)
    refine ⟨r, Eq.trans ?_ e⟩
    symm
    pointwise
  · obtain ⟨r, e⟩ := hc (ix2 n h)
    refine ⟨r, Eq.trans ?_ e⟩
    symm
    pointwise

end Cert.FoxFinite
-- ==== Proof.MoeSlots.lean ====
/-
  Sorting rows by group into chunks of 144 slots, in natural numbers: how many rows of a group come before a row, how many
  chunks a group takes, and which slot a row gets.
-/
module

public import Idealize.ShloMosaic.Lib.ValueIdx

@[expose] public section

noncomputable section

namespace Cert.Moe

open scoped Classical

/-- Row `t` is of group `l`. -/
def Hot (S : Fin 512 → EReal) (t : Fin 512) (l : Fin 128) : Prop := ((l.val : ℕ) : EReal) = S t ∧ l.val < 4

/-- The rows of group `l` before row `t`. -/
def before (S : Fin 512 → EReal) (t : Fin 512) (l : Fin 128) : ℕ :=
  (Finset.univ.filter fun u : Fin 512 => u.val < t.val ∧ Hot S u l).card

/-- The rows of group `l`. -/
def count (S : Fin 512 → EReal) (l : Fin 128) : ℕ := (Finset.univ.filter fun u : Fin 512 => Hot S u l).card

/-- The chunks that `n` rows take. -/
def chunksOf (n : ℕ) : ℕ :=
  (if 0 < n then 1 else 0) + (if 144 < n then 1 else 0) + (if 288 < n then 1 else 0) + (if 432 < n then 1 else 0)

/-- The chunks of group `l`. -/
def chunkCount (S : Fin 512 → EReal) (l : Fin 128) : ℕ := chunksOf (count S l)

/-- The chunks before those of group `l`. -/
def start (S : Fin 512 → EReal) (l : Fin 128) : ℕ := ∑ j : Fin 128, if j.val < l.val then chunkCount S j else 0

/-- The slot of row `t` in group `l`. -/
def slot (S : Fin 512 → EReal) (t : Fin 512) (l : Fin 128) : ℕ := before S t l + 144 * start S l

variable (S : Fin 512 → EReal)

theorem hot_unique {t : Fin 512} {l l' : Fin 128} (h : Hot S t l) (h' : Hot S t l') : l = l' := by
  have := h.1.trans h'.1.symm
  exact Fin.ext (by exact_mod_cast this)

/-- A sum over 128 lanes of which only four count. -/
theorem sum_four {M : Type*} [AddCommMonoid M] (f : Fin 128 → M) (h : ∀ j, 4 ≤ j.val → f j = 0) :
    ∑ j, f j = f 0 + f 1 + f 2 + f 3 := by
  have e := Fin.sum_univ_add (a := 4) (b := 124) f
  rw [Finset.sum_eq_zero (s := (Finset.univ : Finset (Fin 124))) fun j _ => h _ (by simp), add_zero, Fin.sum_univ_four] at e
  exact e

theorem count_far {l : Fin 128} (h : 4 ≤ l.val) : count S l = 0 := by
  unfold count
  rw [Finset.card_eq_zero, Finset.filter_eq_empty_iff]
  intro u _ hu
  exact absurd hu.2 (by omega)

theorem chunkCount_far {l : Fin 128} (h : 4 ≤ l.val) : chunkCount S l = 0 := by
  unfold chunkCount
  rw [count_far S h]
  rfl

theorem count_total : count S 0 + count S 1 + count S 2 + count S 3 ≤ 512 := by
  unfold count
  simp only [Finset.card_filter]
  rw [← Finset.sum_add_distrib, ← Finset.sum_add_distrib, ← Finset.sum_add_distrib]
  refine (Finset.sum_le_card_nsmul _ _ 1 fun t _ => ?_).trans (by simp)
  have h01 : ¬(Hot S t 0 ∧ Hot S t 1) := fun h => absurd (hot_unique S h.1 h.2) (by decide)
  have h02 : ¬(Hot S t 0 ∧ Hot S t 2) := fun h => absurd (hot_unique S h.1 h.2) (by decide)
  have h03 : ¬(Hot S t 0 ∧ Hot S t 3) := fun h => absurd (hot_unique S h.1 h.2) (by decide)
  have h12 : ¬(Hot S t 1 ∧ Hot S t 2) := fun h => absurd (hot_unique S h.1 h.2) (by decide)
  have h13 : ¬(Hot S t 1 ∧ Hot S t 3) := fun h => absurd (hot_unique S h.1 h.2) (by decide)
  have h23 : ¬(Hot S t 2 ∧ Hot S t 3) := fun h => absurd (hot_unique S h.1 h.2) (by decide)
  by_cases h0 : Hot S t 0 <;> by_cases h1 : Hot S t 1 <;> by_cases h2 : Hot S t 2 <;> by_cases h3 : Hot S t 3 <;>
    simp_all

theorem before_lt {t : Fin 512} {l : Fin 128} (h : Hot S t l) : before S t l < count S l := by
  unfold before count
  refine Finset.card_lt_card (Finset.ssubset_iff_of_subset (fun u hu => ?_) |>.2 ⟨t, ?_, ?_⟩)
  · simp only [Finset.mem_filter, Finset.mem_univ, true_and] at hu ⊢
    exact hu.2
  · simpa using h
  · simp

theorem before_mono {t u : Fin 512} {l : Fin 128} (h : Hot S t l) (hu : t.val < u.val) : before S t l < before S u l := by
  unfold before
  refine Finset.card_lt_card (Finset.ssubset_iff_of_subset (fun w hw => ?_) |>.2 ⟨t, ?_, ?_⟩)
  · simp only [Finset.mem_filter, Finset.mem_univ, true_and] at hw ⊢
    exact ⟨by omega, hw.2⟩
  · simpa using ⟨hu, h⟩
  · simp

theorem before_inj {t u : Fin 512} {l : Fin 128} (h : Hot S t l) (hu : Hot S u l) (e : before S t l = before S u l) : t = u := by
  rcases lt_trichotomy t.val u.val with c | c | c
  · exact absurd (before_mono S h c) (by omega)
  · exact Fin.ext c
  · exact absurd (before_mono S hu c) (by omega)

theorem le_chunksOf {n : ℕ} (h : n ≤ 512) : n ≤ 144 * chunksOf n := by
  unfold chunksOf
  split_ifs <;> omega

theorem chunks_le (a : ℕ) : chunksOf a ≤ 4 := by
  unfold chunksOf
  split_ifs <;> omega

theorem chunksOf_pred (a : ℕ) : 144 * chunksOf a ≤ a + 143 := by
  unfold chunksOf
  split_ifs <;> omega

theorem chunks_total : chunkCount S 0 + chunkCount S 1 + chunkCount S 2 + chunkCount S 3 ≤ 7 := by
  have h := count_total S
  have h0 := chunksOf_pred (count S 0)
  have h1 := chunksOf_pred (count S 1)
  have h2 := chunksOf_pred (count S 2)
  have h3 := chunksOf_pred (count S 3)
  unfold chunkCount
  omega

theorem start_zero : start S 0 = 0 := by
  unfold start
  exact Finset.sum_eq_zero fun j _ => if_neg (by simp)

theorem start_of (l : Fin 128) (h : l.val < 5) : start S l = (if 0 < l.val then chunkCount S 0 else 0)
    + (if 1 < l.val then chunkCount S 1 else 0) + (if 2 < l.val then chunkCount S 2 else 0) + (if 3 < l.val then chunkCount S 3 else 0) := by
  unfold start
  rw [sum_four _ fun j hj => if_neg (by omega)]
  rfl

theorem start_one : start S 1 = chunkCount S 0 := (start_of S 1 (by decide)).trans (by simp)

theorem start_two : start S 2 = chunkCount S 0 + chunkCount S 1 := (start_of S 2 (by decide)).trans (by simp)

theorem start_three : start S 3 = chunkCount S 0 + chunkCount S 1 + chunkCount S 2 := (start_of S 3 (by decide)).trans (by simp)

theorem before_chunk {t : Fin 512} {l : Fin 128} (h : Hot S t l) : before S t l < 144 * chunkCount S l := by
  have h1 := before_lt S h
  have h2 : count S l ≤ 512 := (Finset.card_le_univ _).trans (by simp)
  exact lt_of_lt_of_le h1 (le_chunksOf h2)

/-- A row of a group is of one of four. -/
theorem hot_four {t : Fin 512} {l : Fin 128} (h : Hot S t l) : l = 0 ∨ l = 1 ∨ l = 2 ∨ l = 3 := by
  have := h.2
  have : l.val = 0 ∨ l.val = 1 ∨ l.val = 2 ∨ l.val = 3 := by omega
  rcases this with e | e | e | e
  · exact .inl (Fin.ext e)
  · exact .inr (.inl (Fin.ext e))
  · exact .inr (.inr (.inl (Fin.ext e)))
  · exact .inr (.inr (.inr (Fin.ext e)))

theorem slot_lt {t : Fin 512} {l : Fin 128} (h : Hot S t l) :
    slot S t l < 144 * (chunkCount S 0 + chunkCount S 1 + chunkCount S 2 + chunkCount S 3) := by
  have hb := before_chunk S h
  unfold slot
  rcases hot_four S h with rfl | rfl | rfl | rfl
  · rw [start_zero]; omega
  · rw [start_one]; omega
  · rw [start_two]; omega
  · rw [start_three]; omega

theorem slot_small {t : Fin 512} {l : Fin 128} (h : Hot S t l) : slot S t l < 1008 := by
  have h1 := slot_lt S h
  have h2 := chunks_total S
  omega

/-- No two rows share a slot. -/
theorem slot_inj {t u : Fin 512} {l l' : Fin 128} (h : Hot S t l) (hu : Hot S u l') (e : slot S t l = slot S u l') : t = u := by
  have hb := before_chunk S h
  have hb' := before_chunk S hu
  have hl : l = l' := by
    unfold slot at e
    rcases hot_four S h with rfl | rfl | rfl | rfl <;> rcases hot_four S hu with rfl | rfl | rfl | rfl <;>
      first | rfl | (exfalso; simp only [start_zero, start_one, start_two, start_three] at e; omega)
  subst hl
  refine before_inj S h hu ?_
  unfold slot at e
  omega

/-- The group of chunk `k`: how many groups end at or before it. -/
def groupAt (S : Fin 512 → EReal) (k : ℕ) : ℕ :=
  (if chunkCount S 0 ≤ k then 1 else 0) + (if chunkCount S 0 + chunkCount S 1 ≤ k then 1 else 0)
    + (if chunkCount S 0 + chunkCount S 1 + chunkCount S 2 ≤ k then 1 else 0)

/-- The chunk in which a row's slot lies is one of its group. -/
theorem groupAt_slot {t : Fin 512} {l : Fin 128} (h : Hot S t l) : groupAt S (slot S t l / 144) = l.val := by
  have hb := before_chunk S h
  have hd : slot S t l / 144 = before S t l / 144 + start S l := by
    unfold slot
    omega
  have hq : before S t l / 144 < chunkCount S l := by omega
  rw [hd]
  unfold groupAt
  rcases hot_four S h with rfl | rfl | rfl | rfl
  · rw [start_zero]; split_ifs <;> simp <;> omega
  · rw [start_one]; split_ifs <;> simp <;> omega
  · rw [start_two]; split_ifs <;> simp <;> omega
  · rw [start_three]; split_ifs <;> simp <;> omega

theorem groupAt_le (k : ℕ) : groupAt S k ≤ 3 := by
  unfold groupAt
  split_ifs <;> omega

end Cert.Moe
-- ==== Proof.MoeRun.lean ====
/-
  The routed experts' kernel body: what one grid point does, under the assumption that the body makes of its four chunk
  counts, as the stores that each buffer ends with.
-/
module

public import proofs.«01_k».proof.Proof.Gen.MoeIdeal.Frame
public import proofs.«01_k».proof.Proof.Gen.MoeIdeal.Loops
public import Idealize.ShloMosaic.Lib.Pipeline.ValueKit

@[expose] public section

set_option maxRecDepth 16384

noncomputable section

namespace Cert.MoeIdeal.Body

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- How many chunks each group of experts takes, from the gates and the table of earlier rows. -/
def chunks (x1 : Vec F S512x128 .f32) (x3 : Vec F S512x512 .bf16) : FVec F S1x128 .f32 := k0_pay23 (k0_pay21 x1 x3) k0_pay22

/-- What the body assumes: its chunks lie within the slots. -/
abbrev Fits (x1 : Vec F S512x128 .f32) (x3 : Vec F S512x512 .bf16) : Prop :=
  k0_chk1 (Scalar.fptosi 32 (k0_pay31 (chunks x1 x3))) (Scalar.fptosi 32 (k0_pay32 (chunks x1 x3)))
    (Scalar.fptosi 32 (k0_pay1 (chunks x1 x3))) (Scalar.fptosi 32 (k0_pay2 (chunks x1 x3)))

/-- A whole buffer, read whole. -/
theorem read_whole {s : Shape} {e : EltTy} (a : Memref sig .tc .vmem s e) (h : a.IsWhole) (x : Vec F s e) {off : Fin s.rank → Nat}
    (inb : ∀ k, off k + s.size k ≤ s.size k) (h0 : ∀ k, off k = 0) :
    a.view.readAt (Elt F) (Rect.unit (s := s) off s.size inb).toLoadRect (h.unread x) = x := by
  rw [View.readAt_eq_ld, h.read_unread, View.ld_unit_lit _ _ h0]

/-- The assumption, over the blocks as the body reads them. -/
theorem fits_read (arg2 : Memref sig .tc .vmem S512x128 .f32) (harg2 : arg2.IsWhole) (arg4 : Memref sig .tc .vmem S512x512 .bf16)
    (harg4 : arg4.IsWhole) (x1 : Vec F S512x128 .f32) (x3 : Vec F S512x512 .bf16) (hw : Fits x1 x3) :
    Fits (arg2.view.readAt (Elt F) (Rect.unit (s := S512x128) ![0, 0] S512x128.size inb_S512x128_S512x128_0_0).toLoadRect (harg2.unread x1))
      (arg4.view.readAt (Elt F) (Rect.unit (s := S512x512) ![0, 0] S512x512.size inb_S512x512_S512x512_0_0).toLoadRect (harg4.unread x3)) := by
  rw [read_whole _ _ _ _ (by decide), read_whole _ _ _ _ (by decide)]
  exact hw

set_option maxHeartbeats 4000000 in
/-- The stores that the body leaves in its output and in its three scratch buffers, with the proof that it leaves them. -/
def run (c : Dev nD) (i : grid0.Coords)
    (arg1 : Memref sig .tc .vmem S512x1024 .f32) (harg1 : arg1.IsWhole)
    (arg2 : Memref sig .tc .vmem S512x128 .f32) (harg2 : arg2.IsWhole)
    (arg3 : Memref sig .tc .vmem S1x1024 .f32) (harg3 : arg3.IsWhole)
    (arg4 : Memref sig .tc .vmem S512x512 .bf16) (harg4 : arg4.IsWhole)
    (arg5 : Memref sig .tc .vmem S128x128 .bf16) (harg5 : arg5.IsWhole)
    (arg6 : Memref sig .tc .vmem S16x1024x256 .bf16) (harg6 : arg6.IsWhole)
    (arg7 : Memref sig .tc .vmem S16x1024x256 .bf16) (harg7 : arg7.IsWhole)
    (arg8 : Memref sig .tc .vmem S16x256x1024 .bf16) (harg8 : arg8.IsWhole)
    (arg9 : Memref sig .tc .vmem S512x1024 .f32) (harg9 : arg9.IsWhole)
    (arg10 : Memref sig .tc .vmem S1024x1024 .bf16) (harg10 : arg10.IsWhole)
    (arg11 : Memref sig .tc .vmem S1024x128 .f32) (harg11 : arg11.IsWhole)
    (arg12 : Memref sig .tc .vmem S1024x1024 .bf16) (harg12 : arg12.IsWhole)
    (x0 : Vec F S512x1024 .f32) (x1 : Vec F S512x128 .f32) (x2 : Vec F S1x1024 .f32) (x3 : Vec F S512x512 .bf16) (x4 : Vec F S128x128 .bf16) (x5 : Vec F S16x1024x256 .bf16) (x6 : Vec F S16x1024x256 .bf16) (x7 : Vec F S16x256x1024 .bf16)
    (hw : Fits x1 x3) :
    Σ' (L : List (View.Piece (Elt F) S512x1024 .f32)), Σ' (A : List (View.Piece (Elt F) S1024x1024 .bf16)), Σ' (B : List (View.Piece (Elt F) S1024x128 .f32)), { C : List (View.Piece (Elt F) S1024x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L) ∗ (∃ f, arg10.view.loc (c : Thread nD τ) ↦[arg10.view.set]{fullShare} arg10.view.writes (Elt F) f A) ∗ (∃ f, arg11.view.loc (c : Thread nD τ) ↦[arg11.view.set]{fullShare} arg11.view.writes (Elt F) f B) ∗ (∃ f, arg12.view.loc (c : Thread nD τ) ↦[arg12.view.set]{fullShare} arg12.view.writes (Elt F) f C)) -∗ K ⟨⟩))
          ⊢ wp frame (wpE (defs₀ (F := F)) Variants.none c none) E (cc0_moe i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?go⟩
  case go =>
    simp only [cc0_moe_eq_skeleton]; unfold cc0_moe_skel
    simp only [k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%da, %fa, -, HA⟩, ⟨%db, %fb, -, HB⟩, ⟨%dc, %fc, -, HC⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    sl_exec (disch := exact fits_read arg2 harg2 arg4 harg4 x1 x3 hw)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HA]; · iexists _; iexact HA
    isplitl [HB]; · iexists _; iexact HB
    iexists _; iexact HC

end Cert.MoeIdeal.Body

end
-- ==== Proof.MoeFits.lean ====
/-
  The assumption that the body makes, for chunk counts that are small and few.
-/
module

public import proofs.«01_k».proof.Proof.MoeRun

@[expose] public section

set_option maxRecDepth 16384

namespace Cert.MoeIdeal.Body

open Cert.MoeIdeal Cert.MoeIdeal.Gen Idealize.ShloMosaic

/-- Up to four chunks a group and seven in all lie within the slots. -/
theorem chk_small : ∀ a b c d : Fin 5, a.val + b.val + c.val + d.val ≤ 7 →
    k0_chk1 (BitVec.ofNat 32 a.val) (BitVec.ofNat 32 b.val) (BitVec.ofNat 32 c.val) (BitVec.ofNat 32 d.val) := by
  decide +kernel

end Cert.MoeIdeal.Body
-- ==== Proof.MoeTile.lean ====
/-
  The routed experts' tile as numbers: the rows' groups, the chunks and the slots.
-/
module

public import proofs.«01_k».proof.Proof.MoeSlots
public import proofs.«01_k».proof.Proof.MoeFits
public import Idealize.ShloMosaic.Lib.Pointwise
public import Idealize.ShloMosaic.Lib.ValueIdx
public import Idealize.ShloMosaic.Lib.Pipeline.ValueKit

@[expose] public section

noncomputable section

namespace Cert.MoeTile

open Cert.MoeIdeal Cert.MoeIdeal.Gen Cert.MoeIdeal.Body Idealize.ShloMosaic Idealize.ShloMosaic.TcCoe Cert.Moe
open scoped Classical

theorem cmpi_eq_small (a b : ℕ) (ha : a < 2 ^ 31) (hb : b < 2 ^ 31) :
    IntOp.cmpi .eq (BitVec.ofNat 32 a) (BitVec.ofNat 32 b) = if a = b then 1#1 else 0#1 := by
  have h : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  by_cases e : a = b
  · simp [IntOp.cmpi, e]
  · rw [if_neg e]
    have h2 : (BitVec.ofNat 32 a == BitVec.ofNat 32 b) = false := by
      rw [beq_eq_false_iff_ne]
      exact fun c => e (h.1 c)
    simp only [IntOp.cmpi, h2]
    rfl

theorem cmpi_slt_four (a : ℕ) (ha : a < 2 ^ 31) :
    IntOp.cmpi .slt (BitVec.ofNat 32 a) 4#32 = if a < 4 then 1#1 else 0#1 := by
  rw [WordCmp.cmpi_slt_ofNat (by simpa using ha) (by decide)]
  by_cases h : a < 4 <;> simp [h]

theorem sitofp_small (a : ℕ) (ha : a < 2 ^ 31) :
    FloatOps.sitofp (F := Ideal) .f32 (BitVec.ofNat 32 a) = ((a : ℕ) : EReal) := by
  show (((BitVec.ofNat 32 a).toInt : ℝ) : EReal) = _
  rw [BitVec.toInt_eq_toNat_of_lt (by rw [BitVec.toNat_ofNat, Nat.mod_eq_of_lt (by omega)]; omega),
    BitVec.toNat_ofNat, Nat.mod_eq_of_lt (by omega)]
  simp

theorem lit_144 : Ideal.ofBits .f32 0x43100000#32 = ((144 : ℕ) : EReal) := by
  simp [Ideal.ofBits, Ideal.ieee]
  rw [← EReal.coe_mul, show ((144 : EReal)) = ((144 : ℝ) : EReal) from rfl, EReal.coe_eq_coe_iff]
  norm_num

theorem lit_288 : Ideal.ofBits .f32 0x43900000#32 = ((288 : ℕ) : EReal) := by
  simp [Ideal.ofBits, Ideal.ieee]
  rw [← EReal.coe_mul, show ((288 : EReal)) = ((288 : ℝ) : EReal) from rfl, EReal.coe_eq_coe_iff]
  norm_num

theorem lit_432 : Ideal.ofBits .f32 0x43D80000#32 = ((432 : ℕ) : EReal) := by
  simp [Ideal.ofBits, Ideal.ieee]
  rw [← EReal.coe_mul, show ((432 : EReal)) = ((432 : ℝ) : EReal) from rfl, EReal.coe_eq_coe_iff]
  norm_num

/-- The value that lane 16 holds. -/
theorem lane_sum (f : Fin 128 → EReal) (n : Fin 128) :
    ∑ x : Fin 128, Scalar.select (IntOp.cmpi .eq (BitVec.ofNat 32 x.val) (BitVec.ofNat 32 n.val)) (f x) 0 = f n := by
  rw [Finset.sum_eq_single n]
  · rw [cmpi_eq_small _ _ (by omega) (by omega), if_pos rfl]; rfl
  · intro x _ hx
    rw [cmpi_eq_small _ _ (by omega) (by omega), if_neg fun e => hx (Fin.ext e)]; rfl
  · intro h; exact absurd (Finset.mem_univ _) h

theorem pay19_apply (v : FVec Ideal S512x128 .f32) (t : Fin 512) (l : Fin 128) :
    k0_pay19 (F := Ideal) v (ix2 t l) = if Hot (fun t => v (ix2 t 16)) t l then 1 else 0 := by
  pointwise [k0_pay19]
  have h := lane_sum (fun x => v (ix2 t x)) 16
  rw [show (BitVec.ofNat 32 (16 : Fin 128).val) = 16#32 from rfl] at h
  rw [h, sitofp_small _ (by omega), cmpi_slt_four _ (by omega)]
  unfold Hot
  by_cases h1 : ((l.val : ℕ) : EReal) = v (ix2 t 16) <;> by_cases h2 : l.val < 4 <;> simp [h1, h2, Scalar.select, IntOp.andi]

theorem pay20_apply (v : FVec Ideal S512x128 .f32) (L : FVec Ideal S512x512 .bf16) (t : Fin 512) (l : Fin 128) :
    k0_pay20 (F := Ideal) v L (ix2 t l) = ∑ u, L (ix2 t u) * k0_pay19 (F := Ideal) v (ix2 u l) := by
  pointwise [k0_pay20]

theorem pay21_apply (v : FVec Ideal S512x128 .f32) (L : FVec Ideal S512x512 .bf16) (l : Fin 128) :
    k0_pay21 (F := Ideal) v L (ix2 0 l) = k0_pay20 (F := Ideal) v L (ix2 511 l) + k0_pay19 (F := Ideal) v (ix2 511 l) := by
  pointwise [k0_pay21]

theorem chunks_apply (v : FVec Ideal S1x128 .f32) (l : Fin 128) (n : ℕ) (h : v (ix2 0 l) = ((n : ℕ) : EReal)) :
    k0_pay23 (F := Ideal) v k0_pay22 (ix2 0 l) = ((chunksOf n : ℕ) : EReal) := by
  pointwise [k0_pay23, k0_pay22]
  rw [h, lit_144, lit_288, lit_432, ← Nat.cast_zero (R := EReal)]
  simp only [Nat.cast_lt]
  unfold chunksOf
  split_ifs <;> norm_num

theorem pay24_apply (o b : FVec Ideal S512x128 .f32) (n z : FVec Ideal S1x128 .f32) (U : FVec Ideal S128x128 .bf16) (t : Fin 512) :
    k0_pay24 (F := Ideal) o b n z U (ix2 t 0)
      = ∑ l, o (ix2 t l) * (b (ix2 t l) + (∑ j, k0_pay23 n z (ix2 0 j) * U (ix2 j l)) * Ideal.ofBits .f32 0x43100000#32) := by
  pointwise [k0_pay24]

theorem pay25_apply (o b : FVec Ideal S512x128 .f32) (n z : FVec Ideal S1x128 .f32) (U : FVec Ideal S128x128 .bf16) (t : Fin 512) :
    k0_pay25 (F := Ideal) o b n z U (ix2 0 t) = k0_pay24 (F := Ideal) o b n z U (ix2 t 0) := by
  unfold k0_pay25
  generalize k0_pay24 (F := Ideal) o b n z U = w
  pointwise []

theorem pay31_apply (v : FVec Ideal S1x128 .f32) : k0_pay31 (F := Ideal) v = v (ix2 0 0) := by
  unfold k0_pay31 extractAt
  pointwise []

theorem pay32_apply (v : FVec Ideal S1x128 .f32) : k0_pay32 (F := Ideal) v = v (ix2 0 1) := by
  unfold k0_pay32 extractAt
  pointwise []

theorem pay1_apply (v : FVec Ideal S1x128 .f32) : k0_pay1 (F := Ideal) v = v (ix2 0 2) := by
  unfold k0_pay1 extractAt
  pointwise []

theorem pay2_apply (v : FVec Ideal S1x128 .f32) : k0_pay2 (F := Ideal) v = v (ix2 0 3) := by
  unfold k0_pay2 extractAt
  pointwise []

theorem word_small (n : ℕ) (hn : n < 2 ^ 20) :
    (Scalar.fptosi (F := Ideal) (φ := .f32) 32 (((n : ℕ) : EReal) : EReal)) = BitVec.ofNat 32 n := by
  rw [Ideal.scalar_fptosi_def, Ideal.fptosi, show ((n : ℕ) : EReal) = ((n : ℝ) : EReal) from rfl, Ideal.toIntClamped_coe,
    if_pos (Nat.cast_nonneg n), Int.floor_natCast, min_eq_right (by norm_num; omega), max_eq_right (by norm_num)]
  rfl

section tables

variable (g : FVec Ideal S512x128 .f32) (L : FVec Ideal S512x512 .bf16) (U : FVec Ideal S128x128 .bf16)

/-- The rows' groups. -/
abbrev grp (t : Fin 512) : EReal := g (ix2 t 16)

/-- Ones below the diagonal. -/
def Below : Prop := ∀ t u : Fin 512, L (ix2 t u) = if u.val < t.val then 1 else 0

/-- Ones above the diagonal. -/
def Above : Prop := ∀ j l : Fin 128, U (ix2 j l) = if j.val < l.val then 1 else 0

variable {L U}

theorem before_apply (hL : Below L) (t : Fin 512) (l : Fin 128) :
    k0_pay20 (F := Ideal) g L (ix2 t l) = ((before (grp g) t l : ℕ) : EReal) := by
  rw [pay20_apply]
  simp only [hL t, pay19_apply]
  unfold before
  rw [← Finset.sum_boole]
  refine Finset.sum_congr rfl fun u _ => ?_
  by_cases h1 : u.val < t.val <;> by_cases h2 : Hot (grp g) u l <;> simp [h1, h2]

theorem count_apply (hL : Below L) (l : Fin 128) :
    k0_pay21 (F := Ideal) g L (ix2 0 l) = ((Moe.count (grp g) l : ℕ) : EReal) := by
  rw [pay21_apply, before_apply g hL, pay19_apply]
  have h : Moe.count (grp g) l = before (grp g) 511 l + if Hot (grp g) 511 l then 1 else 0 := by
    unfold Moe.count before
    simp only [Finset.card_filter]
    rw [show (if Hot (grp g) 511 l then 1 else 0 : ℕ) = ∑ u : Fin 512, if u = 511 then (if Hot (grp g) u l then 1 else 0) else 0 from by
      rw [Finset.sum_ite_eq' Finset.univ (511 : Fin 512)]; simp, ← Finset.sum_add_distrib]
    refine Finset.sum_congr rfl fun u _ => ?_
    by_cases hu : u = 511
    · subst hu; simp
    · have h1 : u.val < 511 := by
        have h1 := u.isLt
        have h2 : u.val ≠ 511 := fun e => hu (Fin.ext e)
        omega
      have h2 : u.val < (511 : Fin 512).val := h1
      rw [if_neg hu, add_zero]
      exact if_congr ⟨fun h => ⟨h2, h⟩, fun h => h.2⟩ rfl rfl
  rw [h]
  split_ifs <;> simp

theorem chunkCount_apply (hL : Below L) (l : Fin 128) :
    chunks (F := Ideal) g L (ix2 0 l) = ((chunkCount (grp g) l : ℕ) : EReal) :=
  chunks_apply _ l _ (count_apply g hL l)

theorem fits (hL : Below L) : Fits (F := Ideal) g L := by
  have h := chk_small ⟨chunkCount (grp g) 0, Nat.lt_succ_of_le (chunks_le _)⟩ ⟨chunkCount (grp g) 1, Nat.lt_succ_of_le (chunks_le _)⟩
    ⟨chunkCount (grp g) 2, Nat.lt_succ_of_le (chunks_le _)⟩ ⟨chunkCount (grp g) 3, Nat.lt_succ_of_le (chunks_le _)⟩ (chunks_total _)
  unfold Fits
  rw [pay31_apply, pay32_apply, pay1_apply, pay2_apply, chunkCount_apply g hL, chunkCount_apply g hL, chunkCount_apply g hL,
    chunkCount_apply g hL, word_small _ (by have := chunks_le (Moe.count (grp g) 0); unfold chunkCount; omega),
    word_small _ (by have := chunks_le (Moe.count (grp g) 1); unfold chunkCount; omega),
    word_small _ (by have := chunks_le (Moe.count (grp g) 2); unfold chunkCount; omega),
    word_small _ (by have := chunks_le (Moe.count (grp g) 3); unfold chunkCount; omega)]
  exact h

/-- A row's slot, as the kernel computes it. -/
theorem slot_apply (hL : Below L) (hU : Above U) {t : Fin 512} {l : Fin 128} (h : Hot (grp g) t l) :
    k0_pay24 (F := Ideal) (k0_pay19 g) (k0_pay20 g L) (k0_pay21 g L) k0_pay22 U (ix2 t 0) = ((slot (grp g) t l : ℕ) : EReal) := by
  rw [pay24_apply, Finset.sum_eq_single l]
  · rw [pay19_apply, if_pos h, one_mul, before_apply g hL, lit_144]
    have hs : ∑ j, k0_pay23 (F := Ideal) (k0_pay21 g L) k0_pay22 (ix2 0 j) * U (ix2 j l) = ((start (grp g) l : ℕ) : EReal) := by
      unfold start
      rw [Nat.cast_sum]
      refine Finset.sum_congr rfl fun j _ => ?_
      rw [chunks_apply _ j _ (count_apply g hL j), hU]
      by_cases hj : j.val < l.val <;> simp [hj, chunkCount]
    rw [hs]
    unfold slot
    push_cast
    rw [mul_comm (144 : EReal)]
  · intro j _ hj
    rw [pay19_apply, if_neg fun h' => hj (hot_unique _ h' h), zero_mul]
  · intro h'; exact absurd (Finset.mem_univ _) h'

end tables

end Cert.MoeTile
-- ==== Proof.MoeWords.lean ====
/-
  The loop's words for chunk counts that are small and few: its trips, the slots that a trip reads and writes, the group whose
  experts it takes.
-/
module

public import proofs.«01_k».proof.Proof.MoeRun

@[expose] public section

set_option maxRecDepth 16384

namespace Cert.MoeIdeal.Body

open Cert.MoeIdeal Cert.MoeIdeal.Gen Idealize.ShloMosaic

/-- A count as the loop's word. -/
abbrev wd (a : Fin 5) : BitVec 32 := BitVec.ofNat 32 a.val

/-- How many of the first three groups end at or before chunk `k`. -/
def ends (a b c k : ℕ) : ℕ := (if a ≤ k then 1 else 0) + (if a + b ≤ k then 1 else 0) + (if a + b + c ≤ k then 1 else 0)

/-- The group of chunk `k` as the loop counts it. -/
def groupWord (w0 w133 w135 iv : BitVec 32) : BitVec 32 :=
  Scalar.addi (Scalar.addi (Scalar.addi 0#32 (Scalar.extui (Scalar.cmpi .sge iv w0))) (Scalar.extui (Scalar.cmpi .sge iv w133)))
    (Scalar.extui (Scalar.cmpi .sge iv w135))

theorem trips_small : ∀ a b c d : Fin 5, a.val + b.val + c.val + d.val ≤ 7 →
    (k0_t1_loop (wd a) (wd b) (wd c) (wd d)).trips = a.val + b.val + c.val + d.val
      ∧ (k0_t2_loop (wd a) (wd b) (wd c) (wd d)).trips = 0 := by
  decide +kernel

theorem offs_small : ∀ a b c d : Fin 5, a.val + b.val + c.val + d.val ≤ 7 →
    ∀ k : Fin (k0_t1_loop (wd a) (wd b) (wd c) (wd d)).trips,
      k0_off1 (wd a) (wd b) (wd c) (wd d) k = ![144 * k.val, 0] ∧ k0_off2 (wd a) (wd b) (wd c) (wd d) k = ![144 * k.val, 0]
      ∧ groupWord (wd a) (Scalar.addi (wd a) (wd b)) (Scalar.addi (Scalar.addi (wd a) (wd b)) (wd c)) (Scf.iv 0#32 1#32 k)
        = BitVec.ofNat 32 (ends a.val b.val c.val k.val) := by
  decide +kernel

theorem experts_small : ∀ a b c d : Fin 5, a.val + b.val + c.val + d.val ≤ 7 →
    ∀ k : Fin (k0_t1_loop (wd a) (wd b) (wd c) (wd d)).trips, ∀ r : Fin 4,
      k0_off3 (wd a) (wd b) (wd c) (wd d) k (BitVec.ofNat 32 r.val) = ![4 * ends a.val b.val c.val k.val + r.val, 0, 0]
      ∧ k0_off4 (wd a) (wd b) (wd c) (wd d) k (BitVec.ofNat 32 r.val) = ![4 * ends a.val b.val c.val k.val + r.val, 0, 0] := by
  decide +kernel

theorem ends_le (a b c k : ℕ) : ends a b c k ≤ 3 := by
  unfold ends
  split_ifs <;> omega

/-- The lane of expert `r` of group `g`, as a word. -/
theorem lane_word : ∀ g r : Fin 4, Scalar.addi (Scalar.muli (BitVec.ofNat 32 g.val) 4#32) (BitVec.ofNat 32 r.val)
    = BitVec.ofNat 32 (4 * g.val + r.val) := by
  decide +kernel

end Cert.MoeIdeal.Body
-- ==== Proof.MoeChunk.lean ====
/-
  One trip of the routed experts' loop: the chunk that it reads, four experts on every row of it, and the rows that it stores.
-/
module

public import proofs.«01_k».proof.Proof.MoeTile
public import proofs.«01_k».proof.Proof.MoeWords
public import proofs.«01_k».proof.Proof.Stores

@[expose] public section

set_option maxRecDepth 16384

noncomputable section

namespace Cert.Moe

open Idealize.ShloMosaic

/-- An expert's hidden lane of one row. -/
def hiddenLane (X : Fin 1024 → EReal) (A B : Fin 1024 → Fin 256 → EReal) (f : Fin 256) : EReal :=
  (∑ k, X k * A k f) * Ideal.logistic (∑ k, X k * A k f) * ∑ k, X k * B k f

/-- Four experts of one row, each times its gate, projected back. -/
def fourExperts (X : Fin 1024 → EReal) (W : Fin 4 → EReal) (A B : Fin 4 → Fin 1024 → Fin 256 → EReal)
    (D : Fin 4 → Fin 256 → Fin 1024 → EReal) (n : Fin 1024) : EReal :=
  ∑ r, ∑ f, hiddenLane X (A r) (B r) f * W r * D r f n

/-- Expert `r` of group `g`. -/
def expertOf (g r : Fin 4) : Fin 16 := ⟨4 * g.val + r.val, by omega⟩

/-- Its lane. -/
def laneOf (g r : Fin 4) : Fin 128 := ⟨4 * g.val + r.val, by omega⟩

end Cert.Moe

namespace Cert.MoeTile

open Cert.MoeIdeal Cert.MoeIdeal.Gen Cert.MoeIdeal.Body Idealize.ShloMosaic Idealize.ShloMosaic.TcCoe Cert.Moe

/-- The lane numbers. -/
abbrev lanes : IVec S144x128 32 := iota .tc S144x128 32 [1] iota_S144x128_d1_w32

theorem lane_pick (f : Fin 128 → EReal) (g r : Fin 4) (w : BitVec 32) (h : w = BitVec.ofNat 32 (4 * g.val + r.val)) :
    ∑ x : Fin 128, Scalar.select (IntOp.cmpi .eq (BitVec.ofNat 32 x.val) w) (f x) 0 = f (laneOf g r) := by
  subst h
  exact lane_sum f (laneOf g r)

variable (X : FVec Ideal S144x1024 .bf16) (G : FVec Ideal S144x128 .f32) (A B : FVec Ideal S1x1024x256 .bf16)

theorem pay9_apply (g : Fin 4) (s : Fin 144) (f : Fin 256) :
    k0_pay9 (F := Ideal) (BitVec.ofNat 32 g.val) X G lanes A B (ix2 s f)
      = hiddenLane (fun k => X (ix2 s k)) (fun k f => A (ix3 0 k f)) (fun k f => B (ix3 0 k f)) f * G (ix2 s (laneOf g 3)) := by
  pointwise [k0_pay9, hiddenLane]
  exact congrArg (_ * ·) (lane_pick (fun x => G (ix2 s x)) g 3 _ (lane_word g 3))

theorem pay8_apply (g : Fin 4) (s : Fin 144) (f : Fin 256) :
    k0_pay8 (F := Ideal) (BitVec.ofNat 32 g.val) X G lanes (k0_pay7 X A) B (ix2 s f)
      = hiddenLane (fun k => X (ix2 s k)) (fun k f => A (ix3 0 k f)) (fun k f => B (ix3 0 k f)) f * G (ix2 s (laneOf g 2)) := by
  pointwise [k0_pay8, k0_pay7, hiddenLane]
  exact congrArg (_ * ·) (lane_pick (fun x => G (ix2 s x)) g 2 _ (lane_word g 2))

theorem pay6_apply (g : Fin 4) (s : Fin 144) (f : Fin 256) :
    k0_pay6 (F := Ideal) (BitVec.ofNat 32 g.val) X G lanes A B (ix2 s f)
      = hiddenLane (fun k => X (ix2 s k)) (fun k f => A (ix3 0 k f)) (fun k f => B (ix3 0 k f)) f * G (ix2 s (laneOf g 1)) := by
  pointwise [k0_pay6, hiddenLane]
  exact congrArg (_ * ·) (lane_pick (fun x => G (ix2 s x)) g 1 _ (lane_word g 1))

theorem pay4_apply (a b c d v133 v135 : BitVec 32) (k : Fin (k0_t1_loop a b c d).trips) (g : Fin 4)
    (h : groupWord a v133 v135 (Scf.iv 0#32 1#32 k) = BitVec.ofNat 32 g.val) (s : Fin 144) (f : Fin 256) :
    k0_pay5 (F := Ideal) (k0_pay4 a b c d v133 v135 0#32 1#32 k X G A B) (ix2 s f)
      = hiddenLane (fun k => X (ix2 s k)) (fun k f => A (ix3 0 k f)) (fun k f => B (ix3 0 k f)) f * G (ix2 s (laneOf g 0)) := by
  unfold k0_pay4
  dsimp only
  rw [show Scalar.addi (Scalar.addi (Scalar.addi 0#32 (Scalar.extui (Scalar.cmpi .sge (Scf.iv 0#32 1#32 k) a)))
    (Scalar.extui (Scalar.cmpi .sge (Scf.iv 0#32 1#32 k) v133))) (Scalar.extui (Scalar.cmpi .sge (Scf.iv 0#32 1#32 k) v135)) = _ from h]
  pointwise [k0_pay5, hiddenLane]
  exact congrArg (_ * ·) (lane_pick (fun x => G (ix2 s x)) g 0 _ (lane_word g 0))

theorem pay10_apply (h0 h1 h2 : FVec Ideal S144x256 .bf16) (h3 : FVec Ideal S144x256 .f32) (d0 d1 d2 d3 : FVec Ideal S1x256x1024 .bf16)
    (s : Fin 144) (n : Fin 1024) :
    k0_pay10 (F := Ideal) h0 h1 h2 h3 d0 d1 d2 d3 (ix2 s n)
      = (∑ f, h0 (ix2 s f) * d0 (ix3 0 f n)) + (∑ f, h1 (ix2 s f) * d1 (ix3 0 f n)) + (∑ f, h2 (ix2 s f) * d2 (ix3 0 f n))
        + ∑ f, h3 (ix2 s f) * d3 (ix3 0 f n) := by
  pointwise [k0_pay10]

end Cert.MoeTile
-- ==== Proof.MoeLoop.lean ====
/-
  The routed experts' loop as a whole: what its stores leave in the rows that some chunk holds.
-/
module

public import proofs.«01_k».proof.Proof.MoeChunk

@[expose] public section

set_option maxRecDepth 16384

noncomputable section

namespace Cert.MoeTile

open Cert.MoeIdeal Cert.MoeIdeal.Gen Cert.MoeIdeal.Body Idealize.ShloMosaic Idealize.ShloMosaic.TcCoe Cert.Moe

variable {e : EltTy}

theorem ld_rows (p : S1024x1024.Idx → Elt Ideal e) (off : Fin 2 → ℕ) (inb) (k : ℕ) (h : off = ![144 * k, 0]) (s : Fin 144)
    (q : Fin 1024) (hk : 144 * k + s.val < 1024) :
    View.ld (Val := Elt Ideal) (e' := e) (S := S1024x1024) p (Rect.unit off ![144, 1024] inb) (ix2 (n0 := 144) (n1 := 1024) s q)
      = p (ix2 (n0 := 1024) (n1 := 1024) ⟨144 * k + s.val, hk⟩ q) := by
  subst h
  exact View.ld_unit_apply_of _ _ _ _ _ _ fun a => by fin_cases a <;> simp [ix2]

theorem ld_gates (p : S1024x128.Idx → Elt Ideal e) (off : Fin 2 → ℕ) (inb) (k : ℕ) (h : off = ![144 * k, 0]) (s : Fin 144)
    (q : Fin 128) (hk : 144 * k + s.val < 1024) :
    View.ld (Val := Elt Ideal) (e' := e) (S := S1024x128) p (Rect.unit off ![144, 128] inb) (ix2 (n0 := 144) (n1 := 128) s q)
      = p (ix2 (n0 := 1024) (n1 := 128) ⟨144 * k + s.val, hk⟩ q) := by
  subst h
  exact View.ld_unit_apply_of _ _ _ _ _ _ fun a => by fin_cases a <;> simp [ix2]

theorem ld_in (p : S16x1024x256.Idx → Elt Ideal e) (off : Fin 3 → ℕ) (inb) (x : Fin 16) (h : off = ![x.val, 0, 0]) (k : Fin 1024)
    (f : Fin 256) : View.ld (Val := Elt Ideal) (e' := e) (S := S16x1024x256) p (Rect.unit off ![1, 1024, 256] inb) (ix3 (n0 := 1) (n1 := 1024) (n2 := 256) 0 k f)
      = p (ix3 (n0 := 16) (n1 := 1024) (n2 := 256) x k f) := by
  subst h
  exact View.ld_unit_apply_of _ _ _ _ _ _ fun a => by fin_cases a <;> simp [ix3]

theorem ld_out (p : S16x256x1024.Idx → Elt Ideal e) (off : Fin 3 → ℕ) (inb) (x : Fin 16) (h : off = ![x.val, 0, 0]) (f : Fin 256)
    (n : Fin 1024) : View.ld (Val := Elt Ideal) (e' := e) (S := S16x256x1024) p (Rect.unit off ![1, 256, 1024] inb) (ix3 (n0 := 1) (n1 := 256) (n2 := 1024) 0 f n)
      = p (ix3 (n0 := 16) (n1 := 256) (n2 := 1024) x f n) := by
  subst h
  exact View.ld_unit_apply_of _ _ _ _ _ _ fun a => by fin_cases a <;> simp [ix3]

theorem emb_rows (off : Fin 2 → ℕ) (inb) (k : ℕ) (h : off = ![144 * k, 0]) (s : Fin 144) (q : Fin 1024) (hk : 144 * k + s.val < 1024) :
    (Rect.unit (s := S1024x1024) off ![144, 1024] inb).emb (ix2 (n0 := 144) (n1 := 1024) s q)
      = ix2 (n0 := 1024) (n1 := 1024) ⟨144 * k + s.val, hk⟩ q := by
  subst h
  refine funext fun a => Fin.ext ((Rect.idx_unit_val _ _ inb _ a).trans ?_)
  fin_cases a <;> simp [ix2]

theorem mem_rows (off : Fin 2 → ℕ) (inb) (k : ℕ) (h : off = ![144 * k, 0]) (y n : Fin 1024) (hl : 144 * k ≤ y.val)
    (hu : y.val < 144 * k + 144) : ix2 y n ∈ (Rect.unit (s := S1024x1024) off ![144, 1024] inb).set := by
  subst h
  refine (LoadRect.mem_set _).2 fun a => ?_
  fin_cases a
  · exact ⟨y.val - 144 * k, by simp [Rect.unit]; omega, by simp [Rect.unit, ix2]; omega⟩
  · exact ⟨n.val, by simp [Rect.unit], by simp [Rect.unit, ix2]⟩

/-- The group of chunk `k`. -/
def groupOf (k0 k1 k2 k : ℕ) : Fin 4 := ⟨ends k0 k1 k2 k, Nat.lt_succ_of_le (ends_le _ _ _ _)⟩

/-- What the loop leaves in a row, from the sorted rows, their gates and the experts. -/
def sorted (k0 k1 k2 : ℕ) (p : Vec Ideal S1024x1024 .bf16) (w : Vec Ideal S1024x128 .f32) (a b : Vec Ideal S16x1024x256 .bf16)
    (d : Vec Ideal S16x256x1024 .bf16) (y : Fin 1024) (n : Fin 1024) : EReal :=
  fourExperts (fun q => p (ix2 y q)) (fun r => w (ix2 y (laneOf (groupOf k0 k1 k2 (y.val / 144)) r)))
    (fun r k f => a (ix3 (expertOf (groupOf k0 k1 k2 (y.val / 144)) r) k f))
    (fun r k f => b (ix3 (expertOf (groupOf k0 k1 k2 (y.val / 144)) r) k f))
    (fun r f n => d (ix3 (expertOf (groupOf k0 k1 k2 (y.val / 144)) r) f n)) n

section loop

variable (c : Dev nD) (i : grid0.Coords)
    (arg1 : Memref sig .tc .vmem S512x1024 .f32) (harg1 : arg1.IsWhole)
    (arg2 : Memref sig .tc .vmem S512x128 .f32) (harg2 : arg2.IsWhole)
    (arg3 : Memref sig .tc .vmem S1x1024 .f32) (harg3 : arg3.IsWhole)
    (arg4 : Memref sig .tc .vmem S512x512 .bf16) (harg4 : arg4.IsWhole)
    (arg5 : Memref sig .tc .vmem S128x128 .bf16) (harg5 : arg5.IsWhole)
    (arg6 : Memref sig .tc .vmem S16x1024x256 .bf16) (harg6 : arg6.IsWhole)
    (arg7 : Memref sig .tc .vmem S16x1024x256 .bf16) (harg7 : arg7.IsWhole)
    (arg8 : Memref sig .tc .vmem S16x256x1024 .bf16) (harg8 : arg8.IsWhole)
    (arg9 : Memref sig .tc .vmem S512x1024 .f32) (harg9 : arg9.IsWhole)
    (arg10 : Memref sig .tc .vmem S1024x1024 .bf16) (harg10 : arg10.IsWhole)
    (arg11 : Memref sig .tc .vmem S1024x128 .f32) (harg11 : arg11.IsWhole)
    (arg12 : Memref sig .tc .vmem S1024x1024 .bf16) (harg12 : arg12.IsWhole)
  (a0 a1 a2 a3 : Fin 5) (hs : a0.val + a1.val + a2.val + a3.val ≤ 7) (hw : k0_chk1 (wd a0) (wd a1) (wd a2) (wd a3))
  (X6 : BufTy.Contents (Elt Ideal) arg6.view.ty) (X7 : BufTy.Contents (Elt Ideal) arg7.view.ty)
  (X8 : BufTy.Contents (Elt Ideal) arg8.view.ty) (X10 : BufTy.Contents (Elt Ideal) arg10.view.ty)
  (X11 : BufTy.Contents (Elt Ideal) arg11.view.ty)
  (x5 x6 : Vec Ideal S16x1024x256 .bf16) (x7 : Vec Ideal S16x256x1024 .bf16) (p : Vec Ideal S1024x1024 .bf16) (w : Vec Ideal S1024x128 .f32)
  (h6 : arg6.view.read (Elt Ideal) X6 = x5) (h7 : arg7.view.read (Elt Ideal) X7 = x6) (h8 : arg8.view.read (Elt Ideal) X8 = x7)
  (h10 : arg10.view.read (Elt Ideal) X10 = p) (h11 : arg11.view.read (Elt Ideal) X11 = w)

include hs h6 h7 h8 h10 h11

theorem trip_piece (k : Fin (k0_t1_loop (wd a0) (wd a1) (wd a2) (wd a3)).trips) :
    ∀ q ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 (wd a0) (wd a1) (wd a2) (wd a3) hw
        (Scalar.addi (wd a0) (wd a1)) (Scalar.addi (Scalar.addi (wd a0) (wd a1)) (wd a2)) X6 X7 X8 X10 X11 k,
      (∀ y, q.2 y = (fun i : S1024x1024.Idx => sorted a0.val a1.val a2.val p w x5 x6 x7 (i 0) (i 1)) (q.1.emb y))
      ∧ ∀ (y n : Fin 1024), 144 * k.val ≤ y.val → y.val < 144 * k.val + 144 → ix2 y n ∈ q.1.set := by
  obtain ⟨o1, o2, og⟩ := offs_small a0 a1 a2 a3 hs k
  have oe := experts_small a0 a1 a2 a3 hs k
  have ht := (trips_small a0 a1 a2 a3 hs).1
  have hk := k.isLt
  unfold tripL_k0_t1 trip_k0_t1
  dsimp only
  dsimp +instances only [trip_k0_t1.sl.r_9,trip_k0_t1.sl.r_8,trip_k0_t1.sl.r_7,trip_k0_t1.sl.r_6,trip_k0_t1.sl.r_5,trip_k0_t1.sl.r_4,trip_k0_t1.sl.r_3,trip_k0_t1.sl.r_2,trip_k0_t1.sl.r_1,trip_k0_t1.sl.r,trip_k0_t1.sl.v154,trip_k0_t1.sl.v161]
  obtain ⟨g, hgd⟩ : ∃ g, groupOf a0.val a1.val a2.val k.val = g := ⟨_, rfl⟩
  have hv : g.val = ends a0.val a1.val a2.val k.val := congrArg Fin.val hgd.symm
  rw [← hv] at og
  rw [← hv] at oe
  have e30 : k0_off3 (wd a0) (wd a1) (wd a2) (wd a3) k 0#32 = ![(expertOf g 0).val, 0, 0] := (oe 0).1
  have e40 : k0_off4 (wd a0) (wd a1) (wd a2) (wd a3) k 0#32 = ![(expertOf g 0).val, 0, 0] := (oe 0).2
  have e31 : k0_off3 (wd a0) (wd a1) (wd a2) (wd a3) k 1#32 = ![(expertOf g 1).val, 0, 0] := (oe 1).1
  have e41 : k0_off4 (wd a0) (wd a1) (wd a2) (wd a3) k 1#32 = ![(expertOf g 1).val, 0, 0] := (oe 1).2
  have e32 : k0_off3 (wd a0) (wd a1) (wd a2) (wd a3) k 2#32 = ![(expertOf g 2).val, 0, 0] := (oe 2).1
  have e42 : k0_off4 (wd a0) (wd a1) (wd a2) (wd a3) k 2#32 = ![(expertOf g 2).val, 0, 0] := (oe 2).2
  have e33 : k0_off3 (wd a0) (wd a1) (wd a2) (wd a3) k 3#32 = ![(expertOf g 3).val, 0, 0] := (oe 3).1
  have e43 : k0_off4 (wd a0) (wd a1) (wd a2) (wd a3) k 3#32 = ![(expertOf g 3).val, 0, 0] := (oe 3).2
  have hg : Scalar.addi (trip_k0_t1.sl.v151 (wd a0) (wd a1) (wd a2) (wd a3) (Scalar.addi (wd a0) (wd a1)) k)
      (trip_k0_t1.sl.v153 (wd a0) (wd a1) (wd a2) (wd a3) (Scalar.addi (Scalar.addi (wd a0) (wd a1)) (wd a2)) k) = BitVec.ofNat 32 g.val := og
  intro q hq
  replace hq := List.mem_singleton.1 hq
  simp only [View.readAt_eq_ld, h6, h7, h8, h10, h11, hg] at hq
  subst hq
  refine ⟨fun y => ?_, fun y n hl hu => ?_⟩
  rotate_left
  · dsimp only
    exact mem_rows _ _ k.val o1 y n hl hu
  obtain ⟨s, n, rfl⟩ : ∃ s n, y = ix2 (n0 := 144) (n1 := 1024) s n := ⟨y 0, y 1, eq_ix2 y⟩
  have hb : 144 * k.val + s.val < 1024 := by omega
  have hq : (144 * k.val + s.val) / 144 = k.val := by omega
  refine (pay10_apply ..).trans ?_
  rw [emb_rows _ _ k.val o1 s n hb]
  show _ = sorted a0.val a1.val a2.val p w x5 x6 x7 ⟨144 * k.val + s.val, hb⟩ n
  unfold sorted fourExperts
  rw [Fin.sum_univ_four]
  simp only [hq, hgd, show iota .tc S144x128 32 [1] iota_S144x128_d1_w32 = lanes from rfl]
  simp only [fun X G A B s f => pay4_apply X G A B _ _ _ _ _ _ k g og s f, pay6_apply, pay8_apply, pay9_apply,
    ld_rows p _ _ k.val o1 s _ hb, ld_gates w _ _ k.val o2 s _ hb,
    ld_in x5 _ _ (expertOf g 0) e30, ld_in x6 _ _ (expertOf g 0) e30, ld_out x7 _ _ (expertOf g 0) e40,
      ld_in x5 _ _ (expertOf g 1) e31, ld_in x6 _ _ (expertOf g 1) e31, ld_out x7 _ _ (expertOf g 1) e41,
      ld_in x5 _ _ (expertOf g 2) e32, ld_in x6 _ _ (expertOf g 2) e32, ld_out x7 _ _ (expertOf g 2) e42,
      ld_in x5 _ _ (expertOf g 3) e33, ld_in x6 _ _ (expertOf g 3) e33, ld_out x7 _ _ (expertOf g 3) e43]

omit hs h6 h7 h8 h10 h11 in
theorem trip_some (k : Fin (k0_t1_loop (wd a0) (wd a1) (wd a2) (wd a3)).trips) :
    ∃ q, q ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 (wd a0) (wd a1) (wd a2) (wd a3) hw (Scalar.addi (wd a0) (wd a1)) (Scalar.addi (Scalar.addi (wd a0) (wd a1)) (wd a2)) X6 X7 X8 X10 X11 k := by
  unfold tripL_k0_t1 trip_k0_t1
  exact ⟨_, List.mem_singleton.2 rfl⟩

omit hs h6 h7 h8 h10 h11 in
/-- The loop's pieces are its trips'. -/
theorem pb_iff (q : View.Piece (Elt Ideal) S1024x1024 .bf16) : ∀ j, j ≤ (k0_t1_loop (wd a0) (wd a1) (wd a2) (wd a3)).trips →
    (q ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 (wd a0) (wd a1) (wd a2) (wd a3) hw (Scalar.addi (wd a0) (wd a1)) (Scalar.addi (Scalar.addi (wd a0) (wd a1)) (wd a2)) X6 X7 X8 X10 X11 j
      ↔ ∃ k : Fin (k0_t1_loop (wd a0) (wd a1) (wd a2) (wd a3)).trips, k.val < j ∧ q ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 (wd a0) (wd a1) (wd a2) (wd a3) hw (Scalar.addi (wd a0) (wd a1)) (Scalar.addi (Scalar.addi (wd a0) (wd a1)) (wd a2)) X6 X7 X8 X10 X11 k)
  | 0, _ => by
    unfold pb_k0_t1
    simp
  | j + 1, hj => by
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 (wd a0) (wd a1) (wd a2) (wd a3) hw (Scalar.addi (wd a0) (wd a1)) (Scalar.addi (Scalar.addi (wd a0) (wd a1)) (wd a2)) X6 X7 X8 X10 X11 ⟨j, hj⟩
    have ih := pb_iff q j (by omega)
    dsimp only at e
    rw [e, List.mem_append, ih]
    constructor
    · rintro (h | ⟨k, hk, h⟩)
      · exact ⟨⟨j, hj⟩, Nat.lt_succ_self j, h⟩
      · exact ⟨k, by omega, h⟩
    · rintro ⟨k, hk, h⟩
      by_cases hkj : k.val = j
      · left
        have : k = ⟨j, hj⟩ := Fin.ext hkj
        rw [← this]
        exact h
      · exact .inr ⟨k, by omega, h⟩

theorem loop_apply (rest : List (View.Piece (Elt Ideal) S1024x1024 .bf16)) (y n : Fin 1024)
    (hy : y.val < 144 * (a0.val + a1.val + a2.val + a3.val)) :
    View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 (wd a0) (wd a1) (wd a2) (wd a3) hw (Scalar.addi (wd a0) (wd a1)) (Scalar.addi (Scalar.addi (wd a0) (wd a1)) (wd a2)) X6 X7 X8 X10 X11
        (k0_t1_loop (wd a0) (wd a1) (wd a2) (wd a3)).trips ++ rest) (ix2 y n)
      = sorted a0.val a1.val a2.val p w x5 x6 x7 y n := by
  have ht := (trips_small a0 a1 a2 a3 hs).1
  refine Stores.canon_agree (fun i : S1024x1024.Idx => sorted a0.val a1.val a2.val p w x5 x6 x7 (i 0) (i 1)) rest (ix2 y n) _ ?_ ?_
  · intro q hq
    obtain ⟨k, -, h⟩ := (pb_iff c i arg1 harg1 arg2 harg2 arg3 harg3 arg4 harg4 arg5 harg5 arg6 harg6 arg7 harg7 arg8 harg8 arg9 harg9 arg10 harg10 arg11 harg11 arg12 harg12 a0 a1 a2 a3 hw X6 X7 X8 X10 X11 q _ le_rfl).1 hq
    exact (trip_piece c i arg1 harg1 arg2 harg2 arg3 harg3 arg4 harg4 arg5 harg5 arg6 harg6 arg7 harg7 arg8 harg8 arg9 harg9 arg10 harg10 arg11 harg11 arg12 harg12 a0 a1 a2 a3 hs hw X6 X7 X8 X10 X11 x5 x6 x7 p w h6 h7 h8 h10 h11 k q h).1
  · have hk : y.val / 144 < (k0_t1_loop (wd a0) (wd a1) (wd a2) (wd a3)).trips := by rw [ht]; omega
    obtain ⟨q, hq⟩ := trip_some c i arg1 harg1 arg2 harg2 arg3 harg3 arg4 harg4 arg5 harg5 arg6 harg6 arg7 harg7 arg8 harg8 arg9 harg9 arg10 harg10 arg11 harg11 arg12 harg12 a0 a1 a2 a3 hw X6 X7 X8 X10 X11 ⟨y.val / 144, hk⟩
    refine ⟨q, (pb_iff c i arg1 harg1 arg2 harg2 arg3 harg3 arg4 harg4 arg5 harg5 arg6 harg6 arg7 harg7 arg8 harg8 arg9 harg9 arg10 harg10 arg11 harg11 arg12 harg12 a0 a1 a2 a3 hw X6 X7 X8 X10 X11 q _ le_rfl).2 ⟨⟨y.val / 144, hk⟩, hk, hq⟩, ?_⟩
    exact (trip_piece c i arg1 harg1 arg2 harg2 arg3 harg3 arg4 harg4 arg5 harg5 arg6 harg6 arg7 harg7 arg8 harg8 arg9 harg9 arg10 harg10 arg11 harg11 arg12 harg12 a0 a1 a2 a3 hs hw X6 X7 X8 X10 X11 x5 x6 x7 p w h6 h7 h8 h10 h11 ⟨y.val / 144, hk⟩ q hq).2 y n
      (by show 144 * (y.val / 144) ≤ y.val; omega) (by show y.val < 144 * (y.val / 144) + 144; omega)

/-- The same, of the words as the body computes them, and the second loop running not at all. -/
theorem loop_words (w0 w1 w2 w3 : BitVec 32) (hc : k0_chk1 w0 w1 w2 w3) (e0 : w0 = wd a0) (e1 : w1 = wd a1) (e2 : w2 = wd a2) (e3 : w3 = wd a3)
    (v141 : BitVec 32) (rest : List (View.Piece (Elt Ideal) S1024x1024 .bf16)) (y n : Fin 1024)
    (hy : y.val < 144 * (a0.val + a1.val + a2.val + a3.val)) :
    View.canon (pb_k0_t2 (F := Ideal) Variants.none c none i arg1 harg1 arg2 harg2 arg3 harg3 arg4 harg4 arg5 harg5 arg6 harg6 arg7 harg7 arg8 harg8 arg9 harg9 arg10 harg10 arg11 harg11 arg12 harg12 w0 w1 w2 w3 hc (Scalar.addi w0 w1) (Scalar.addi (Scalar.addi w0 w1) w2) v141
        X6 X7 X8 X10 X11 (Scf.trips (k0_t2_loop w0 w1 w2 w3).lb (k0_t2_loop w0 w1 w2 w3).ub (k0_t2_loop w0 w1 w2 w3).st)
      ++ (pb_k0_t1 (F := Ideal) Variants.none c none i arg1 harg1 arg2 harg2 arg3 harg3 arg4 harg4 arg5 harg5 arg6 harg6 arg7 harg7 arg8 harg8 arg9 harg9 arg10 harg10 arg11 harg11 arg12 harg12 w0 w1 w2 w3 hc (Scalar.addi w0 w1) (Scalar.addi (Scalar.addi w0 w1) w2)
        X6 X7 X8 X10 X11 (Scf.trips (k0_t1_loop w0 w1 w2 w3).lb (k0_t1_loop w0 w1 w2 w3).ub (k0_t1_loop w0 w1 w2 w3).st) ++ rest)) (ix2 y n)
      = sorted a0.val a1.val a2.val p w x5 x6 x7 y n := by
  subst e0 e1 e2 e3
  have h2 := (trips_small a0 a1 a2 a3 hs).2
  rw [show Scf.trips (k0_t2_loop (wd a0) (wd a1) (wd a2) (wd a3)).lb (k0_t2_loop (wd a0) (wd a1) (wd a2) (wd a3)).ub
    (k0_t2_loop (wd a0) (wd a1) (wd a2) (wd a3)).st = 0 from h2]
  exact loop_apply c i arg1 harg1 arg2 harg2 arg3 harg3 arg4 harg4 arg5 harg5 arg6 harg6 arg7 harg7 arg8 harg8 arg9 harg9 arg10 harg10 arg11 harg11 arg12 harg12 a0 a1 a2 a3 hs hc X6 X7 X8 X10 X11 x5 x6 x7 p w h6 h7 h8 h10 h11 rest y n hy

end loop

end Cert.MoeTile
-- ==== Proof.MoeRows.lean ====
/-
  The routed experts' rows: the gather of a tile's rows, and of their gates, into the slots, and the way back.
-/
module

public import proofs.«01_k».proof.Proof.MoeTile

@[expose] public section

set_option maxRecDepth 16384

noncomputable section

namespace Cert.MoeTile

open Cert.MoeIdeal Cert.MoeIdeal.Gen Cert.MoeIdeal.Body Idealize.ShloMosaic Idealize.ShloMosaic.TcCoe Cert.Moe
open scoped Classical

/-- The slots' numbers. -/
abbrev slotRows : IVec S1024x1 32 := iota .tc S1024x1 32 [0] iota_S1024x1_d0_w32

theorem pay27_apply (v : FVec Ideal S512x1 .f32) (t : Fin 512) (s : Fin 1024) :
    k0_pay27 (F := Ideal) v (ix2 t s) = if v (ix2 t 0) = ((s.val : ℕ) : EReal) then 1 else 0 := by
  pointwise [k0_pay27]
  rw [sitofp_small _ (by omega)]

theorem pay26_apply (v : FVec Ideal S1x512 .f32) (s : Fin 1024) (t : Fin 512) :
    k0_pay26 (F := Ideal) v slotRows (ix2 s t) = if ((s.val : ℕ) : EReal) = v (ix2 0 t) then 1 else 0 := by
  pointwise [k0_pay26]
  rw [sitofp_small _ (by omega)]

theorem pay28_apply (x : FVec Ideal S512x1024 .bf16) (v : FVec Ideal S1x512 .f32) (w : IVec S1024x1 32) (s q : Fin 1024) :
    k0_pay28 (F := Ideal) x v w (ix2 s q) = ∑ t, k0_pay26 (F := Ideal) v w (ix2 s t) * x (ix2 t q) := by
  unfold k0_pay28
  generalize k0_pay26 (F := Ideal) v w = o
  pointwise []

theorem pay29_apply (x : FVec Ideal S512x128 .f32) (v : FVec Ideal S1x512 .f32) (w : IVec S1024x1 32) (s : Fin 1024) (l : Fin 128) :
    k0_pay29 (F := Ideal) x v w (ix2 s l) = (∑ t, k0_pay26 (F := Ideal) v w (ix2 s t) * x (ix2 t l))
      + ∑ t, k0_pay26 (F := Ideal) v w (ix2 s t) * (x (ix2 t l) - x (ix2 t l)) := by
  unfold k0_pay29
  generalize k0_pay26 (F := Ideal) v w = o
  pointwise []

theorem pay3_apply (x : FVec Ideal S512x1024 .f32) (o : FVec Ideal S512x1024 .bf16) (y : FVec Ideal S1024x1024 .bf16) (t : Fin 512)
    (n : Fin 1024) : k0_pay3 (F := Ideal) x o y (ix2 t n) = x (ix2 t n) + ∑ s, o (ix2 t s) * y (ix2 s n) := by
  pointwise [k0_pay3]

section tables

variable (g : FVec Ideal S512x128 .f32) {L : FVec Ideal S512x512 .bf16} {U : FVec Ideal S128x128 .bf16}

/-- Every row's slot, as the kernel computes it: as a column, and as a row. -/
abbrev slotCol (L : FVec Ideal S512x512 .bf16) (U : FVec Ideal S128x128 .bf16) : FVec Ideal S512x1 .f32 :=
  k0_pay24 (F := Ideal) (k0_pay19 g) (k0_pay20 g L) (k0_pay21 g L) k0_pay22 U

abbrev slotLine (L : FVec Ideal S512x512 .bf16) (U : FVec Ideal S128x128 .bf16) : FVec Ideal S1x512 .f32 :=
  k0_pay25 (F := Ideal) (k0_pay19 g) (k0_pay20 g L) (k0_pay21 g L) k0_pay22 U

/-- The slot of row `t`. -/
def slotFin {t : Fin 512} {l : Fin 128} (h : Hot (grp g) t l) : Fin 1024 :=
  ⟨slot (grp g) t l, lt_trans (slot_small _ h) (by decide)⟩

variable (hL : Below L) (hU : Above U) (hall : ∀ t, ∃ l, Hot (grp g) t l)
include hL hU

/-- The way back takes a row from its slot. -/
theorem back_apply {t : Fin 512} {l : Fin 128} (h : Hot (grp g) t l) (y : Fin 1024 → EReal) :
    ∑ s, k0_pay27 (F := Ideal) (slotCol g L U) (ix2 t s) * y s = y (slotFin g h) := by
  simp only [pay27_apply, slot_apply g hL hU h]
  rw [Finset.sum_eq_single (slotFin g h)]
  · rw [if_pos (show ((slot (grp g) t l : ℕ) : EReal) = (((slotFin g h).val : ℕ) : EReal) from rfl), one_mul]
  · intro s _ hs
    rw [if_neg fun e => hs (Fin.ext (by exact_mod_cast e.symm)), zero_mul]
  · intro h'; exact absurd (Finset.mem_univ _) h'

theorem line_apply {t : Fin 512} {l : Fin 128} (h : Hot (grp g) t l) : slotLine g L U (ix2 0 t) = ((slot (grp g) t l : ℕ) : EReal) :=
  (pay25_apply _ _ _ _ _ t).trans (slot_apply g hL hU h)

include hall

/-- The way in puts a row, and no other, into its slot. -/
theorem in_apply {t : Fin 512} {l : Fin 128} (h : Hot (grp g) t l) (x : Fin 512 → EReal) :
    ∑ u, k0_pay26 (F := Ideal) (slotLine g L U) slotRows (ix2 (slotFin g h) u) * x u = x t := by
  rw [Finset.sum_eq_single t]
  · rw [pay26_apply, line_apply g hL hU h,
      if_pos (show (((slotFin g h).val : ℕ) : EReal) = ((slot (grp g) t l : ℕ) : EReal) from rfl), one_mul]
  · intro u _ hu
    obtain ⟨l', h'⟩ := hall u
    rw [pay26_apply, line_apply g hL hU h']
    rw [if_neg fun e => hu (slot_inj _ h h' (by exact_mod_cast e)).symm, zero_mul]
  · intro h'; exact absurd (Finset.mem_univ _) h'

theorem rows_apply {t : Fin 512} {l : Fin 128} (h : Hot (grp g) t l) (x : FVec Ideal S512x1024 .bf16) (q : Fin 1024) :
    k0_pay28 (F := Ideal) x (slotLine g L U) slotRows (ix2 (slotFin g h) q) = x (ix2 t q) := by
  rw [pay28_apply]
  exact in_apply g hL hU hall h fun u => x (ix2 u q)

theorem gates_apply {t : Fin 512} {l : Fin 128} (h : Hot (grp g) t l) (j : Fin 128) (hf : g (ix2 t j) - g (ix2 t j) = 0) :
    k0_pay29 (F := Ideal) g (slotLine g L U) slotRows (ix2 (slotFin g h) j) = g (ix2 t j) := by
  rw [pay29_apply, in_apply g hL hU hall h fun u => g (ix2 u j), in_apply g hL hU hall h fun u => g (ix2 u j) - g (ix2 u j), hf, add_zero]

end tables

end Cert.MoeTile
-- ==== Proof.MoeRunValue.lean ====
/-
  What one grid point of the routed experts' kernel computes.
-/
module

public import proofs.«01_k».proof.Proof.MoeLoop
public import proofs.«01_k».proof.Proof.MoeRows

@[expose] public section

set_option maxRecDepth 16384

noncomputable section

namespace Cert.MoeTile

open Cert.MoeIdeal Cert.MoeIdeal.Gen Cert.MoeIdeal.Body Idealize.ShloMosaic Idealize.ShloMosaic.TcCoe Cert.Moe
open scoped Classical

variable (c : Dev nD) (i : grid0.Coords)
    (arg1 : Memref sig .tc .vmem S512x1024 .f32) (harg1 : arg1.IsWhole)
    (arg2 : Memref sig .tc .vmem S512x128 .f32) (harg2 : arg2.IsWhole)
    (arg3 : Memref sig .tc .vmem S1x1024 .f32) (harg3 : arg3.IsWhole)
    (arg4 : Memref sig .tc .vmem S512x512 .bf16) (harg4 : arg4.IsWhole)
    (arg5 : Memref sig .tc .vmem S128x128 .bf16) (harg5 : arg5.IsWhole)
    (arg6 : Memref sig .tc .vmem S16x1024x256 .bf16) (harg6 : arg6.IsWhole)
    (arg7 : Memref sig .tc .vmem S16x1024x256 .bf16) (harg7 : arg7.IsWhole)
    (arg8 : Memref sig .tc .vmem S16x256x1024 .bf16) (harg8 : arg8.IsWhole)
    (arg9 : Memref sig .tc .vmem S512x1024 .f32) (harg9 : arg9.IsWhole)
    (arg10 : Memref sig .tc .vmem S1024x1024 .bf16) (harg10 : arg10.IsWhole)
    (arg11 : Memref sig .tc .vmem S1024x128 .f32) (harg11 : arg11.IsWhole)
    (arg12 : Memref sig .tc .vmem S1024x1024 .bf16) (harg12 : arg12.IsWhole)
    (x0 : Vec Ideal S512x1024 .f32) (x1 : Vec Ideal S512x128 .f32) (x2 : Vec Ideal S1x1024 .f32) (x3 : Vec Ideal S512x512 .bf16)
    (x4 : Vec Ideal S128x128 .bf16) (x5 x6 : Vec Ideal S16x1024x256 .bf16) (x7 : Vec Ideal S16x256x1024 .bf16)
    (hw : Fits (F := Ideal) x1 x3) (hL : Below x3) (hU : Above x4)

/-- The chunks of a group, as a number below five. -/
def chunkFin (l : Fin 128) : Fin 5 := ⟨chunkCount (grp x1) l, Nat.lt_succ_of_le (chunks_le _)⟩

include hL

omit hw in
theorem word_of (l : Fin 128) (v : EReal) (hv : v = chunks (F := Ideal) x1 x3 (ix2 0 l)) :
    Scalar.fptosi (F := Ideal) (φ := .f32) 32 v = wd (chunkFin x1 l) := by
  rw [hv, chunkCount_apply x1 hL, word_small _ (by have := chunks_le (Moe.count (grp x1) l); unfold chunkCount; omega)]
  rfl

include hU

theorem scratch_apply {t : Fin 512} {l : Fin 128} (h : Hot (grp x1) t l) (n : Fin 1024) :
    run.sl.v142 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 hw (ix2 (slotFin x1 h) n)
      = sorted (chunkFin x1 0).val (chunkFin x1 1).val (chunkFin x1 2).val
          (k0_pay28 (k0_pay18 x0 x2) (slotLine x1 x3 x4) slotRows) (k0_pay29 x1 (slotLine x1 x3 x4) slotRows) x5 x6 x7 (slotFin x1 h) n := by
  have r0 : arg1.view.readAt (Elt Ideal) (Rect.unit (s := S512x1024) ![0, 0] S512x1024.size inb_S512x1024_S512x1024_0_0).toLoadRect (harg1.unread x0) = x0 :=
    read_whole _ _ _ _ (by decide)
  have r1 : arg2.view.readAt (Elt Ideal) (Rect.unit (s := S512x128) ![0, 0] S512x128.size inb_S512x128_S512x128_0_0).toLoadRect (harg2.unread x1) = x1 :=
    read_whole _ _ _ _ (by decide)
  have r2 : arg3.view.readAt (Elt Ideal) (Rect.unit (s := S1x1024) ![0, 0] S1x1024.size inb_S1x1024_S1x1024_0_0).toLoadRect (harg3.unread x2) = x2 :=
    read_whole _ _ _ _ (by decide)
  have r3 : arg4.view.readAt (Elt Ideal) (Rect.unit (s := S512x512) ![0, 0] S512x512.size inb_S512x512_S512x512_0_0).toLoadRect (harg4.unread x3) = x3 :=
    read_whole _ _ _ _ (by decide)
  have r4 : arg5.view.readAt (Elt Ideal) (Rect.unit (s := S128x128) ![0, 0] S128x128.size inb_S128x128_S128x128_0_0).toLoadRect (harg5.unread x4) = x4 :=
    read_whole _ _ _ _ (by decide)
  unfold run.sl.v142
  rw [View.readCov_eq_canon']
  refine (congrArg (View.canon _) (?_ : _ = ix2 (slotFin x1 h) n)).trans ?_
  · funext a
    refine Fin.ext ((Rect.idx_unit_val _ _ _ _ a).trans ?_)
    fin_cases a <;> simp [ix2]
  refine loop_words c i arg1 harg1 arg2 harg2 arg3 harg3 arg4 harg4 arg5 harg5 arg6 harg6 arg7 harg7 arg8 harg8 arg9 harg9 arg10 harg10 arg11 harg11 arg12 harg12 (chunkFin x1 0) (chunkFin x1 1) (chunkFin x1 2) (chunkFin x1 3) (chunks_total _)
    _ _ _ _ _ x5 x6 x7 _ _ (harg6.read_unread _) (harg7.read_unread _) (harg8.read_unread _) ?_ ?_ _ _ _ _ _ ?_ ?_ ?_ ?_ _ _ _ _ (slot_lt _ h)
  · unfold run.sl.HA_1
    rw [View.read_writes_junk_eq_canon, View.canon_cons_unit_lit _ _ _ (by decide)]
    dsimp +instances only [run.sl.r, run.sl.r_1, run.sl.r_2, run.sl.r_3, run.sl.r_4, run.sl.r_5, run.sl.r_6, run.sl.r_7, run.sl.r_8, run.sl.r_9]
    rw [r0, r1, r2, r3, r4]

    rfl
  · unfold run.sl.HB_1
    rw [View.read_writes_junk_eq_canon, View.canon_cons_unit_lit _ _ _ (by decide)]
    dsimp +instances only [run.sl.r, run.sl.r_1, run.sl.r_2, run.sl.r_3, run.sl.r_4, run.sl.r_5, run.sl.r_6, run.sl.r_7, run.sl.r_8, run.sl.r_9]
    rw [r1, r3, r4]

    rfl
  · unfold run.sl.v123
    dsimp +instances only [run.sl.r_1, run.sl.r_2, run.sl.r_3, run.sl.r_4, run.sl.r_5, run.sl.r_6, run.sl.r_7, run.sl.r_8, run.sl.r_9]
    rw [r1, r3]
    exact word_of x1 x3 hL 0 _ (pay31_apply _)
  · unfold run.sl.v126
    dsimp +instances only [run.sl.r_1, run.sl.r_2, run.sl.r_3, run.sl.r_4, run.sl.r_5, run.sl.r_6, run.sl.r_7, run.sl.r_8, run.sl.r_9]
    rw [r1, r3]
    exact word_of x1 x3 hL 1 _ (pay32_apply _)
  · dsimp +instances only [run.sl.r_1, run.sl.r_2, run.sl.r_3, run.sl.r_4, run.sl.r_5, run.sl.r_6, run.sl.r_7, run.sl.r_8, run.sl.r_9]
    rw [r1, r3]
    exact word_of x1 x3 hL 2 _ (pay1_apply _)
  · dsimp +instances only [run.sl.r_1, run.sl.r_2, run.sl.r_3, run.sl.r_4, run.sl.r_5, run.sl.r_6, run.sl.r_7, run.sl.r_8, run.sl.r_9]
    rw [r1, r3]
    exact word_of x1 x3 hL 3 _ (pay2_apply _)

theorem run_apply {t : Fin 512} {l : Fin 128} (h : Hot (grp x1) t l) (n : Fin 1024) :
    View.canon (run (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 hw).1 (ix2 t n)
      = x0 (ix2 t n) + sorted (chunkFin x1 0).val (chunkFin x1 1).val (chunkFin x1 2).val
          (k0_pay28 (k0_pay18 x0 x2) (slotLine x1 x3 x4) slotRows) (k0_pay29 x1 (slotLine x1 x3 x4) slotRows) x5 x6 x7 (slotFin x1 h) n := by
  unfold run
  dsimp only
  rw [View.canon_cons_unit_lit _ _ _ (by decide)]
  have r0 : arg1.view.readAt (Elt Ideal) (Rect.unit (s := S512x1024) ![0, 0] S512x1024.size inb_S512x1024_S512x1024_0_0).toLoadRect (harg1.unread x0) = x0 :=
    read_whole _ _ _ _ (by decide)
  have r1 : arg2.view.readAt (Elt Ideal) (Rect.unit (s := S512x128) ![0, 0] S512x128.size inb_S512x128_S512x128_0_0).toLoadRect (harg2.unread x1) = x1 :=
    read_whole _ _ _ _ (by decide)
  have r2 : arg3.view.readAt (Elt Ideal) (Rect.unit (s := S1x1024) ![0, 0] S1x1024.size inb_S1x1024_S1x1024_0_0).toLoadRect (harg3.unread x2) = x2 :=
    read_whole _ _ _ _ (by decide)
  have r3 : arg4.view.readAt (Elt Ideal) (Rect.unit (s := S512x512) ![0, 0] S512x512.size inb_S512x512_S512x512_0_0).toLoadRect (harg4.unread x3) = x3 :=
    read_whole _ _ _ _ (by decide)
  have r4 : arg5.view.readAt (Elt Ideal) (Rect.unit (s := S128x128) ![0, 0] S128x128.size inb_S128x128_S128x128_0_0).toLoadRect (harg5.unread x4) = x4 :=
    read_whole _ _ _ _ (by decide)
  have hx : run.sl.r (F := Ideal) c arg1 harg1 x0 = x0 := by
    unfold run.sl.r
    exact read_whole _ _ _ _ (by decide)
  have ho : run.sl.r_9 (F := Ideal) c arg2 harg2 arg4 harg4 arg5 harg5 x1 x3 x4 = k0_pay27 (slotCol x1 x3 x4) := by
    dsimp +instances only [run.sl.r_1, run.sl.r_2, run.sl.r_3, run.sl.r_4, run.sl.r_5, run.sl.r_6, run.sl.r_7, run.sl.r_8, run.sl.r_9]
    rw [r1, r3, r4]
  rw [hx, ho]
  have hy : run.sl.v142 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 hw (ix2 (slotFin x1 h) n)
      = sorted (chunkFin x1 0).val (chunkFin x1 1).val (chunkFin x1 2).val
          (k0_pay28 (k0_pay18 x0 x2) (slotLine x1 x3 x4) slotRows) (k0_pay29 x1 (slotLine x1 x3 x4) slotRows) x5 x6 x7 (slotFin x1 h) n :=
    scratch_apply c i arg1 harg1 arg2 harg2 arg3 harg3 arg4 harg4 arg5 harg5 arg6 harg6 arg7 harg7 arg8 harg8 arg9 harg9 arg10 harg10 arg11 harg11 arg12 harg12 x0 x1 x2 x3 x4 x5 x6 x7 hw hL hU h n
  rw [← hy]
  generalize run.sl.v142 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 hw = Y
  rw [pay3_apply, back_apply x1 hL hU h fun s => Y (ix2 s n)]

/-- A tile's row, from that row alone: it, and the four experts of its group. -/
theorem tile_apply (hall : ∀ t, ∃ l, Hot (grp x1) t l) (t : Fin 512) (γ : Fin 4) (h : Hot (grp x1) t ⟨γ.val, by omega⟩)
    (hf : ∀ r, x1 (ix2 t (laneOf γ r)) - x1 (ix2 t (laneOf γ r)) = 0) (n : Fin 1024) :
    View.canon (run (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 hw).1 (ix2 t n)
      = x0 (ix2 t n) + fourExperts (fun q => k0_pay18 (F := Ideal) x0 x2 (ix2 t q)) (fun r => x1 (ix2 t (laneOf γ r)))
          (fun r k f => x5 (ix3 (expertOf γ r) k f)) (fun r k f => x6 (ix3 (expertOf γ r) k f))
          (fun r f n => x7 (ix3 (expertOf γ r) f n)) n := by
  rw [run_apply c i arg1 harg1 arg2 harg2 arg3 harg3 arg4 harg4 arg5 harg5 arg6 harg6 arg7 harg7 arg8 harg8 arg9 harg9 arg10 harg10 arg11 harg11 arg12 harg12 x0 x1 x2 x3 x4 x5 x6 x7 hw hL hU h n]
  have hg : groupOf (chunkFin x1 0).val (chunkFin x1 1).val (chunkFin x1 2).val ((slotFin x1 h).val / 144) = γ :=
    Fin.ext (groupAt_slot (grp x1) h)
  unfold sorted
  rw [hg]
  simp only [rows_apply x1 hL hU hall h, gates_apply x1 hL hU hall h _ (hf _)]

end Cert.MoeTile
-- ==== Proof.MoeFrame.lean ====
/-
  The routed experts' launch: the arrays and the proof data, the body at every grid point, and the frame, where the chunks
  of every grid point fit.
-/
module

public import proofs.«01_k».proof.Proof.MoeRun
public import Idealize.ShloMosaic.Lib.Claim

@[expose] public section

set_option maxRecDepth 16384

noncomputable section

namespace Cert.MoeIdeal.Body

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x1024x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x1024x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S16x256x1024 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1024 .f32 := win0_8.stage (cfg0.slots t 8)
abbrev hs8 (t : Fin cfg0.N) : (ms8 t).IsWhole := hstage0_8 ((cfg0.slots t 8).cast nbuf0_8)
abbrev sc0 : Memref sig .tc .vmem S1024x1024 .bf16 := Memref.whole cc0_scratch0
abbrev sc1 : Memref sig .tc .vmem S1024x128 .f32 := Memref.whole cc0_scratch1
abbrev sc2 : Memref sig .tc .vmem S1024x1024 .bf16 := Memref.whole cc0_scratch2

theorem phi_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The chunks fit at every point of every core. -/
abbrev AllFit : Prop := ∀ (c : Dev nD) (t : Fin cfg0.N), Fits (F := F) (iblk m c 1 t) (iblk m c 3 t)

variable (hfit : AllFit m)

/-- The run at point `t`. -/
abbrev runAt (c : Dev nD) (t : Fin cfg0.N) := run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _)
  (iblk m c 0 t) (iblk m c 1 t) (iblk m c 2 t) (iblk m c 3 t) (iblk m c 4 t) (iblk m c 5 t) (iblk m c 6 t) (iblk m c 7 t) (hfit c t)

/-- What point `t` leaves in the output's buffer. -/
def outsAt (c : Dev nD) (t : Fin cfg0.N) : Vec F S512x1024 .f32 := View.canon (runAt m hfit c t).1

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outsAt m hfit c t
  Φ _ := Pipeline.ΦA spec0 c
  q _ := fullShare
  owed _ := 0

theorem A_eq (c : Dev nD) (w : Fin cfg0.W) : (dats m hfit 0 c).A w = V m c (Pipeline.arrRef spec0 w) := by
  dsimp only [dats]

theorem after0 (c : Dev nD) (t : Fin cfg0.N) : (dats m hfit 0 c).after 0 t = iblk m c 0 t := by dsimp only [dats]
theorem after1 (c : Dev nD) (t : Fin cfg0.N) : (dats m hfit 0 c).after 1 t = iblk m c 1 t := by dsimp only [dats]
theorem after2 (c : Dev nD) (t : Fin cfg0.N) : (dats m hfit 0 c).after 2 t = iblk m c 2 t := by dsimp only [dats]
theorem after3 (c : Dev nD) (t : Fin cfg0.N) : (dats m hfit 0 c).after 3 t = iblk m c 3 t := by dsimp only [dats]
theorem after4 (c : Dev nD) (t : Fin cfg0.N) : (dats m hfit 0 c).after 4 t = iblk m c 4 t := by dsimp only [dats]
theorem after5 (c : Dev nD) (t : Fin cfg0.N) : (dats m hfit 0 c).after 5 t = iblk m c 5 t := by dsimp only [dats]
theorem after6 (c : Dev nD) (t : Fin cfg0.N) : (dats m hfit 0 c).after 6 t = iblk m c 6 t := by dsimp only [dats]
theorem after7 (c : Dev nD) (t : Fin cfg0.N) : (dats m hfit 0 c).after 7 t = iblk m c 7 t := by dsimp only [dats]
theorem after8 (c : Dev nD) (t : Fin cfg0.N) : (dats m hfit 0 c).after 8 t = outsAt m hfit c t := by dsimp only [dats]

theorem before0 (c : Dev nD) (t : Fin cfg0.N) (d) : (dats m hfit 0 c).before 0 t d = iblk m c 0 t :=
  before0_0_of m (dats m hfit 0 c) (A_eq m hfit c 0) (after0 m hfit c) t d
theorem before1 (c : Dev nD) (t : Fin cfg0.N) (d) : (dats m hfit 0 c).before 1 t d = iblk m c 1 t :=
  before0_1_of m (dats m hfit 0 c) (A_eq m hfit c 1) (after1 m hfit c) t d
theorem before2 (c : Dev nD) (t : Fin cfg0.N) (d) : (dats m hfit 0 c).before 2 t d = iblk m c 2 t :=
  before0_2_of m (dats m hfit 0 c) (A_eq m hfit c 2) (after2 m hfit c) t d
theorem before3 (c : Dev nD) (t : Fin cfg0.N) (d) : (dats m hfit 0 c).before 3 t d = iblk m c 3 t :=
  before0_3_of m (dats m hfit 0 c) (A_eq m hfit c 3) (after3 m hfit c) t d
theorem before4 (c : Dev nD) (t : Fin cfg0.N) (d) : (dats m hfit 0 c).before 4 t d = iblk m c 4 t :=
  before0_4_of m (dats m hfit 0 c) (A_eq m hfit c 4) (after4 m hfit c) t d
theorem before5 (c : Dev nD) (t : Fin cfg0.N) (d) : (dats m hfit 0 c).before 5 t d = iblk m c 5 t :=
  before0_5_of m (dats m hfit 0 c) (A_eq m hfit c 5) (after5 m hfit c) t d
theorem before6 (c : Dev nD) (t : Fin cfg0.N) (d) : (dats m hfit 0 c).before 6 t d = iblk m c 6 t :=
  before0_6_of m (dats m hfit 0 c) (A_eq m hfit c 6) (after6 m hfit c) t d
theorem before7 (c : Dev nD) (t : Fin cfg0.N) (d) : (dats m hfit 0 c).before 7 t d = iblk m c 7 t :=
  before0_7_of m (dats m hfit 0 c) (A_eq m hfit c 7) (after7 m hfit c) t d

/-- The output's one store is of the whole block. -/
theorem covered (c : Dev nD) (t : Fin cfg0.N) (y : S512x1024.Idx) : ∃ pc ∈ (runAt m hfit c t).1, y ∈ pc.1.set :=
  View.cover_of_tiledL (runAt m hfit c t).1 S512x1024.size (by sl_kernel_rfl) y

/-- The body's resources at point `t`: before it, -/
def bodyPre (c : Dev nD) (t : Fin cfg0.N) : sProp 𝕄 :=
  iprop((dats m hfit 0 c).Φ t.castSucc ∗ (dats m hfit 0 c).owesAt () t.castSucc
    ∗ (∃ d, owns (c : Thread nD τ) (ms0 t) fullShare ((dats m hfit 0 c).before 0 t d))
    ∗ (∃ d, owns (c : Thread nD τ) (ms1 t) fullShare ((dats m hfit 0 c).before 1 t d))
    ∗ (∃ d, owns (c : Thread nD τ) (ms2 t) fullShare ((dats m hfit 0 c).before 2 t d))
    ∗ (∃ d, owns (c : Thread nD τ) (ms3 t) fullShare ((dats m hfit 0 c).before 3 t d))
    ∗ (∃ d, owns (c : Thread nD τ) (ms4 t) fullShare ((dats m hfit 0 c).before 4 t d))
    ∗ (∃ d, owns (c : Thread nD τ) (ms5 t) fullShare ((dats m hfit 0 c).before 5 t d))
    ∗ (∃ d, owns (c : Thread nD τ) (ms6 t) fullShare ((dats m hfit 0 c).before 6 t d))
    ∗ (∃ d, owns (c : Thread nD τ) (ms7 t) fullShare ((dats m hfit 0 c).before 7 t d))
    ∗ (∃ d, owns (c : Thread nD τ) (ms8 t) fullShare ((dats m hfit 0 c).before 8 t d)))

/-- and after it. -/
def bodyPost (c : Dev nD) (t : Fin cfg0.N) : sProp 𝕄 :=
  iprop((dats m hfit 0 c).Φ t.succ ∗ (dats m hfit 0 c).owesAt () t.succ
    ∗ owns (c : Thread nD τ) (ms0 t) fullShare ((dats m hfit 0 c).after 0 t)
    ∗ owns (c : Thread nD τ) (ms1 t) fullShare ((dats m hfit 0 c).after 1 t)
    ∗ owns (c : Thread nD τ) (ms2 t) fullShare ((dats m hfit 0 c).after 2 t)
    ∗ owns (c : Thread nD τ) (ms3 t) fullShare ((dats m hfit 0 c).after 3 t)
    ∗ owns (c : Thread nD τ) (ms4 t) fullShare ((dats m hfit 0 c).after 4 t)
    ∗ owns (c : Thread nD τ) (ms5 t) fullShare ((dats m hfit 0 c).after 5 t)
    ∗ owns (c : Thread nD τ) (ms6 t) fullShare ((dats m hfit 0 c).after 6 t)
    ∗ owns (c : Thread nD τ) (ms7 t) fullShare ((dats m hfit 0 c).after 7 t)
    ∗ owns (c : Thread nD τ) (ms8 t) fullShare ((dats m hfit 0 c).after 8 t))

set_option maxHeartbeats 1600000 in
theorem sound_body (c : Dev nD) (t : Fin cfg0.N) :
    bodyPre m hfit c t ⊢ wp frame (wpE (defs₀ (F := F)) Variants.none c none) Set.univ (bodyAt0 t) (fun _ => bodyPost m hfit c t) := by
  unfold bodyPre bodyPost bodyAt0
  simp only [before0, before1, before2, before3, before4, before5, before6, before7]
  rw [show (dats m hfit 0 c).Φ t.succ = (dats m hfit 0 c).Φ t.castSucc from rfl,
    show (dats m hfit 0 c).owesAt () t.succ = (dats m hfit 0 c).owesAt () t.castSucc from rfl,
    after0, after1, after2, after3, after4, after5, after6, after7, after8]
  rw [show (dats m hfit 0 c).Φ t.castSucc = Pipeline.ΦA spec0 c from rfl, phi_eq]
  unfold outsAt
  iintro ⟨⟨⟨HA, HB, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runAt m hfit c t).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HA]; · iexact HA
  isplitl [HB]; · iexact HB
  isplitl [HC]; · iexact HC
  iintro ⟨H0, H1, H2, H3, H4, H5, H6, H7, ⟨%e8, H8⟩, ⟨%fa, HA⟩, ⟨%fb, HB⟩, ⟨%fc, HC⟩⟩
  isplitl [HA HB HC Hg]
  · isplitl [HA HB HC]
    · isplitl [HA]
      · iexists _; unfold owns; iexists _; isplitr
        swap; · iexact HA
        ipureintro; rfl
      isplitl [HB]
      · iexists _; unfold owns; iexists _; isplitr
        swap; · iexact HB
        ipureintro; rfl
      iexists _; unfold owns; iexists _; isplitr
      swap; · iexact HC
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro
  rw [← View.read_writes_junk_eq_canon (ms8 t).view]
  exact View.read_writes_of_cover _ _ _ _ _ (covered m hfit c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hfit 0 c) (defs₀ (F := F)) Variants.none () Set.univ := fun t => by
  rw [bigSep_W0, bigSep_W0, defs₀_row]
  exact triple_restated (sound_body m hfit c t) rfl .rfl fun _ => .rfl

set_option backward.isDefEq.respectTransparency.types false in
theorem launched : θ_run defs (onTc (τ := τ) (main (F := F))) (s₀ m ρ)
    (fun r => (Pipeline.FramePost cfgs (dats m hfit) 0 (V m)) r ∧ r.2.sem = fun _ => 0) :=
  Pipeline.θ_run_frame (Q' := _) cfgs (dats m hfit) (0 : Fin 1) launch0 defs₀ Variants.none m ρ main
    (hbody := fun c => (body_obligation m hfit c).loose) (hshare := fun c => (dats m hfit 0 c).share_full fun _ => rfl)
    (howed := fun _ _ => rfl) (V := V m) (hmain := hmain m Variants.none) (hA := A_eq m hfit) (hΦ := fun _ _ => rfl)

theorem posted : θ_run defs (onTc (τ := τ) (main (F := F))) (s₀ m ρ) (Pipeline.FramePost cfgs (dats m hfit) 0 (V m)) :=
  (θ_run defs _ _).mono (fun _ h => h.1) (launched m ρ hfit)

include hfit in
/-- Every run ends, leaving the arguments as they were and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m hfit) (A_eq m hfit) (posted m ρ hfit))
    ((θ_run defs _ _).mono (fun _ h => h.2) (launched m ρ hfit))

end Cert.MoeIdeal.Body

end
-- ==== Proof.MoeCounts.lean ====
/-
  The blocks that the routed experts' launch reads, the tables that the host hands it, and the chunks of every point fitting.
-/
module

public import proofs.«01_k».proof.Proof.MoeFrame
public import proofs.«01_k».proof.Proof.MoeTile

@[expose] public section

set_option maxRecDepth 16384

noncomputable section

namespace Cert.MoeIdeal.Body

open Cert.MoeIdeal Cert.MoeIdeal.Gen Idealize.ShloMosaic Idealize.ShloMosaic.TcCoe Idealize.ShloMosaic.Tactic Cert.MoeTile
open Idealize.ShloMosaic.Pipeline (Dat)

variable (m : (ℓ : Loc nD τ sig) → Buf (Elt Ideal) ℓ)

/-- The rows `512 t + r`. -/
def rowAt (t : Fin 64) (r : Fin 512) : Fin 32768 := ⟨512 * t.val + r.val, by omega⟩

theorem index_facts : ∀ t : Fin cfg0.N, win0_0.index t = ![(grid0.coords t 0).val, 0]
    ∧ win0_1.index t = ![(grid0.coords t 0).val, 0]
    ∧ win0_2.index t = ![0, 0]
    ∧ win0_3.index t = ![0, 0]
    ∧ win0_4.index t = ![0, 0]
    ∧ win0_5.index t = ![0, 0, 0]
    ∧ win0_6.index t = ![0, 0, 0]
    ∧ win0_7.index t = ![0, 0, 0]
    ∧ win0_8.index t = ![(grid0.coords t 0).val, 0] :=
  (by decide +kernel : ∀ t : Fin grid0.N, _)

theorem cmpi_slt_words (a b : ℕ) (ha : a < 2 ^ 31) (hb : b < 2 ^ 31) :
    IntOp.cmpi .slt (BitVec.ofNat 32 a) (BitVec.ofNat 32 b) = if a < b then 1#1 else 0#1 := by
  rw [WordCmp.cmpi_slt_ofNat (by simpa using ha) (by simpa using hb)]
  by_cases h : a < b <;> simp [h]

theorem below_v7 (c : Dev nD) : Below (V m c main_v7) := by
  intro t u
  dsimp only [V]
  after_results
  pointwise []
  rw [cmpi_slt_words _ _ (by omega) (by omega)]
  split_ifs <;> simp [FloatOps.uitofp]

theorem above_v15 (c : Dev nD) : Above (V m c main_v15) := by
  intro t u
  dsimp only [V]
  after_results
  pointwise []
  rw [cmpi_slt_words _ _ (by omega) (by omega)]
  split_ifs <;> simp [FloatOps.uitofp]

variable (c : Dev nD) (t : Fin cfg0.N)

theorem iblk0 (r : Fin 512) (k : Fin 1024) : iblk m c 0 t (ix2 (n0 := 512) (n1 := 1024) r k)
    = m ((c : Thread nD τ).loc main_arg0) (ix2 (n0 := 32768) (n1 := 1024) (rowAt (grid0.coords t 0) r) k) := by
  obtain ⟨e0, e1, e2, e3, e4, e5, e6, e7, e8⟩ := index_facts t
  unfold iblk
  rw [show V m c (Pipeline.arrRef spec0 0) = m ((c : Thread nD τ).loc main_arg0) from V_main_arg0 m c]
  blk_ext [e0, rowAt]

theorem iblk1 (r : Fin 512) (l : Fin 128) : iblk m c 1 t (ix2 (n0 := 512) (n1 := 128) r l)
    = m ((c : Thread nD τ).loc main_arg1) (ix2 (n0 := 32768) (n1 := 128) (rowAt (grid0.coords t 0) r) l) := by
  obtain ⟨e0, e1, e2, e3, e4, e5, e6, e7, e8⟩ := index_facts t
  unfold iblk
  rw [show V m c (Pipeline.arrRef spec0 1) = m ((c : Thread nD τ).loc main_arg1) from V_main_arg1 m c]
  blk_ext [e1, rowAt]

theorem iblk2 (k : Fin 1024) : iblk m c 2 t (ix2 (n0 := 1) (n1 := 1024) 0 k)
    = m ((c : Thread nD τ).loc main_arg2) (ix2 (n0 := 1) (n1 := 1024) 0 k) := by
  obtain ⟨e0, e1, e2, e3, e4, e5, e6, e7, e8⟩ := index_facts t
  unfold iblk
  rw [show V m c (Pipeline.arrRef spec0 2) = m ((c : Thread nD τ).loc main_arg2) from V_main_arg2 m c]
  blk_ext [e2, rowAt]

theorem iblk3 (r k : Fin 512) : iblk m c 3 t (ix2 (n0 := 512) (n1 := 512) r k)
    = V m c main_v7 (ix2 (n0 := 512) (n1 := 512) r k) := by
  obtain ⟨e0, e1, e2, e3, e4, e5, e6, e7, e8⟩ := index_facts t
  unfold iblk
  rw [show V m c (Pipeline.arrRef spec0 3) = V m c main_v7 from rfl]
  generalize V m c main_v7 = W
  blk_ext [e3, rowAt]

theorem iblk4 (r k : Fin 128) : iblk m c 4 t (ix2 (n0 := 128) (n1 := 128) r k)
    = V m c main_v15 (ix2 (n0 := 128) (n1 := 128) r k) := by
  obtain ⟨e0, e1, e2, e3, e4, e5, e6, e7, e8⟩ := index_facts t
  unfold iblk
  rw [show V m c (Pipeline.arrRef spec0 4) = V m c main_v15 from rfl]
  generalize V m c main_v15 = W
  blk_ext [e4, rowAt]

theorem iblk5 (e : Fin 16) (k : Fin 1024) (f : Fin 256) : iblk m c 5 t (ix3 (n0 := 16) (n1 := 1024) (n2 := 256) e k f)
    = m ((c : Thread nD τ).loc main_arg3) (ix3 (n0 := 16) (n1 := 1024) (n2 := 256) e k f) := by
  obtain ⟨e0, e1, e2, e3, e4, e5, e6, e7, e8⟩ := index_facts t
  unfold iblk
  rw [show V m c (Pipeline.arrRef spec0 5) = m ((c : Thread nD τ).loc main_arg3) from V_main_arg3 m c]
  blk_ext [e5, rowAt]

theorem iblk6 (e : Fin 16) (k : Fin 1024) (f : Fin 256) : iblk m c 6 t (ix3 (n0 := 16) (n1 := 1024) (n2 := 256) e k f)
    = m ((c : Thread nD τ).loc main_arg4) (ix3 (n0 := 16) (n1 := 1024) (n2 := 256) e k f) := by
  obtain ⟨e0, e1, e2, e3, e4, e5, e6, e7, e8⟩ := index_facts t
  unfold iblk
  rw [show V m c (Pipeline.arrRef spec0 6) = m ((c : Thread nD τ).loc main_arg4) from V_main_arg4 m c]
  blk_ext [e6, rowAt]

theorem iblk7 (e : Fin 16) (f : Fin 256) (k : Fin 1024) : iblk m c 7 t (ix3 (n0 := 16) (n1 := 256) (n2 := 1024) e f k)
    = m ((c : Thread nD τ).loc main_arg5) (ix3 (n0 := 16) (n1 := 256) (n2 := 1024) e f k) := by
  obtain ⟨e0, e1, e2, e3, e4, e5, e6, e7, e8⟩ := index_facts t
  unfold iblk
  rw [show V m c (Pipeline.arrRef spec0 7) = m ((c : Thread nD τ).loc main_arg5) from V_main_arg5 m c]
  blk_ext [e7, rowAt]

theorem below3 : Below (iblk m c 3 t) := fun r k => (iblk3 m c t r k).trans (below_v7 m c r k)

theorem above4 : Above (iblk m c 4 t) := fun r k => (iblk4 m c t r k).trans (above_v15 m c r k)

/-- At every point, whatever the gates hold, the chunks lie within the slots. -/
theorem allFit : AllFit m := fun c t => fits _ (below3 m c t)

end Cert.MoeIdeal.Body
-- ==== Proof.MoeArray.lean ====
/-
  The array that the routed experts' launch leaves, and its run.
-/
module

public import proofs.«01_k».proof.Proof.MoeRunValue
public import proofs.«01_k».proof.Proof.MoeCounts
public import proofs.«01_k».proof.Proof.MergeTile

@[expose] public section

set_option maxRecDepth 16384

noncomputable section

namespace Cert.MoeTile

open Cert.MoeIdeal Cert.MoeIdeal.Gen Cert.MoeIdeal.Body Idealize.ShloMosaic Idealize.ShloMosaic.TcCoe Idealize.ShloMosaic.Tactic Cert.Moe
open Idealize.SL.Sem
open Idealize.ShloMosaic.Pipeline (Dat)

theorem pay18_apply (x : FVec Ideal S512x1024 .f32) (g : FVec Ideal S1x1024 .f32) (r : Fin 512) (k : Fin 1024) :
    k0_pay18 (F := Ideal) x g (ix2 r k) = Merge.normed (fun c => x (ix2 r c)) (fun c => g (ix2 0 c)) k := by
  pointwise [k0_pay18, Merge.normed]

variable (m : (ℓ : Loc nD τ sig) → Buf (Elt Ideal) ℓ) (ρ : Dev nD → PrngReg)

/-- One row: it, and the four experts of group `γ`, each times its gate. -/
def routedRow (X G : Fin 1024 → EReal) (W : Fin 128 → EReal) (A B : Fin 16 → Fin 1024 → Fin 256 → EReal)
    (D : Fin 16 → Fin 256 → Fin 1024 → EReal) (γ : Fin 4) (n : Fin 1024) : EReal :=
  X n + fourExperts (Merge.normed X G) (fun r => W (laneOf γ r)) (fun r => A (expertOf γ r)) (fun r => B (expertOf γ r))
    (fun r => D (expertOf γ r)) n

/-- A gate of the launch. -/
def gateOf (c : Dev nD) (t : Fin 32768) (l : Fin 128) : EReal :=
  m ((c : Thread nD τ).loc main_arg1) (ix2 (n0 := 32768) (n1 := 128) t l)

theorem emb8 (t : Fin cfg0.N) (r : Fin 512) (n : Fin 1024) : ((cfg0.win 8).blk t).view.emb (ix2 (n0 := 512) (n1 := 1024) r n)
    = ix2 (n0 := 32768) (n1 := 1024) (rowAt (grid0.coords t 0) r) n := by
  obtain ⟨e0, e1, e2, e3, e4, e5, e6, e7, e8⟩ := index_facts t
  blk_ext [e8, rowAt]

theorem out_apply (c : Dev nD) (t : Fin cfg0.N) (γ : Fin 32768 → Fin 4)
    (hγ : ∀ t, (((γ t).val : ℕ) : EReal) = gateOf m c t 16)
    (hf : ∀ t r, gateOf m c t (laneOf (γ t) r) - gateOf m c t (laneOf (γ t) r) = 0)
    (r : Fin 512) (n : Fin 1024) :
    outsAt m (allFit m) c t (ix2 (n0 := 512) (n1 := 1024) r n)
      = (show EReal from iblk m c 0 t (ix2 (n0 := 512) (n1 := 1024) r n)) + fourExperts
          (fun q => k0_pay18 (F := Ideal) (iblk m c 0 t) (iblk m c 2 t) (ix2 r q))
          (fun j => iblk m c 1 t (ix2 (n0 := 512) (n1 := 128) r (laneOf (γ (rowAt (grid0.coords t 0) r)) j)))
          (fun j k f => iblk m c 5 t (ix3 (n0 := 16) (n1 := 1024) (n2 := 256) (expertOf (γ (rowAt (grid0.coords t 0) r)) j) k f))
          (fun j k f => iblk m c 6 t (ix3 (n0 := 16) (n1 := 1024) (n2 := 256) (expertOf (γ (rowAt (grid0.coords t 0) r)) j) k f))
          (fun j f n => iblk m c 7 t (ix3 (n0 := 16) (n1 := 256) (n2 := 1024) (expertOf (γ (rowAt (grid0.coords t 0) r)) j) f n)) n := by
  have hot : ∀ u : Fin 512, Hot (grp (iblk m c 1 t)) u ⟨(γ (rowAt (grid0.coords t 0) u)).val, by omega⟩ := fun u =>
    ⟨(hγ _).trans (iblk1 m c t u 16).symm, (γ (rowAt (grid0.coords t 0) u)).isLt⟩
  have hz : ∀ j, gateOf m c (rowAt (grid0.coords t 0) r) (laneOf (γ (rowAt (grid0.coords t 0) r)) j)
      = iblk m c 1 t (ix2 (n0 := 512) (n1 := 128) r (laneOf (γ (rowAt (grid0.coords t 0) r)) j)) := fun j => (iblk1 m c t _ _).symm
  have hq : ∀ a b : EReal, a = b → a - a = 0 → b - b = 0 := fun a b e h => e ▸ h
  unfold outsAt
  exact tile_apply c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) sc0 (Memref.isWhole_whole _) sc1 (Memref.isWhole_whole _) sc2 (Memref.isWhole_whole _)
    (iblk m c 0 t) (iblk m c 1 t) (iblk m c 2 t) (iblk m c 3 t) (iblk m c 4 t) (iblk m c 5 t) (iblk m c 6 t) (iblk m c 7 t)
    (allFit m c t) (below3 m c t) (above4 m c t) (fun u => ⟨_, hot u⟩) r (γ (rowAt (grid0.coords t 0) r)) (hot r) (fun j => hq _ _ (hz j) (hf _ j)) n

theorem array_eq (c : Dev nD) (γ : Fin 32768 → Fin 4)
    (hγ : ∀ t, (((γ t).val : ℕ) : EReal) = gateOf m c t 16)
    (hf : ∀ t r, gateOf m c t (laneOf (γ t) r) - gateOf m c t (laneOf (γ t) r) = 0) :
    (dats m (allFit m) 0 c).arrAt 8 cfg0.N
      = fun i : S32768x1024.Idx => routedRow (fun k => m ((c : Thread nD τ).loc main_arg0) (ix2 (i 0) k))
          (fun k => m ((c : Thread nD τ).loc main_arg2) (ix2 (0 : Fin 1) k)) (fun l => m ((c : Thread nD τ).loc main_arg1) (ix2 (i 0) l))
          (fun e k f => m ((c : Thread nD τ).loc main_arg3) (ix3 e k f)) (fun e k f => m ((c : Thread nD τ).loc main_arg4) (ix3 e k f))
          (fun e f n => m ((c : Thread nD τ).loc main_arg5) (ix3 e f n)) (γ (i 0)) (i 1) := by
  refine (dats m (allFit m) 0 c).arrAt_eq_of_covers 8 _ (by decide +kernel) fun t _ y => ?_
  obtain ⟨r, n, rfl⟩ : ∃ r n, y = ix2 (n0 := 512) (n1 := 1024) r n := ⟨y 0, y 1, eq_ix2 y⟩
  have h8 := emb8 t r n
  blk_simp
  rw [after8]
  rw [show (win0_8.blk t).view.emb _ = _ from h8]
  refine (out_apply m c t γ hγ hf r n).trans ?_
  show _ = routedRow _ _ _ _ _ _ (γ (rowAt (grid0.coords t 0) r)) n
  unfold routedRow
  refine congrArg₂ (· + ·) (iblk0 m c t r n) ?_
  have e0 : (fun q => k0_pay18 (F := Ideal) (iblk m c 0 t) (iblk m c 2 t) (ix2 r q))
      = Merge.normed (fun k => m ((c : Thread nD τ).loc main_arg0) (ix2 (n0 := 32768) (n1 := 1024) (rowAt (grid0.coords t 0) r) k))
          (fun k => m ((c : Thread nD τ).loc main_arg2) (ix2 (n0 := 1) (n1 := 1024) 0 k)) := by
    funext q
    refine (pay18_apply ..).trans ?_
    exact congrArg₂ (fun X G => Merge.normed X G q) (funext fun k => iblk0 m c t r k) (funext fun k => iblk2 m c t k)
  have e1 : (fun j => iblk m c 1 t (ix2 (n0 := 512) (n1 := 128) r (laneOf (γ (rowAt (grid0.coords t 0) r)) j))) = _ :=
    funext fun j => iblk1 m c t r _
  have e5 : (fun (j : Fin 4) (k : Fin 1024) (f : Fin 256) => iblk m c 5 t
      (ix3 (n0 := 16) (n1 := 1024) (n2 := 256) (expertOf (γ (rowAt (grid0.coords t 0) r)) j) k f)) = _ :=
    funext fun j => funext fun k => funext fun f => iblk5 m c t _ k f
  have e6 : (fun (j : Fin 4) (k : Fin 1024) (f : Fin 256) => iblk m c 6 t
      (ix3 (n0 := 16) (n1 := 1024) (n2 := 256) (expertOf (γ (rowAt (grid0.coords t 0) r)) j) k f)) = _ :=
    funext fun j => funext fun k => funext fun f => iblk6 m c t _ k f
  have e7 : (fun (j : Fin 4) (f : Fin 256) (n : Fin 1024) => iblk m c 7 t
      (ix3 (n0 := 16) (n1 := 256) (n2 := 1024) (expertOf (γ (rowAt (grid0.coords t 0) r)) j) f n)) = _ :=
    funext fun j => funext fun f => funext fun n => iblk7 m c t _ f n
  rw [e0, e1, e5, e6, e7]
  rfl

theorem run_blocks : θ_run defs (onTc (τ := τ) (main (F := Ideal))) ⟨m, fun _ => 0, ρ⟩ fun r => ∀ c : Dev nD,
      r.2.mem ((c.tc : Thread nD τ).loc main_v16) = (dats m (allFit m) 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h.1 c).1 8, h.2.1 c⟩) (θ_run_and (posted m ρ (allFit m)) (frame m ρ (allFit m)))

end Cert.MoeTile
-- ==== Proof.MoeRef.lean ====
/-
  The reference of the routed experts, stage by stage, over the extended reals: the normed rows, every expert's hidden lanes,
  the way back, and the gated sum over the experts.
-/
module

public import proofs.«01_k».proof.Proof.MergeTile
public import proofs.«01_k».proof.Proof.MoeChunk
public import proofs.«01_k».proof.Proof.Gen.MoeRefIdeal.Run

@[expose] public section

noncomputable section

namespace Cert.MoeRef

open Cert.MoeRefIdeal Cert.MoeRefIdeal.Gen Idealize.ShloMosaic Idealize.ShloMosaic.TcCoe Cert.Moe Cert.Merge

def rows (x : FVec Ideal S32768x1024 .f32) (g : FVec Ideal S1x1024 .f32) : FVec Ideal S32768x1024 .f32 :=
  mulf (mulf x (broadcastInDim S32768x1024 ![0, 1] bcast_S32768x1_S32768x1024_0_1 (Host.rsqrt (addf (Host.divf
    (broadcastInDim S32768x1 ![0] bcast_S32768_S32768x1_0 (Host.reduceAdd (mulf x x) (constant S_ .f32 0x00000000#32) reducesTo_S32768x1024_S32768_d1 h_S_))
    (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 g)

def into (w : FVec Ideal S16x1024x256 .bf16) (n : FVec Ideal S32768x1024 .f32) : FVec Ideal S16x32768x256 .f32 :=
  transpose S16x32768x256 [0, 2, 1] (Host.dotGeneral dot_S16x1024x256_S32768x1024_S16x256x32768_1_1_02_0_n_n none
    (extf .f32 w bitsLt_bf16_f32) n) transposes_S16x256x32768_S16x32768x256_0_2_1

def lanes (a b : FVec Ideal S16x32768x256 .f32) : FVec Ideal S16x32768x256 .f32 :=
  mulf (mulf a (Host.divf (broadcastInDim S16x32768x256 ![] bcast_S_S16x32768x256 (constant S_ .f32 0x3F800000#32))
    (addf (broadcastInDim S16x32768x256 ![] bcast_S_S16x32768x256 (constant S_ .f32 0x3F800000#32)) (Host.exp (Host.negf a))))) b

def back (h : FVec Ideal S16x32768x256 .f32) (w : FVec Ideal S16x256x1024 .bf16) : FVec Ideal S16x32768x1024 .f32 :=
  Host.dotGeneral dot_S16x32768x256_S16x256x1024_S16x32768x1024_2_1_1_2_0_0 none h (extf .f32 w bitsLt_bf16_f32)

def gated (g : FVec Ideal S32768x128 .f32) (y : FVec Ideal S16x32768x1024 .f32) : FVec Ideal S32768x1024 .f32 :=
  Host.reduceAdd (mulf (broadcastInDim S16x32768x1024 ![0, 1, 2] bcast_S16x32768x1_S16x32768x1024_0_1_2
    (broadcastInDim S16x32768x1 ![0, 1] bcast_S16x32768_S16x32768x1_0_1 (transpose S16x32768 [1, 0]
      (extractStridedSlice S32768x16 ![0, 0] g slices_S32768x128_S32768x16_0_0) transposes_S32768x16_S16x32768_1_0))) y)
    (constant S_ .f32 0x00000000#32) reducesTo_S16x32768x1024_S32768x1024_d0 h_S_

/-- The whole reference. -/
def result (x : FVec Ideal S32768x1024 .f32) (w : FVec Ideal S32768x128 .f32) (g : FVec Ideal S1x1024 .f32)
    (a b : FVec Ideal S16x1024x256 .bf16) (d : FVec Ideal S16x256x1024 .bf16) : FVec Ideal S32768x1024 .f32 :=
  addf x (gated w (back (lanes (into a (rows x g)) (into b (rows x g))) d))

theorem rows_apply (x : FVec Ideal S32768x1024 .f32) (g : FVec Ideal S1x1024 .f32) (r : Fin 32768) (k : Fin 1024) :
    rows x g (ix2 r k) = normed (fun c => x (ix2 r c)) (fun c => g (ix2 0 c)) k := by
  pointwise [rows, normed]

theorem into_apply (w : FVec Ideal S16x1024x256 .bf16) (n : FVec Ideal S32768x1024 .f32) (e : Fin 16) (t : Fin 32768) (f : Fin 256) :
    into w n (ix3 e t f) = ∑ k, n (ix2 t k) * w (ix3 e k f) := by
  pointwise [into]
  exact Finset.sum_congr rfl fun k _ => mul_comm _ _

theorem lanes_apply (a b : FVec Ideal S16x32768x256 .f32) (e : Fin 16) (t : Fin 32768) (f : Fin 256) :
    lanes a b (ix3 e t f) = a (ix3 e t f) * Ideal.logistic (a (ix3 e t f)) * b (ix3 e t f) := by
  pointwise [lanes]
  rfl

theorem back_apply (h : FVec Ideal S16x32768x256 .f32) (w : FVec Ideal S16x256x1024 .bf16) (e : Fin 16) (t : Fin 32768) (n : Fin 1024) :
    back h w (ix3 e t n) = ∑ f, h (ix3 e t f) * w (ix3 e f n) := by
  pointwise [back]

theorem gated_apply (g : FVec Ideal S32768x128 .f32) (y : FVec Ideal S16x32768x1024 .f32) (t : Fin 32768) (n : Fin 1024) :
    gated g y (ix2 t n) = ∑ e : Fin 16, g (ix2 t ⟨e.val, by omega⟩) * y (ix3 e t n) := by
  pointwise [gated]

/-- The reference, row by row. -/
theorem result_apply (x : FVec Ideal S32768x1024 .f32) (w : FVec Ideal S32768x128 .f32) (g : FVec Ideal S1x1024 .f32)
    (a b : FVec Ideal S16x1024x256 .bf16) (d : FVec Ideal S16x256x1024 .bf16) (t : Fin 32768) (n : Fin 1024) :
    result x w g a b d (ix2 t n) = x (ix2 t n) + ∑ e : Fin 16, w (ix2 t ⟨e.val, by omega⟩)
      * ∑ f, hiddenLane (normed (fun c => x (ix2 t c)) (fun c => g (ix2 0 c))) (fun k f => a (ix3 e k f)) (fun k f => b (ix3 e k f)) f
        * d (ix3 e f n) := by
  unfold result hiddenLane
  show x (ix2 t n) + gated _ _ (ix2 t n) = _
  rw [gated_apply]
  simp only [back_apply, lanes_apply, into_apply, rows_apply]

theorem nonneg_mul_sum {ι : Type*} {w : EReal} (h : 0 ≤ w) (ht : w ≠ ⊤) (s : Finset ι) (y : ι → EReal) :
    w * ∑ i ∈ s, y i = ∑ i ∈ s, w * y i := by
  classical
  induction s using Finset.induction_on with
  | empty => simp
  | insert a s ha ih => rw [Finset.sum_insert ha, Finset.sum_insert ha, EReal.left_distrib_of_nonneg_of_ne_top h ht, ih]

/-- Where no gate but those of group `γ` counts, and those are real and at least zero, four experts are left. -/
theorem four_of_sixteen (W : Fin 16 → EReal) (γ : Fin 4) (h0 : ∀ e : Fin 16, W e = 0 ∨ e.val / 4 = γ.val)
    (hr : ∀ e, 0 ≤ W e ∧ W e < ⊤) (H : Fin 16 → Fin 256 → EReal) (D : Fin 16 → Fin 256 → EReal) :
    ∑ e : Fin 16, W e * ∑ f, H e f * D e f
      = ∑ r : Fin 4, ∑ f, H (expertOf γ r) f * W (expertOf γ r) * D (expertOf γ r) f := by
  have hs : ∀ e : Fin 16, W e * ∑ f, H e f * D e f = ∑ f, H e f * W e * D e f := by
    intro e
    rw [nonneg_mul_sum (hr e).1 (ne_of_lt (hr e).2)]
    refine Finset.sum_congr rfl fun f _ => ?_
    rw [← mul_assoc, mul_comm (W e)]
  rw [Finset.sum_congr rfl fun e _ => hs e]
  refine (Finset.sum_subset (s₁ := Finset.univ.image (expertOf γ)) (Finset.subset_univ _) ?_).symm.trans ?_
  · intro e _ he
    rcases h0 e with h | h
    · simp [h]
    · exact absurd (Finset.mem_image.2 ⟨⟨e.val % 4, by omega⟩, Finset.mem_univ _, Fin.ext (by show 4 * γ.val + e.val % 4 = e.val; omega)⟩) he
  · exact Finset.sum_image fun r _ s _ h => Fin.ext (by have := congrArg Fin.val h; simp only [expertOf] at this; omega)

end Cert.MoeRef
-- ==== Proof.MoeRouted.lean ====
/-
  What the precondition of the routed experts says: every row names one of four groups, its gates are finite and not negative,
  and none counts but those of its group.
-/
module

public import proofs.«01_k».proof.Proof.Finite
public import proofs.«01_k».proof.Proof.MoeTile
public import proofs.«01_k».proof.Proof.Gen.Pre_routed

@[expose] public section

noncomputable section

namespace Cert.MoeRouted

open Cert.Pre_routed Cert.Pre_routed.Gen Idealize.ShloMosaic Cert.Finite

theorem ori_one (a b : BitVec 1) (h : IntOp.ori a b = 1#1) : a = 1#1 ∨ b = 1#1 := by
  revert a b
  decide

theorem quarter (e : Fin 16) : fn_floor_divide (F := Ideal) (iotaInDim S16 32 0) (constantI S_ 32 4#32) (ix1 e) = BitVec.ofNat 32 (e.val / 4) := by
  fin_cases e <;> rfl

theorem eq_of_oeq {a b : EReal} (h : Ideal.cmp .oeq a b = 1#1) : a = b := by
  by_contra hn
  unfold Ideal.cmp at h
  simp [hn] at h

theorem le_of_oge {a b : EReal} (h : Ideal.cmp .oge a b = 1#1) : b ≤ a := by
  by_contra hn
  unfold Ideal.cmp at h
  simp [hn] at h

theorem lt_of_olt {a b : EReal} (h : Ideal.cmp .olt a b = 1#1) : a < b := by
  by_contra hn
  unfold Ideal.cmp at h
  simp [hn] at h

theorem zero_f32 : Ideal.ofBits .f32 0x00000000#32 = 0 := by simp [Ideal.ofBits, Ideal.ieee]

theorem one_f32 : Ideal.ofBits .f32 0x3F800000#32 = 1 := by
  simp [Ideal.ofBits, Ideal.ieee]
  rw [← EReal.coe_mul, ← EReal.coe_one]
  norm_num

theorem two_f32 : Ideal.ofBits .f32 0x40000000#32 = ((2 : ℝ) : EReal) := by
  simp [Ideal.ofBits, Ideal.ieee]
  rw [← EReal.coe_mul]
  norm_num

theorem three_f32 : Ideal.ofBits .f32 0x40400000#32 = ((3 : ℝ) : EReal) := by
  simp [Ideal.ofBits, Ideal.ieee]
  rw [← EReal.coe_mul]
  norm_num

variable (w : FVec Ideal S32768x128 .f32)

theorem lane (t : Fin 32768) (e : Fin 16) : extractStridedSlice S32768x16 ![0, 0] w slices_S32768x128_S32768x16_0_0 (ix2 t e)
    = w (ix2 t ⟨e.val, by omega⟩) := by
  pointwise []

theorem lane16 (t : Fin 32768) (z : Fin 1) : extractStridedSlice S32768x1 ![0, 16] w slices_S32768x128_S32768x1_0_16 (ix2 t z)
    = w (ix2 t 16) := by
  obtain rfl : z = 0 := Subsingleton.elim _ _
  pointwise []

/-- The one entry of a lane of groups. -/
theorem group_of {x : EReal} (h : IntOp.ori (IntOp.ori (IntOp.ori (Ideal.cmp .oeq x (Ideal.ofBits .f32 0x00000000#32))
    (Ideal.cmp .oeq x (Ideal.ofBits .f32 0x3F800000#32))) (Ideal.cmp .oeq x (Ideal.ofBits .f32 0x40000000#32)))
    (Ideal.cmp .oeq x (Ideal.ofBits .f32 0x40400000#32)) = 1#1) : ∃ γ : Fin 4, ((γ.val : ℕ) : EReal) = x := by
  rw [zero_f32, one_f32, two_f32, three_f32] at h
  rcases ori_one _ _ h with h | h
  · rcases ori_one _ _ h with h | h
    · rcases ori_one _ _ h with h | h
      · exact ⟨0, by rw [eq_of_oeq h]; simp⟩
      · exact ⟨1, by rw [eq_of_oeq h]; simp⟩
    · exact ⟨2, by rw [eq_of_oeq h]; rfl⟩
  · exact ⟨3, by rw [eq_of_oeq h]; rfl⟩

theorem of_routed (x : FVec Ideal S32768x1024 .f32) (g : FVec Ideal S1x1024 .f32)
    (a b : FVec Ideal S16x1024x256 .bf16) (d : FVec Ideal S16x256x1024 .bf16) (h : fn (F := Ideal) x w g a b d = fun _ => 1#1) :
    ∃ γ : Fin 32768 → Fin 4, (∀ t, (((γ t).val : ℕ) : EReal) = w (ix2 t 16))
      ∧ (∀ t (e : Fin 16), 0 ≤ w (ix2 t ⟨e.val, by omega⟩) ∧ w (ix2 t ⟨e.val, by omega⟩) < ⊤)
      ∧ ∀ t (e : Fin 16), w (ix2 t ⟨e.val, by omega⟩) = 0 ∨ e.val / 4 = (γ t).val := by
  dsimp only [fn, fn_part1] at h
  have h := congrFun h (Shape.Idx.first h_S_)
  obtain ⟨h1, h2⟩ := andi_one h
  obtain ⟨hg, hw⟩ := andi_one h1
  have hgroup : ∀ t : Fin 32768, ∃ γ : Fin 4, ((γ.val : ℕ) : EReal) = w (ix2 t 16) := by
    intro t
    refine group_of ?_
    rw [← lane16 w t 0]
    exact Host.reduce_andi_all _ _ _ _ _ hg (ix2 t 0)
  choose γ hγ using hgroup
  refine ⟨γ, hγ, fun t e => ?_, fun t e => ?_⟩
  · obtain ⟨ha, hb⟩ := andi_one (Host.reduce_andi_all _ _ _ _ _ hw (ix2 t e))
    have ha := le_of_oge ha
    have hb := lt_of_olt hb
    rw [← lane w t e]
    exact ⟨zero_f32 ▸ ha, top_f32 ▸ hb⟩
  · rcases ori_one _ _ (Host.reduce_andi_all _ _ _ _ _ h2 (ix2 t e)) with hz | hz
    · left
      rw [← lane w t e, ← zero_f32]
      exact eq_of_oeq hz
    · right
      have hz := eq_of_oeq hz
      have hl : broadcastInDim S32768x16 ![0, 1] bcast_S1x16_S32768x16_0_1 (broadcastInDim S1x16 ![1] bcast_S16_S1x16_1
          (sitofp (F := Ideal) .f32 (fn_floor_divide (F := Ideal) (iotaInDim S16 32 0) (constantI S_ 32 4#32)))) (ix2 t e)
          = ((e.val / 4 : ℕ) : EReal) := by
        have hq := quarter e
        generalize fn_floor_divide (F := Ideal) (iotaInDim S16 32 0) (constantI S_ 32 4#32) = v at hq ⊢
        pointwise []
        rw [hq, MoeTile.sitofp_small _ (by omega)]
      have hr : broadcastInDim S32768x16 ![0, 1] bcast_S32768x1_S32768x16_0_1
          (extractStridedSlice S32768x1 ![0, 16] w slices_S32768x128_S32768x1_0_16) (ix2 t e) = w (ix2 t 16) := by
        pointwise []
      have hz := hl.symm.trans (hz.trans (hr.trans (hγ t).symm))
      exact_mod_cast hz

end Cert.MoeRouted
-- ==== Proof.MoeEq.lean ====
/-
  The routed experts' call and its reference are one array: of the sixteen experts only the four of a row's group carry a gate.
-/
module

public import proofs.«01_k».proof.Proof.MoeArray
public import proofs.«01_k».proof.Proof.MoeRef
public import proofs.«01_k».proof.Proof.MoeRouted

@[expose] public section

noncomputable section

namespace Cert.MoeEq

open Idealize.ShloMosaic Idealize.ShloMosaic.TcCoe Cert.Moe Cert.MoeTile

theorem sub_self_of_finite {x : EReal} (h : 0 ≤ x ∧ x < ⊤) : x - x = 0 := by
  induction x using EReal.rec with
  | bot => exact absurd h.1 (by simp)
  | coe r => rw [← EReal.coe_sub, sub_self, EReal.coe_zero]
  | top => exact absurd h.2 (lt_irrefl _)

/-- A row over all sixteen experts is the row over the four of its group. -/
theorem row_eq (X G : Fin 1024 → EReal) (W : Fin 128 → EReal) (A B : Fin 16 → Fin 1024 → Fin 256 → EReal)
    (D : Fin 16 → Fin 256 → Fin 1024 → EReal) (γ : Fin 4) (n : Fin 1024)
    (hr : ∀ e : Fin 16, 0 ≤ W ⟨e.val, by omega⟩ ∧ W ⟨e.val, by omega⟩ < ⊤)
    (h0 : ∀ e : Fin 16, W ⟨e.val, by omega⟩ = 0 ∨ e.val / 4 = γ.val) :
    X n + ∑ e : Fin 16, W ⟨e.val, by omega⟩ * ∑ f, hiddenLane (Merge.normed X G) (A e) (B e) f * D e f n
      = routedRow X G W A B D γ n := by
  unfold routedRow fourExperts
  exact congrArg (X n + ·) (Cert.MoeRef.four_of_sixteen (fun e => W ⟨e.val, by omega⟩) γ h0 hr
    (fun e f => hiddenLane (Merge.normed X G) (A e) (B e) f) (fun e f => D e f n))

theorem moe_eq (m : (ℓ : Loc Cert.MoeIdeal.nD Cert.MoeIdeal.τ Cert.MoeIdeal.sig) → Buf (Elt Ideal) ℓ) (c : Dev Cert.MoeIdeal.nD)
    (h : Cert.Pre_routed.fn (F := Ideal) (m ((c : Thread Cert.MoeIdeal.nD Cert.MoeIdeal.τ).loc Cert.MoeIdeal.main_arg0))
      (m ((c : Thread Cert.MoeIdeal.nD Cert.MoeIdeal.τ).loc Cert.MoeIdeal.main_arg1))
      (m ((c : Thread Cert.MoeIdeal.nD Cert.MoeIdeal.τ).loc Cert.MoeIdeal.main_arg2))
      (m ((c : Thread Cert.MoeIdeal.nD Cert.MoeIdeal.τ).loc Cert.MoeIdeal.main_arg3))
      (m ((c : Thread Cert.MoeIdeal.nD Cert.MoeIdeal.τ).loc Cert.MoeIdeal.main_arg4))
      (m ((c : Thread Cert.MoeIdeal.nD Cert.MoeIdeal.τ).loc Cert.MoeIdeal.main_arg5)) = fun _ => 1#1) :
    Cert.MoeRef.result (m ((c : Thread Cert.MoeIdeal.nD Cert.MoeIdeal.τ).loc Cert.MoeIdeal.main_arg0))
      (m ((c : Thread Cert.MoeIdeal.nD Cert.MoeIdeal.τ).loc Cert.MoeIdeal.main_arg1))
      (m ((c : Thread Cert.MoeIdeal.nD Cert.MoeIdeal.τ).loc Cert.MoeIdeal.main_arg2))
      (m ((c : Thread Cert.MoeIdeal.nD Cert.MoeIdeal.τ).loc Cert.MoeIdeal.main_arg3))
      (m ((c : Thread Cert.MoeIdeal.nD Cert.MoeIdeal.τ).loc Cert.MoeIdeal.main_arg4))
      (m ((c : Thread Cert.MoeIdeal.nD Cert.MoeIdeal.τ).loc Cert.MoeIdeal.main_arg5))
      = (Cert.MoeIdeal.Body.dats m (Cert.MoeIdeal.Body.allFit m) 0 c).arrAt 8 Cert.MoeIdeal.cfg0.N := by
  obtain ⟨γ, hγ, hr, h0⟩ := Cert.MoeRouted.of_routed _ _ _ _ _ _ h
  rw [array_eq m c γ hγ fun t r => sub_self_of_finite (hr t (expertOf (γ t) r))]
  funext i
  obtain ⟨t, n, rfl⟩ : ∃ t n, i = ix2 (n0 := 32768) (n1 := 1024) t n := ⟨i 0, i 1, eq_ix2 i⟩
  refine (Cert.MoeRef.result_apply ..).trans ?_
  exact row_eq (fun k => m ((c : Thread Cert.MoeIdeal.nD Cert.MoeIdeal.τ).loc Cert.MoeIdeal.main_arg0) (ix2 (n0 := 32768) (n1 := 1024) t k))
    (fun k => m ((c : Thread Cert.MoeIdeal.nD Cert.MoeIdeal.τ).loc Cert.MoeIdeal.main_arg2) (ix2 (n0 := 1) (n1 := 1024) 0 k))
    (fun l => m ((c : Thread Cert.MoeIdeal.nD Cert.MoeIdeal.τ).loc Cert.MoeIdeal.main_arg1) (ix2 (n0 := 32768) (n1 := 128) t l))
    (fun e k f => m ((c : Thread Cert.MoeIdeal.nD Cert.MoeIdeal.τ).loc Cert.MoeIdeal.main_arg3) (ix3 (n0 := 16) (n1 := 1024) (n2 := 256) e k f))
    (fun e k f => m ((c : Thread Cert.MoeIdeal.nD Cert.MoeIdeal.τ).loc Cert.MoeIdeal.main_arg4) (ix3 (n0 := 16) (n1 := 1024) (n2 := 256) e k f))
    (fun e f n => m ((c : Thread Cert.MoeIdeal.nD Cert.MoeIdeal.τ).loc Cert.MoeIdeal.main_arg5) (ix3 (n0 := 16) (n1 := 256) (n2 := 1024) e f n)) (γ t) n (hr t) (h0 t)

end Cert.MoeEq
-- ==== Proof.lean ====
/-
  The claims, put together, for the latent attention, the merge and the forgetting attention: the frames of the kernel, of
  its idealized form and of the reference, and the equality of the kernel's result array with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite_qk
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Fox.Frame
public import proofs.«01_k».proof.Proof.Gen.FoxIdeal.Frame
public import proofs.«01_k».proof.Proof.Gen.FoxIdeal.Value
public import proofs.«01_k».proof.Proof.Gen.FoxRefIdeal.Run
public import proofs.«01_k».proof.Proof.Gen.MoeIdeal.Frame
public import proofs.«01_k».proof.Proof.Gen.MoeIdeal.Loops
public import proofs.«01_k».proof.Proof.Gen.MoeRefIdeal.Run
public import proofs.«01_k».proof.Proof.Gen.Pre_routed
public import proofs.«01_k».proof.Proof.Gen.Pre_finite_fox
public import proofs.«01_k».proof.Proof.Finite
public import proofs.«01_k».proof.Proof.MergeArray
public import proofs.«01_k».proof.Proof.MergeRef
public import proofs.«01_k».proof.Proof.FoxEq
public import proofs.«01_k».proof.Proof.FoxFinite
public import proofs.«01_k».proof.Proof.MoeEq
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite_qk := fun m ρ _ => Cert.KernelIdeal.Gen.frame m ρ

/-- The reference has no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_pre : Cert.quiescent_ReferenceIdeal_pre_finite_qk := fun m ρ _ => frame_ref m ρ trivial

/-- The two results are one array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite_qk m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Value.res_main_v48 m' c = (Cert.KernelIdeal.Gen.dats m 0 c).arrAt 3 Cert.KernelIdeal.cfg0.N := by
  obtain ⟨hq, hk⟩ := Cert.Finite.real_of_finite _ _ _ (hpre c)
  rw [Cert.MlaRef.result_eq, Cert.Mla.array_eq, h0, h1, h2]
  funext i
  obtain ⟨g, b, R, e, rfl⟩ : ∃ g b R e, i = ix4 (n0 := 4) (n1 := 16) (n2 := 2048) (n3 := 128) g b R e :=
    ⟨i 0, i 1, i 2, i 3, eq_ix4 i⟩
  exact Cert.MlaRef.ref_eq _ _ _ hq hk g b R e

theorem algebraic : Cert.algebraic_KernelIdeal_ReferenceIdeal_pre_finite_qk := fun m ρ m' ρ' hpre hargs =>
  ⟨fun c => (Cert.KernelIdeal.Gen.dats m 0 c).arrAt 3 Cert.KernelIdeal.cfg0.N,
    Cert.KernelIdeal.Value.run_blocks m ρ,
    (θ_run Cert.ReferenceIdeal.defs _ _).mono
      (fun _ h c => ⟨(h c).1.trans (result_eq m m' hpre c (hargs c).1 (hargs c).2.1 (hargs c).2.2), (h c).2⟩)
      (Cert.ReferenceIdeal.Value.run m' ρ')⟩

/-! ## The merge -/

theorem frame_merge : Cert.quiescent_Merge := fun m ρ _ => Cert.Merge.Gen.frame m ρ

theorem frame_merge_ideal : Cert.quiescent_MergeIdeal := fun m ρ _ => Cert.MergeIdeal.Gen.frame m ρ

/-- The reference has no semaphore. -/
theorem frame_merge_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The two results are one array. -/
theorem merge_eq (m : (ℓ : Loc Cert.MergeIdeal.nD Cert.MergeIdeal.τ Cert.MergeIdeal.sig) → Buf (Elt Ideal) ℓ)
    (m' : (ℓ : Loc Cert.MergeRefIdeal.nD Cert.MergeRefIdeal.τ Cert.MergeRefIdeal.sig) → Buf (Elt Ideal) ℓ)
    (c : Dev Cert.MergeIdeal.nD)
    (h0 : m' ((c.tc : Thread Cert.MergeRefIdeal.nD Cert.MergeRefIdeal.τ).loc Cert.MergeRefIdeal.main_arg0)
      = m ((c.tc : Thread Cert.MergeIdeal.nD Cert.MergeIdeal.τ).loc Cert.MergeIdeal.main_arg0))
    (h1 : m' ((c.tc : Thread Cert.MergeRefIdeal.nD Cert.MergeRefIdeal.τ).loc Cert.MergeRefIdeal.main_arg1)
      = m ((c.tc : Thread Cert.MergeIdeal.nD Cert.MergeIdeal.τ).loc Cert.MergeIdeal.main_arg1))
    (h2 : m' ((c.tc : Thread Cert.MergeRefIdeal.nD Cert.MergeRefIdeal.τ).loc Cert.MergeRefIdeal.main_arg2)
      = m ((c.tc : Thread Cert.MergeIdeal.nD Cert.MergeIdeal.τ).loc Cert.MergeIdeal.main_arg2))
    (h3 : m' ((c.tc : Thread Cert.MergeRefIdeal.nD Cert.MergeRefIdeal.τ).loc Cert.MergeRefIdeal.main_arg3)
      = m ((c.tc : Thread Cert.MergeIdeal.nD Cert.MergeIdeal.τ).loc Cert.MergeIdeal.main_arg3))
    (h4 : m' ((c.tc : Thread Cert.MergeRefIdeal.nD Cert.MergeRefIdeal.τ).loc Cert.MergeRefIdeal.main_arg4)
      = m ((c.tc : Thread Cert.MergeIdeal.nD Cert.MergeIdeal.τ).loc Cert.MergeIdeal.main_arg4))
    (h5 : m' ((c.tc : Thread Cert.MergeRefIdeal.nD Cert.MergeRefIdeal.τ).loc Cert.MergeRefIdeal.main_arg5)
      = m ((c.tc : Thread Cert.MergeIdeal.nD Cert.MergeIdeal.τ).loc Cert.MergeIdeal.main_arg5))
    (h6 : m' ((c.tc : Thread Cert.MergeRefIdeal.nD Cert.MergeRefIdeal.τ).loc Cert.MergeRefIdeal.main_arg6)
      = m ((c.tc : Thread Cert.MergeIdeal.nD Cert.MergeIdeal.τ).loc Cert.MergeIdeal.main_arg6))
    (h7 : m' ((c.tc : Thread Cert.MergeRefIdeal.nD Cert.MergeRefIdeal.τ).loc Cert.MergeRefIdeal.main_arg7)
      = m ((c.tc : Thread Cert.MergeIdeal.nD Cert.MergeIdeal.τ).loc Cert.MergeIdeal.main_arg7)) :
    Cert.MergeRef.result (m' ((c.tc : Thread Cert.MergeRefIdeal.nD Cert.MergeRefIdeal.τ).loc Cert.MergeRefIdeal.main_arg0))
      (m' ((c.tc : Thread Cert.MergeRefIdeal.nD Cert.MergeRefIdeal.τ).loc Cert.MergeRefIdeal.main_arg1))
      (m' ((c.tc : Thread Cert.MergeRefIdeal.nD Cert.MergeRefIdeal.τ).loc Cert.MergeRefIdeal.main_arg2))
      (m' ((c.tc : Thread Cert.MergeRefIdeal.nD Cert.MergeRefIdeal.τ).loc Cert.MergeRefIdeal.main_arg3))
      (m' ((c.tc : Thread Cert.MergeRefIdeal.nD Cert.MergeRefIdeal.τ).loc Cert.MergeRefIdeal.main_arg4))
      (m' ((c.tc : Thread Cert.MergeRefIdeal.nD Cert.MergeRefIdeal.τ).loc Cert.MergeRefIdeal.main_arg5))
      (m' ((c.tc : Thread Cert.MergeRefIdeal.nD Cert.MergeRefIdeal.τ).loc Cert.MergeRefIdeal.main_arg6))
      (m' ((c.tc : Thread Cert.MergeRefIdeal.nD Cert.MergeRefIdeal.τ).loc Cert.MergeRefIdeal.main_arg7))
      = (Cert.MergeIdeal.Gen.dats m 0 c).arrAt 11 Cert.MergeIdeal.cfg0.N := by
  rw [Cert.MergeTile.array_eq, h0, h1, h2, h3, h4, h5, h6, h7]
  funext i
  obtain ⟨r, n, rfl⟩ : ∃ r n, i = ix2 (n0 := 32768) (n1 := 1024) r n := ⟨i 0, i 1, eq_ix2 i⟩
  exact Cert.MergeRef.result_apply ..

theorem merge_algebraic : Cert.algebraic_MergeIdeal_MergeRefIdeal := fun m ρ m' ρ' _ hargs =>
  ⟨fun c => (Cert.MergeIdeal.Gen.dats m 0 c).arrAt 11 Cert.MergeIdeal.cfg0.N,
    (θ_run Cert.MergeIdeal.defs _ _).mono (fun _ h c => ⟨(h c).1, (h c).2.2⟩) (Cert.MergeIdeal.Value.run_blocks m ρ),
    (θ_run Cert.MergeRefIdeal.defs _ _).mono
      (fun _ h c => ⟨by
        obtain ⟨h0, h1, h2, h3, h4, h5, h6, h7, _⟩ := hargs c
        exact (h c).1.trans (merge_eq m m' c h0 h1 h2 h3 h4 h5 h6 h7), (h c).2⟩)
      (Cert.MergeRefIdeal.Value.run m' ρ')⟩

/-! ## The forgetting attention -/

theorem frame_fox : Cert.quiescent_Fox := fun m ρ _ => Cert.Fox.Gen.frame m ρ

theorem frame_fox_ideal : Cert.quiescent_FoxIdeal := fun m ρ _ => Cert.FoxIdeal.Gen.frame m ρ

theorem frame_fox_ideal_pre : Cert.quiescent_FoxIdeal_pre_finite_fox := fun m ρ _ => Cert.FoxIdeal.Gen.frame m ρ

/-- The reference has no semaphore. -/
theorem frame_fox_ref : Cert.quiescent_FoxRefIdeal := fun m ρ _ =>
  (θ_run Cert.FoxRefIdeal.defs _ _).mono (fun r h => ⟨fun c => (h c).2, sem_eq_zero_of_no_sems (by decide) r.2⟩)
    (Cert.FoxRefIdeal.Value.run (F := Ideal) m ρ)

theorem frame_fox_ref_pre : Cert.quiescent_FoxRefIdeal_pre_finite_fox := fun m ρ _ => frame_fox_ref m ρ trivial

/-- The constant the kernel multiplies by carries the name of the binary logarithm of e. -/
theorem fox_preserves : Cert.preserves_Fox_FoxIdeal :=
  IdealRules.named_const.statement Cert.FoxIdeal.κ "log2e" .f32 0x3FB8AA3B#32 (((Real.log 2)⁻¹ : ℝ) : EReal) rfl

theorem lg_eq : Cert.FoxTile.lg (F := Ideal) = (((Real.log 2)⁻¹ : ℝ) : EReal) :=
  IdealRules.named_const.ideal_named_scalar _ _ _ _ rfl

/-- The two results are one array. -/
theorem fox_eq (m : (ℓ : Loc Cert.FoxIdeal.nD Cert.FoxIdeal.τ Cert.FoxIdeal.sig) → Buf (Elt Ideal) ℓ)
    (m' : (ℓ : Loc Cert.FoxRefIdeal.nD Cert.FoxRefIdeal.τ Cert.FoxRefIdeal.sig) → Buf (Elt Ideal) ℓ)
    (hpre : Cert.Pre_FoxIdeal_finite_fox m) (c : Dev Cert.FoxIdeal.nD)
    (h0 : m' ((c.tc : Thread Cert.FoxRefIdeal.nD Cert.FoxRefIdeal.τ).loc Cert.FoxRefIdeal.main_arg0)
      = m ((c.tc : Thread Cert.FoxIdeal.nD Cert.FoxIdeal.τ).loc Cert.FoxIdeal.main_arg0))
    (h1 : m' ((c.tc : Thread Cert.FoxRefIdeal.nD Cert.FoxRefIdeal.τ).loc Cert.FoxRefIdeal.main_arg1)
      = m ((c.tc : Thread Cert.FoxIdeal.nD Cert.FoxIdeal.τ).loc Cert.FoxIdeal.main_arg1))
    (h2 : m' ((c.tc : Thread Cert.FoxRefIdeal.nD Cert.FoxRefIdeal.τ).loc Cert.FoxRefIdeal.main_arg2)
      = m ((c.tc : Thread Cert.FoxIdeal.nD Cert.FoxIdeal.τ).loc Cert.FoxIdeal.main_arg2))
    (h3 : m' ((c.tc : Thread Cert.FoxRefIdeal.nD Cert.FoxRefIdeal.τ).loc Cert.FoxRefIdeal.main_arg3)
      = m ((c.tc : Thread Cert.FoxIdeal.nD Cert.FoxIdeal.τ).loc Cert.FoxIdeal.main_arg3))
    (h4 : m' ((c.tc : Thread Cert.FoxRefIdeal.nD Cert.FoxRefIdeal.τ).loc Cert.FoxRefIdeal.main_arg4)
      = m ((c.tc : Thread Cert.FoxIdeal.nD Cert.FoxIdeal.τ).loc Cert.FoxIdeal.main_arg4)) :
    Cert.FoxRefIdeal.Value.res_main_v48 m' c = (Cert.FoxIdeal.Gen.dats m 0 c).arrAt 5 Cert.FoxIdeal.cfg0.N := by
  obtain ⟨hq, hk, hr, hc⟩ := Cert.FoxFinite.real_of_finite _ _ _ _ _ (hpre c)
  rw [Cert.FoxRef.result_eq, Cert.FoxTile.array_eq, h0, h1, h2, h3, h4, lg_eq]
  funext i
  obtain ⟨g, b, R, e, rfl⟩ : ∃ g b R e, i = ix4 (n0 := 4) (n1 := 16) (n2 := 2048) (n3 := 128) g b R e :=
    ⟨i 0, i 1, i 2, i 3, eq_ix4 i⟩
  exact Cert.FoxRef.ref_eq _ _ _ _ _ hq hk hr hc g b R e

theorem fox_algebraic : Cert.algebraic_FoxIdeal_FoxRefIdeal_pre_finite_fox := fun m ρ m' ρ' hpre hargs =>
  ⟨fun c => (Cert.FoxIdeal.Gen.dats m 0 c).arrAt 5 Cert.FoxIdeal.cfg0.N,
    Cert.FoxIdeal.Value.run_blocks m ρ,
    (θ_run Cert.FoxRefIdeal.defs _ _).mono
      (fun _ h c => ⟨by
        obtain ⟨h0, h1, h2, h3, h4⟩ := hargs c
        exact (h c).1.trans (fox_eq m m' hpre c h0 h1 h2 h3 h4), (h c).2⟩)
      (Cert.FoxRefIdeal.Value.run m' ρ')⟩

theorem frame_moe_ideal : Cert.quiescent_MoeIdeal := fun m ρ _ => Cert.MoeIdeal.Body.frame m ρ (Cert.MoeIdeal.Body.allFit m)

theorem frame_moe_ideal_pre : Cert.quiescent_MoeIdeal_pre_routed := fun m ρ _ => frame_moe_ideal m ρ trivial

theorem frame_moe_ref : Cert.quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

theorem frame_moe_ref_pre : Cert.quiescent_MoeRefIdeal_pre_routed := fun m ρ _ => frame_moe_ref m ρ trivial

/-- The two results are one array. -/
theorem moe_eq (m : (ℓ : Loc Cert.MoeIdeal.nD Cert.MoeIdeal.τ Cert.MoeIdeal.sig) → Buf (Elt Ideal) ℓ)
    (m' : (ℓ : Loc Cert.MoeRefIdeal.nD Cert.MoeRefIdeal.τ Cert.MoeRefIdeal.sig) → Buf (Elt Ideal) ℓ)
    (hpre : Cert.Pre_MoeIdeal_routed m) (c : Dev Cert.MoeIdeal.nD)
    (h0 : m' ((c.tc : Thread Cert.MoeRefIdeal.nD Cert.MoeRefIdeal.τ).loc Cert.MoeRefIdeal.main_arg0)
      = m ((c.tc : Thread Cert.MoeIdeal.nD Cert.MoeIdeal.τ).loc Cert.MoeIdeal.main_arg0))
    (h1 : m' ((c.tc : Thread Cert.MoeRefIdeal.nD Cert.MoeRefIdeal.τ).loc Cert.MoeRefIdeal.main_arg1)
      = m ((c.tc : Thread Cert.MoeIdeal.nD Cert.MoeIdeal.τ).loc Cert.MoeIdeal.main_arg1))
    (h2 : m' ((c.tc : Thread Cert.MoeRefIdeal.nD Cert.MoeRefIdeal.τ).loc Cert.MoeRefIdeal.main_arg2)
      = m ((c.tc : Thread Cert.MoeIdeal.nD Cert.MoeIdeal.τ).loc Cert.MoeIdeal.main_arg2))
    (h3 : m' ((c.tc : Thread Cert.MoeRefIdeal.nD Cert.MoeRefIdeal.τ).loc Cert.MoeRefIdeal.main_arg3)
      = m ((c.tc : Thread Cert.MoeIdeal.nD Cert.MoeIdeal.τ).loc Cert.MoeIdeal.main_arg3))
    (h4 : m' ((c.tc : Thread Cert.MoeRefIdeal.nD Cert.MoeRefIdeal.τ).loc Cert.MoeRefIdeal.main_arg4)
      = m ((c.tc : Thread Cert.MoeIdeal.nD Cert.MoeIdeal.τ).loc Cert.MoeIdeal.main_arg4))
    (h5 : m' ((c.tc : Thread Cert.MoeRefIdeal.nD Cert.MoeRefIdeal.τ).loc Cert.MoeRefIdeal.main_arg5)
      = m ((c.tc : Thread Cert.MoeIdeal.nD Cert.MoeIdeal.τ).loc Cert.MoeIdeal.main_arg5)) :
    Cert.MoeRef.result (m' ((c.tc : Thread Cert.MoeRefIdeal.nD Cert.MoeRefIdeal.τ).loc Cert.MoeRefIdeal.main_arg0)) (m' ((c.tc : Thread Cert.MoeRefIdeal.nD Cert.MoeRefIdeal.τ).loc Cert.MoeRefIdeal.main_arg1))
      (m' ((c.tc : Thread Cert.MoeRefIdeal.nD Cert.MoeRefIdeal.τ).loc Cert.MoeRefIdeal.main_arg2)) (m' ((c.tc : Thread Cert.MoeRefIdeal.nD Cert.MoeRefIdeal.τ).loc Cert.MoeRefIdeal.main_arg3))
      (m' ((c.tc : Thread Cert.MoeRefIdeal.nD Cert.MoeRefIdeal.τ).loc Cert.MoeRefIdeal.main_arg4)) (m' ((c.tc : Thread Cert.MoeRefIdeal.nD Cert.MoeRefIdeal.τ).loc Cert.MoeRefIdeal.main_arg5))
      = (Cert.MoeIdeal.Body.dats m (Cert.MoeIdeal.Body.allFit m) 0 c).arrAt 8 Cert.MoeIdeal.cfg0.N := by
  rw [h0, h1, h2, h3, h4, h5]
  exact Cert.MoeEq.moe_eq m c (hpre c)

theorem moe_algebraic : Cert.algebraic_MoeIdeal_MoeRefIdeal_pre_routed := fun m ρ m' ρ' hpre hargs =>
  ⟨fun c => (Cert.MoeIdeal.Body.dats m (Cert.MoeIdeal.Body.allFit m) 0 c).arrAt 8 Cert.MoeIdeal.cfg0.N,
    Cert.MoeTile.run_blocks m ρ,
    (θ_run Cert.MoeRefIdeal.defs _ _).mono
      (fun _ h c => ⟨by
        obtain ⟨h0, h1, h2, h3, h4, h5⟩ := hargs c
        exact (h c).1.trans (moe_eq m m' hpre c h0 h1 h2 h3 h4 h5), (h c).2⟩)
      (Cert.MoeRefIdeal.Value.run m' ρ')⟩

theorem claim : Cert.Claim :=
  ⟨Cert.Kernel.Gen.facts, Cert.KernelIdeal.Gen.facts, Cert.ReferenceIdeal.Gen.facts, Cert.Merge.Gen.facts, Cert.MergeIdeal.Gen.facts,
    Cert.MergeRefIdeal.Gen.facts, Cert.Fox.Gen.facts, Cert.FoxIdeal.Gen.facts, Cert.FoxRefIdeal.Gen.facts,
    Cert.MoeIdeal.Gen.facts, Cert.MoeRefIdeal.Gen.facts,
    Cert.Pre_finite_qk.Gen.facts, Cert.Pre_finite_fox.Gen.facts, Cert.Pre_routed.Gen.facts,
    frame_kernel, frame_ideal, frame_ideal_pre, frame_ref, frame_ref_pre, frame_merge, frame_merge_ideal, frame_merge_ref,
    frame_fox, frame_fox_ideal, frame_fox_ideal_pre, frame_fox_ref, frame_fox_ref_pre,
    frame_moe_ideal, frame_moe_ideal_pre, frame_moe_ref, frame_moe_ref_pre,
    trivial, algebraic, trivial, merge_algebraic, fox_preserves, fox_algebraic, moe_algebraic⟩

end Cert.Proof

end
